-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x192x224x224 : Shape := ⟨4, ![2, 192, 224, 224]⟩
abbrev S16x192 : Shape := ⟨2, ![16, 192]⟩
abbrev S16 : Shape := ⟨1, ![16]⟩
abbrev S48x192 : Shape := ⟨2, ![48, 192]⟩
abbrev S192x192 : Shape := ⟨2, ![192, 192]⟩
abbrev S192 : Shape := ⟨1, ![192]⟩
abbrev S_ : Shape := ⟨0, ![]⟩

class Facts : Prop where
  bcast_S_S2x192x224x224 : S_.BroadcastsInDim S2x192x224x224 (![] : Fin 0 → Fin S2x192x224x224.rank)
  reducesTo_S2x192x224x224_S_d0_1_2_3 : S2x192x224x224.ReducesTo [0, 1, 2, 3] S_
  h_S_ : 0 < S_.numel
  bcast_S_S16x192 : S_.BroadcastsInDim S16x192 (![] : Fin 0 → Fin S16x192.rank)
  reducesTo_S16x192_S_d0_1 : S16x192.ReducesTo [0, 1] S_
  bcast_S_S16 : S_.BroadcastsInDim S16 (![] : Fin 0 → Fin S16.rank)
  reducesTo_S16_S_d0 : S16.ReducesTo [0] S_
  bcast_S_S48x192 : S_.BroadcastsInDim S48x192 (![] : Fin 0 → Fin S48x192.rank)
  reducesTo_S48x192_S_d0_1 : S48x192.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S192 .f32) (main_v29 : IVec S_ 1) (main_v32 : IVec S192x192 1) (main_c_12 : IVec S_ 1) : IVec S_ 1 :=
  let main_v33 : IVec S_ 1 := (fun x v => Host.reduce IntOp.andi x v reducesTo_S192x192_S_d0_1 h_S_) main_v32 main_c_12
  let main_v34 : IVec S_ 1 := andi main_v29 main_v33
  let main_v35 : FVec F S192 .f32 := Host.absf main_arg7
  let main_cst_13 : FVec F S_ .f32 := constant S_ .f32 0x7F800000#32
  let main_v36 : FVec F S192 .f32 := broadcastInDim S192 ![] bcast_S_S192 main_cst_13
  let main_v37 : IVec S192 1 := cmpf .olt main_v35 main_v36
  let main_c_14 : IVec S_ 1 := constantI S_ 1 1#1
  let main_v38 : IVec S_ 1 := (fun x v => Host.reduce IntOp.andi x v reducesTo_S192_S_d0 h_S_) main_v37 main_c_14
  let main_v39 : IVec S_ 1 := andi main_v34 main_v38
  main_v39

def fn_part1 {F : FTy → Type} [FloatOps F] (main_arg4 : FVec F S48x192 .f32) (main_arg5 : FVec F S192x192 .f32) (main_arg6 : FVec F S192x192 .f32) (main_arg7 : FVec F S192 .f32) (main_v14 : IVec S_ 1) (main_v15 : FVec F S48x192 .f32) (main_cst_5 : FVec F S_ .f32) : IVec S_ 1 :=
  let main_v16 : FVec F S48x192 .f32 := broadcastInDim S48x192 ![] bcast_S_S48x192 main_cst_5
  let main_v17 : IVec S48x192 1 := cmpf .olt main_v15 main_v16
  let main_c_6 : IVec S_ 1 := constantI S_ 1 1#1
  let main_v18 : IVec S_ 1 := (fun x v => Host.reduce IntOp.andi x v reducesTo_S48x192_S_d0_1 h_S_) main_v17 main_c_6
  let main_v19 : IVec S_ 1 := andi main_v14 main_v18
  let main_v20 : FVec F S48x192 .f32 := Host.absf main_arg4
  let main_cst_7 : FVec F S_ .f32 := constant S_ .f32 0x7F800000#32
  let main_v21 : FVec F S48x192 .f32 := broadcastInDim S48x192 ![] bcast_S_S48x192 main_cst_7
  let main_v22 : IVec S48x192 1 := cmpf .olt main_v20 main_v21
  let main_c_8 : IVec S_ 1 := constantI S_ 1 1#1
  let main_v23 : IVec S_ 1 := (fun x v => Host.reduce IntOp.andi x v reducesTo_S48x192_S_d0_1 h_S_) main_v22 main_c_8
  let main_v24 : IVec S_ 1 := andi main_v19 main_v23
  let main_v25 : FVec F S192x192 .f32 := Host.absf main_arg5
  let main_cst_9 : FVec F S_ .f32 := constant S_ .f32 0x7F800000#32
  let main_v26 : FVec F S192x192 .f32 := broadcastInDim S192x192 ![] bcast_S_S192x192 main_cst_9
  let main_v27 : IVec S192x192 1 := cmpf .olt main_v25 main_v26
  let main_c_10 : IVec S_ 1 := constantI S_ 1 1#1
  let main_v28 : IVec S_ 1 := (fun x v => Host.reduce IntOp.andi x v reducesTo_S192x192_S_d0_1 h_S_) main_v27 main_c_10
  let main_v29 : IVec S_ 1 := andi main_v24 main_v28
  let main_v30 : FVec F S192x192 .f32 := Host.absf main_arg6
  let main_cst_11 : FVec F S_ .f32 := constant S_ .f32 0x7F800000#32
  let main_v31 : FVec F S192x192 .f32 := broadcastInDim S192x192 ![] bcast_S_S192x192 main_cst_11
  let main_v32 : IVec S192x192 1 := cmpf .olt main_v30 main_v31
  let main_c_12 : IVec S_ 1 := constantI S_ 1 1#1
  fn_part2 (F := F) main_arg7 main_v29 main_v32 main_c_12

def fn {F : FTy → Type} [FloatOps F] (main_arg0 : FVec F S2x192x224x224 .f32) (main_arg1 : FVec F S16x192 .f32) (main_arg2 : FVec F S16 .f32) (main_arg3 : FVec F S48x192 .f32) (main_arg4 : FVec F S48x192 .f32) (main_arg5 : FVec F S192x192 .f32) (main_arg6 : FVec F S192x192 .f32) (main_arg7 : FVec F S192 .f32) (main_arg8 : FVec F S_ .f32) (main_arg9 : FVec F S192 .f32) (main_arg10 : FVec F S192 .f32) : IVec S_ 1 :=
  let main_v0 : FVec F S2x192x224x224 .f32 := Host.absf main_arg0
  let main_cst : FVec F S_ .f32 := constant S_ .f32 0x7F800000#32
  let main_v1 : FVec F S2x192x224x224 .f32 := broadcastInDim S2x192x224x224 ![] bcast_S_S2x192x224x224 main_cst
  let main_v2 : IVec S2x192x224x224 1 := cmpf .olt main_v0 main_v1
  let main_c : IVec S_ 1 := constantI S_ 1 1#1
  let main_v3 : IVec S_ 1 := (fun x v => Host.reduce IntOp.andi x v reducesTo_S2x192x224x224_S_d0_1_2_3 h_S_) main_v2 main_c
  let main_c_0 : IVec S_ 1 := constantI S_ 1 1#1
  let main_v4 : IVec S_ 1 := andi main_c_0 main_v3
  let main_v5 : FVec F S16x192 .f32 := Host.absf main_arg1
  let main_cst_1 : FVec F S_ .f32 := constant S_ .f32 0x7F800000#32
  let main_v6 : FVec F S16x192 .f32 := broadcastInDim S16x192 ![] bcast_S_S16x192 main_cst_1
  let main_v7 : IVec S16x192 1 := cmpf .olt main_v5 main_v6
  let main_c_2 : IVec S_ 1 := constantI S_ 1 1#1
  let main_v8 : IVec S_ 1 := (fun x v => Host.reduce IntOp.andi x v reducesTo_S16x192_S_d0_1 h_S_) main_v7 main_c_2
  let main_v9 : IVec S_ 1 := andi main_v4 main_v8
  let main_v10 : FVec F S16 .f32 := Host.absf main_arg2
  let main_cst_3 : FVec F S_ .f32 := constant S_ .f32 0x7F800000#32
  let main_v11 : FVec F S16 .f32 := broadcastInDim S16 ![] bcast_S_S16 main_cst_3
  let main_v12 : IVec S16 1 := cmpf .olt main_v10 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v9 main_v13
  let main_v15 : FVec F S48x192 .f32 := Host.absf main_arg3
  let main_cst_5 : FVec F S_ .f32 := constant S_ .f32 0x7F800000#32
  fn_part1 (F := F) main_arg4 main_arg5 main_arg6 main_arg7 main_v14 main_v15 main_cst_5
-- ==== Kernel.lean ====
abbrev S2x192x224x224 : Shape := ⟨4, ![2, 192, 224, 224]⟩
abbrev S16x192 : Shape := ⟨2, ![16, 192]⟩
abbrev S16 : Shape := ⟨1, ![16]⟩
abbrev S48x192 : Shape := ⟨2, ![48, 192]⟩
abbrev S192x192 : Shape := ⟨2, ![192, 192]⟩
abbrev S192 : Shape := ⟨1, ![192]⟩
abbrev S_ : Shape := ⟨0, ![]⟩
abbrev S1x16 : Shape := ⟨2, ![1, 16]⟩
abbrev S1x192 : Shape := ⟨2, ![1, 192]⟩
abbrev S1x1 : Shape := ⟨2, ![1, 1]⟩
abbrev S192x1 : Shape := ⟨2, ![192, 1]⟩
abbrev S2x192x3136 : Shape := ⟨3, ![2, 192, 3136]⟩
abbrev S1x32x224x224 : Shape := ⟨4, ![1, 32, 224, 224]⟩
abbrev S1x32x3136 : Shape := ⟨3, ![1, 32, 3136]⟩
abbrev S32x224x224 : Shape := ⟨3, ![32, 224, 224]⟩
abbrev S56x224 : Shape := ⟨2, ![56, 224]⟩
abbrev S7168x224 : Shape := ⟨2, ![7168, 224]⟩
abbrev S7168x56 : Shape := ⟨2, ![7168, 56]⟩
abbrev S32x224x56 : Shape := ⟨3, ![32, 224, 56]⟩
abbrev S224x32x56 : Shape := ⟨3, ![224, 32, 56]⟩
abbrev S224x1792 : Shape := ⟨2, ![224, 1792]⟩
abbrev S56x1792 : Shape := ⟨2, ![56, 1792]⟩
abbrev S56x32x56 : Shape := ⟨3, ![56, 32, 56]⟩
abbrev S32x56x56 : Shape := ⟨3, ![32, 56, 56]⟩
abbrev S32x3136 : Shape := ⟨2, ![32, 3136]⟩
abbrev S1x16x192 : Shape := ⟨3, ![1, 16, 192]⟩
abbrev S1x16x1 : Shape := ⟨3, ![1, 16, 1]⟩
abbrev S1x48x192 : Shape := ⟨3, ![1, 48, 192]⟩
abbrev S1x192x192 : Shape := ⟨3, ![1, 192, 192]⟩
abbrev S2x3136x48 : Shape := ⟨3, ![2, 3136, 48]⟩
abbrev S2x3136x192 : Shape := ⟨3, ![2, 3136, 192]⟩
abbrev S2x16x48 : Shape := ⟨3, ![2, 16, 48]⟩
abbrev S2x16x192 : Shape := ⟨3, ![2, 16, 192]⟩
abbrev S2x3136x16 : Shape := ⟨3, ![2, 3136, 16]⟩
abbrev S2x4096x48 : Shape := ⟨3, ![2, 4096, 48]⟩
abbrev S2x16x256 : Shape := ⟨3, ![2, 16, 256]⟩
abbrev S1x192x3136 : Shape := ⟨3, ![1, 192, 3136]⟩
abbrev S1x3136x48 : Shape := ⟨3, ![1, 3136, 48]⟩
abbrev S1x3136x192 : Shape := ⟨3, ![1, 3136, 192]⟩
abbrev S1x16x48 : Shape := ⟨3, ![1, 16, 48]⟩
abbrev S1x3136x16 : Shape := ⟨3, ![1, 3136, 16]⟩
abbrev S1x4096x48 : Shape := ⟨3, ![1, 4096, 48]⟩
abbrev S1x16x256 : Shape := ⟨3, ![1, 16, 256]⟩
abbrev S16x3136 : Shape := ⟨2, ![16, 3136]⟩
abbrev S16x256 : Shape := ⟨2, ![16, 256]⟩
abbrev S192x3136 : Shape := ⟨2, ![192, 3136]⟩
abbrev S16x1 : Shape := ⟨2, ![16, 1]⟩
abbrev S3136 : Shape := ⟨1, ![3136]⟩
abbrev S1x3136 : Shape := ⟨2, ![1, 3136]⟩
abbrev S3136x48 : Shape := ⟨2, ![3136, 48]⟩
abbrev S3136x192 : Shape := ⟨2, ![3136, 192]⟩
abbrev S16x48 : Shape := ⟨2, ![16, 48]⟩
abbrev S3136x16 : Shape := ⟨2, ![3136, 16]⟩
abbrev S3136x1 : Shape := ⟨2, ![3136, 1]⟩
abbrev S256x3136 : Shape := ⟨2, ![256, 3136]⟩
abbrev S1x256 : Shape := ⟨2, ![1, 256]⟩
abbrev S256x1 : Shape := ⟨2, ![256, 1]⟩
abbrev S256x48 : Shape := ⟨2, ![256, 48]⟩
abbrev S1x256x48 : Shape := ⟨3, ![1, 256, 48]⟩
abbrev S1x1x1 : Shape := ⟨3, ![1, 1, 1]⟩
abbrev S1x1x192 : Shape := ⟨3, ![1, 1, 192]⟩
abbrev S1x448x48 : Shape := ⟨3, ![1, 448, 48]⟩
abbrev S1x448x16 : Shape := ⟨3, ![1, 448, 16]⟩
abbrev S1x448x192 : Shape := ⟨3, ![1, 448, 192]⟩
abbrev S448x48 : Shape := ⟨2, ![448, 48]⟩
abbrev S448x16 : Shape := ⟨2, ![448, 16]⟩
abbrev S4096x48 : Shape := ⟨2, ![4096, 48]⟩
abbrev S448 : Shape := ⟨1, ![448]⟩
abbrev S448x1 : Shape := ⟨2, ![448, 1]⟩
abbrev S448x192 : Shape := ⟨2, ![448, 192]⟩
abbrev S448x4096 : Shape := ⟨2, ![448, 4096]⟩
abbrev S448x256 : Shape := ⟨2, ![448, 256]⟩
abbrev S448x8 : Shape := ⟨2, ![448, 8]⟩
abbrev S448x3136 : Shape := ⟨2, ![448, 3136]⟩
abbrev S1 : Shape := ⟨1, ![1]⟩
abbrev S2x56x10752 : Shape := ⟨3, ![2, 56, 10752]⟩
abbrev S1x56x10752 : Shape := ⟨3, ![1, 56, 10752]⟩
abbrev S192x56x56 : Shape := ⟨3, ![192, 56, 56]⟩
abbrev S56x192x56 : Shape := ⟨3, ![56, 192, 56]⟩
abbrev S56x10752 : Shape := ⟨2, ![56, 10752]⟩
abbrev S1x192x32x224 : Shape := ⟨4, ![1, 192, 32, 224]⟩
abbrev S224x56 : Shape := ⟨2, ![224, 56]⟩
abbrev S32x56 : Shape := ⟨2, ![32, 56]⟩
abbrev S32x10752 : Shape := ⟨2, ![32, 10752]⟩
abbrev S32x192x56 : Shape := ⟨3, ![32, 192, 56]⟩
abbrev S192x32x56 : Shape := ⟨3, ![192, 32, 56]⟩
abbrev S6144x56 : Shape := ⟨2, ![6144, 56]⟩
abbrev S6144x224 : Shape := ⟨2, ![6144, 224]⟩
abbrev S192x32x224 : Shape := ⟨3, ![192, 32, 224]⟩
abbrev S32x224 : Shape := ⟨2, ![32, 224]⟩
abbrev S1x32x224 : Shape := ⟨3, ![1, 32, 224]⟩
abbrev S192x1x1 : Shape := ⟨3, ![192, 1, 1]⟩

abbrev nBuf : Space → Nat
  | .hbm => 35
  | .vmem => 58
  | .smem => 0
  | _ => 0

abbrev bufTy : (tb : Table) → Fin (tcTables nBuf tb) → BufTy
  | .hbm, ⟨0, _⟩ => ⟨S2x192x224x224, .f32⟩
  | .hbm, ⟨1, _⟩ => ⟨S16x192, .f32⟩
  | .hbm, ⟨2, _⟩ => ⟨S16, .f32⟩
  | .hbm, ⟨3, _⟩ => ⟨S48x192, .f32⟩
  | .hbm, ⟨4, _⟩ => ⟨S48x192, .f32⟩
  | .hbm, ⟨5, _⟩ => ⟨S192x192, .f32⟩
  | .hbm, ⟨6, _⟩ => ⟨S192x192, .f32⟩
  | .hbm, ⟨7, _⟩ => ⟨S192, .f32⟩
  | .hbm, ⟨8, _⟩ => ⟨S_, .f32⟩
  | .hbm, ⟨9, _⟩ => ⟨S192, .f32⟩
  | .hbm, ⟨10, _⟩ => ⟨S192, .f32⟩
  | .hbm, ⟨11, _⟩ => ⟨S1x16, .f32⟩
  | .hbm, ⟨12, _⟩ => ⟨S1x192, .f32⟩
  | .hbm, ⟨13, _⟩ => ⟨S1x1, .f32⟩
  | .hbm, ⟨14, _⟩ => ⟨S192x1, .f32⟩
  | .hbm, ⟨15, _⟩ => ⟨S192x1, .f32⟩
  | .hbm, ⟨16, _⟩ => ⟨S2x192x3136, .f32⟩
  | .hbm, ⟨17, _⟩ => ⟨S1x16x192, .f32⟩
  | .hbm, ⟨18, _⟩ => ⟨S1x16x1, .f32⟩
  | .hbm, ⟨19, _⟩ => ⟨S1x48x192, .f32⟩
  | .hbm, ⟨20, _⟩ => ⟨S1x48x192, .f32⟩
  | .hbm, ⟨21, _⟩ => ⟨S1x192x192, .f32⟩
  | .hbm, ⟨22, _⟩ => ⟨S2x3136x48, .f32⟩
  | .hbm, ⟨23, _⟩ => ⟨S2x3136x192, .f32⟩
  | .hbm, ⟨24, _⟩ => ⟨S2x16x48, .f32⟩
  | .hbm, ⟨25, _⟩ => ⟨S2x16x192, .f32⟩
  | .hbm, ⟨26, _⟩ => ⟨S2x3136x16, .f32⟩
  | .hbm, ⟨27, _⟩ => ⟨S2x4096x48, .f32⟩
  | .hbm, ⟨28, _⟩ => ⟨S2x16x256, .f32⟩
  | .hbm, ⟨29, _⟩ => ⟨S1x1x1, .f32⟩
  | .hbm, ⟨30, _⟩ => ⟨S1x192x192, .f32⟩
  | .hbm, ⟨31, _⟩ => ⟨S1x1x192, .f32⟩
  | .hbm, ⟨32, _⟩ => ⟨S2x3136x192, .f32⟩
  | .hbm, ⟨33, _⟩ => ⟨S2x56x10752, .f32⟩
  | .hbm, ⟨34, _⟩ => ⟨S2x192x224x224, .f32⟩
  | .local _ .vmem, ⟨0, _⟩ => ⟨S1x32x224x224, .f32⟩
  | .local _ .vmem, ⟨1, _⟩ => ⟨S1x32x224x224, .f32⟩
  | .local _ .vmem, ⟨2, _⟩ => ⟨S1x32x3136, .f32⟩
  | .local _ .vmem, ⟨3, _⟩ => ⟨S1x32x3136, .f32⟩
  | .local _ .vmem, ⟨4, _⟩ => ⟨S1x192x3136, .f32⟩
  | .local _ .vmem, ⟨5, _⟩ => ⟨S1x192x3136, .f32⟩
  | .local _ .vmem, ⟨6, _⟩ => ⟨S1x16x192, .f32⟩
  | .local _ .vmem, ⟨7, _⟩ => ⟨S1x16x1, .f32⟩
  | .local _ .vmem, ⟨8, _⟩ => ⟨S1x48x192, .f32⟩
  | .local _ .vmem, ⟨9, _⟩ => ⟨S1x48x192, .f32⟩
  | .local _ .vmem, ⟨10, _⟩ => ⟨S1x192x192, .f32⟩
  | .local _ .vmem, ⟨11, _⟩ => ⟨S1x3136x48, .f32⟩
  | .local _ .vmem, ⟨12, _⟩ => ⟨S1x3136x48, .f32⟩
  | .local _ .vmem, ⟨13, _⟩ => ⟨S1x3136x192, .f32⟩
  | .local _ .vmem, ⟨14, _⟩ => ⟨S1x3136x192, .f32⟩
  | .local _ .vmem, ⟨15, _⟩ => ⟨S1x16x48, .f32⟩
  | .local _ .vmem, ⟨16, _⟩ => ⟨S1x16x48, .f32⟩
  | .local _ .vmem, ⟨17, _⟩ => ⟨S1x16x192, .f32⟩
  | .local _ .vmem, ⟨18, _⟩ => ⟨S1x16x192, .f32⟩
  | .local _ .vmem, ⟨19, _⟩ => ⟨S1x3136x16, .f32⟩
  | .local _ .vmem, ⟨20, _⟩ => ⟨S1x3136x16, .f32⟩
  | .local _ .vmem, ⟨21, _⟩ => ⟨S1x4096x48, .f32⟩
  | .local _ .vmem, ⟨22, _⟩ => ⟨S1x4096x48, .f32⟩
  | .local _ .vmem, ⟨23, _⟩ => ⟨S1x16x256, .f32⟩
  | .local _ .vmem, ⟨24, _⟩ => ⟨S1x16x256, .f32⟩
  | .local _ .vmem, ⟨25, _⟩ => ⟨S16x3136, .f32⟩
  | .local _ .vmem, ⟨26, _⟩ => ⟨S16x256, .f32⟩
  | .local _ .vmem, ⟨27, _⟩ => ⟨S1x448x48, .f32⟩
  | .local _ .vmem, ⟨28, _⟩ => ⟨S1x448x48, .f32⟩
  | .local _ .vmem, ⟨29, _⟩ => ⟨S1x448x16, .f32⟩
  | .local _ .vmem, ⟨30, _⟩ => ⟨S1x448x16, .f32⟩
  | .local _ .vmem, ⟨31, _⟩ => ⟨S1x4096x48, .f32⟩
  | .local _ .vmem, ⟨32, _⟩ => ⟨S1x4096x48, .f32⟩
  | .local _ .vmem, ⟨33, _⟩ => ⟨S1x16x256, .f32⟩
  | .local _ .vmem, ⟨34, _⟩ => ⟨S1x16x256, .f32⟩
  | .local _ .vmem, ⟨35, _⟩ => ⟨S1x16x48, .f32⟩
  | .local _ .vmem, ⟨36, _⟩ => ⟨S1x16x48, .f32⟩
  | .local _ .vmem, ⟨37, _⟩ => ⟨S1x16x192, .f32⟩
  | .local _ .vmem, ⟨38, _⟩ => ⟨S1x16x192, .f32⟩
  | .local _ .vmem, ⟨39, _⟩ => ⟨S1x3136x192, .f32⟩
  | .local _ .vmem, ⟨40, _⟩ => ⟨S1x3136x192, .f32⟩
  | .local _ .vmem, ⟨41, _⟩ => ⟨S1x1x1, .f32⟩
  | .local _ .vmem, ⟨42, _⟩ => ⟨S1x192x192, .f32⟩
  | .local _ .vmem, ⟨43, _⟩ => ⟨S1x1x192, .f32⟩
  | .local _ .vmem, ⟨44, _⟩ => ⟨S1x448x192, .f32⟩
  | .local _ .vmem, ⟨45, _⟩ => ⟨S1x448x192, .f32⟩
  | .local _ .vmem, ⟨46, _⟩ => ⟨S1x3136x192, .f32⟩
  | .local _ .vmem, ⟨47, _⟩ => ⟨S1x3136x192, .f32⟩
  | .local _ .vmem, ⟨48, _⟩ => ⟨S1x56x10752, .f32⟩
  | .local _ .vmem, ⟨49, _⟩ => ⟨S1x56x10752, .f32⟩
  | .local _ .vmem, ⟨50, _⟩ => ⟨S1x56x10752, .f32⟩
  | .local _ .vmem, ⟨51, _⟩ => ⟨S1x56x10752, .f32⟩
  | .local _ .vmem, ⟨52, _⟩ => ⟨S1x192x32x224, .f32⟩
  | .local _ .vmem, ⟨53, _⟩ => ⟨S1x192x32x224, .f32⟩
  | .local _ .vmem, ⟨54, _⟩ => ⟨S192x1, .f32⟩
  | .local _ .vmem, ⟨55, _⟩ => ⟨S192x1, .f32⟩
  | .local _ .vmem, ⟨56, _⟩ => ⟨S1x192x32x224, .f32⟩
  | .local _ .vmem, ⟨57, _⟩ => ⟨S1x192x32x224, .f32⟩
  | _, _ => ⟨S2x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc1_scratch0 : Ref sig .tc := ⟨.vmem, 25, rfl⟩
abbrev cc1_scratch1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg10_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg4_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22
abbrev cc1_sem12_0 : DmaSem sig := 23
abbrev cc1_sem12_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem5_1 : DmaSem sig := 36
abbrev cc2_sem6_0 : DmaSem sig := 37
abbrev cc2_sem6_1 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem4_1 : DmaSem sig := 55

abbrev nD : Nat := 1
abbrev τ : Topo := Topo.v7x

variable {F : FTy → Type} [FloatOps F]

abbrev grid0 : Pipeline.Grid := ⟨2, ![2, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![2], ![false]⟩

@[reducible] def k1_t1_loop : Scf.Loop 32 :=
  let c0_i32 : BitVec 32 := 0#32
  let c256_i32 : BitVec 32 := 256#32
  let v67 : BitVec 32 := Scalar.addi c0_i32 c256_i32
  let c1_i32 : BitVec 32 := 1#32
  ⟨c0_i32, v67, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x192x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x48x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x48x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x3136x48 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x3136x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x16x48 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x16x192 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x3136x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x4096x48 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x16x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨2, ![2, 7], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x448x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x448x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x4096x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x16x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x16x48 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x16x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x3136x192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 1 → Memref sig .tc .vmem S1x1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x192x192 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x1x192 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x448x192 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x3136x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x56x10752 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![2, 7], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage4_0 : Fin 2 → Memref sig .tc .vmem S1x56x10752 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x192x32x224 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S192x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S192x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x192x32x224 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]
-- ==== KernelIdeal.lean ====
variable {F : FTy → Type} [FloatOps F] [Named F]
def κ : String → Option EReal := fun
  | "mask" => some ⊥
  | _ => none
-- ==== ReferenceIdeal.lean ====
abbrev S2x192x224x224 : Shape := ⟨4, ![2, 192, 224, 224]⟩
abbrev S16x192 : Shape := ⟨2, ![16, 192]⟩
abbrev S16 : Shape := ⟨1, ![16]⟩
abbrev S48x192 : Shape := ⟨2, ![48, 192]⟩
abbrev S192x192 : Shape := ⟨2, ![192, 192]⟩
abbrev S192 : Shape := ⟨1, ![192]⟩
abbrev S_ : Shape := ⟨0, ![]⟩
abbrev S2x192x56x4x56x4 : Shape := ⟨6, ![2, 192, 56, 4, 56, 4]⟩
abbrev S2x192x56x56 : Shape := ⟨4, ![2, 192, 56, 56]⟩
abbrev S2x192x3136 : Shape := ⟨3, ![2, 192, 3136]⟩
abbrev S2x3136x16 : Shape := ⟨3, ![2, 3136, 16]⟩
abbrev S2x16x3136 : Shape := ⟨3, ![2, 16, 3136]⟩
abbrev S1x16x1 : Shape := ⟨3, ![1, 16, 1]⟩
abbrev S2x3136 : Shape := ⟨2, ![2, 3136]⟩
abbrev S2x1x3136 : Shape := ⟨3, ![2, 1, 3136]⟩
abbrev S2x3136x48 : Shape := ⟨3, ![2, 3136, 48]⟩
abbrev S2x48x3136 : Shape := ⟨3, ![2, 48, 3136]⟩
abbrev S2x3136x192 : Shape := ⟨3, ![2, 3136, 192]⟩
abbrev S2x16x48 : Shape := ⟨3, ![2, 16, 48]⟩
abbrev S2x16x192 : Shape := ⟨3, ![2, 16, 192]⟩
abbrev S2x16x256 : Shape := ⟨3, ![2, 16, 256]⟩
abbrev S2x1x48x3136 : Shape := ⟨4, ![2, 1, 48, 3136]⟩
abbrev S2x16x48x3136 : Shape := ⟨4, ![2, 16, 48, 3136]⟩
abbrev S2x16x1x256 : Shape := ⟨4, ![2, 16, 1, 256]⟩
abbrev S2x16x48x256 : Shape := ⟨4, ![2, 16, 48, 256]⟩
abbrev S2x16x48x256x1 : Shape := ⟨5, ![2, 16, 48, 256, 1]⟩
abbrev S1 : Shape := ⟨1, ![1]⟩
abbrev S1x1x1x1x1 : Shape := ⟨5, ![1, 1, 1, 1, 1]⟩
abbrev S2x1x192x3136 : Shape := ⟨4, ![2, 1, 192, 3136]⟩
abbrev S2x16x192x3136 : Shape := ⟨4, ![2, 16, 192, 3136]⟩
abbrev S2x16x192x256 : Shape := ⟨4, ![2, 16, 192, 256]⟩
abbrev S2x16x192x256x1 : Shape := ⟨5, ![2, 16, 192, 256, 1]⟩
abbrev S2x3136x1 : Shape := ⟨3, ![2, 3136, 1]⟩
abbrev S2x16x256x3136 : Shape := ⟨4, ![2, 16, 256, 3136]⟩
abbrev S2x16x3136x256 : Shape := ⟨4, ![2, 16, 3136, 256]⟩
abbrev S2x1x3136x1 : Shape := ⟨4, ![2, 1, 3136, 1]⟩
abbrev S2x1x3136x256 : Shape := ⟨4, ![2, 1, 3136, 256]⟩
abbrev S2x1x3136x256x1 : Shape := ⟨5, ![2, 1, 3136, 256, 1]⟩
abbrev S2x3136x256 : Shape := ⟨3, ![2, 3136, 256]⟩
abbrev S2x3136x8 : Shape := ⟨3, ![2, 3136, 8]⟩
abbrev S2x16x256x192 : Shape := ⟨4, ![2, 16, 256, 192]⟩
abbrev S2x4096x192 : Shape := ⟨3, ![2, 4096, 192]⟩
abbrev S2 : Shape := ⟨1, ![2]⟩
abbrev S2x1x1 : Shape := ⟨3, ![2, 1, 1]⟩
abbrev S2x3136x8x1 : Shape := ⟨4, ![2, 3136, 8, 1]⟩
abbrev S2x3136x8x2 : Shape := ⟨4, ![2, 3136, 8, 2]⟩
abbrev S2x3136x8x192 : Shape := ⟨4, ![2, 3136, 8, 192]⟩
abbrev S2x56x56x192 : Shape := ⟨4, ![2, 56, 56, 192]⟩
abbrev S1x192x1x1 : Shape := ⟨4, ![1, 192, 1, 1]⟩
abbrev S224 : Shape := ⟨1, ![224]⟩
abbrev S224x1 : Shape := ⟨2, ![224, 1]⟩
abbrev S56 : Shape := ⟨1, ![56]⟩
abbrev S1x56 : Shape := ⟨2, ![1, 56]⟩
abbrev S224x56 : Shape := ⟨2, ![224, 56]⟩
abbrev S2x192x56x224 : Shape := ⟨4, ![2, 192, 56, 224]⟩
abbrev S2x192x224x56 : Shape := ⟨4, ![2, 192, 224, 56]⟩
abbrev S2x224x224x192 : Shape := ⟨4, ![2, 224, 224, 192]⟩
abbrev S2x224x224 : Shape := ⟨3, ![2, 224, 224]⟩
abbrev S2x224x224x1 : Shape := ⟨4, ![2, 224, 224, 1]⟩
abbrev S1x1x1x192 : Shape := ⟨4, ![1, 1, 1, 192]⟩

abbrev nBuf : Space → Nat
  | .hbm => 425
  | .vmem => 0
  | .smem => 0
  | _ => 0

abbrev hbmTy0_0 (i : Nat) : BufTy := match i % 128 with
  | 0 => ⟨S2x192x224x224, .f32⟩
  | 1 => ⟨S16x192, .f32⟩
  | 2 => ⟨S16, .f32⟩
  | 3 => ⟨S48x192, .f32⟩
  | 4 => ⟨S48x192, .f32⟩
  | 5 => ⟨S192x192, .f32⟩
  | 6 => ⟨S192x192, .f32⟩
  | 7 => ⟨S192, .f32⟩
  | 8 => ⟨S_, .f32⟩
  | 9 => ⟨S192, .f32⟩
  | 10 => ⟨S192, .f32⟩
  | 11 => ⟨S2x192x56x4x56x4, .f32⟩
  | 12 => ⟨S_, .f32⟩
  | 13 => ⟨S2x192x56x56, .f32⟩
  | 14 => ⟨S_, .f32⟩
  | 15 => ⟨S2x192x56x56, .f32⟩
  | 16 => ⟨S2x192x56x56, .f32⟩
  | 17 => ⟨S2x192x3136, .f32⟩
  | 18 => ⟨S2x3136x16, .f32⟩
  | 19 => ⟨S2x16x3136, .f32⟩
  | 20 => ⟨S1x16x1, .f32⟩
  | 21 => ⟨S2x16x3136, .f32⟩
  | 22 => ⟨S2x16x3136, .f32⟩
  | 23 => ⟨S_, .f32⟩
  | 24 => ⟨S2x3136, .f32⟩
  | 25 => ⟨S_, .f32⟩
  | 26 => ⟨S2x3136, .f32⟩
  | 27 => ⟨S2x3136, .f32⟩
  | 28 => ⟨S2x1x3136, .f32⟩
  | 29 => ⟨S2x16x3136, .f32⟩
  | 30 => ⟨S2x16x3136, .f32⟩
  | 31 => ⟨S2x16x3136, .f32⟩
  | 32 => ⟨S_, .f32⟩
  | 33 => ⟨S2x3136, .f32⟩
  | 34 => ⟨S2x1x3136, .f32⟩
  | 35 => ⟨S2x16x3136, .f32⟩
  | 36 => ⟨S2x16x3136, .f32⟩
  | 37 => ⟨S_, .f32⟩
  | 38 => ⟨S_, .f32⟩
  | 39 => ⟨S_, .f32⟩
  | 40 => ⟨S2x16x3136, .i1⟩
  | 41 => ⟨S_, .f32⟩
  | 42 => ⟨S2x16x3136, .f32⟩
  | 43 => ⟨S2x16x3136, .f32⟩
  | 44 => ⟨S_, .f32⟩
  | 45 => ⟨S2x16x3136, .f32⟩
  | 46 => ⟨S2x16x3136, .i1⟩
  | 47 => ⟨S_, .f32⟩
  | 48 => ⟨S2x16x3136, .f32⟩
  | 49 => ⟨S2x16x3136, .f32⟩
  | 50 => ⟨S_, .f32⟩
  | 51 => ⟨S2x16x3136, .f32⟩
  | 52 => ⟨S2x16x3136, .i1⟩
  | 53 => ⟨S_, .f32⟩
  | 54 => ⟨S2x16x3136, .f32⟩
  | 55 => ⟨S2x16x3136, .f32⟩
  | 56 => ⟨S2x3136x48, .f32⟩
  | 57 => ⟨S2x48x3136, .f32⟩
  | 58 => ⟨S2x3136x48, .f32⟩
  | 59 => ⟨S2x48x3136, .f32⟩
  | 60 => ⟨S2x3136x192, .f32⟩
  | 61 => ⟨S2x192x3136, .f32⟩
  | 62 => ⟨S2x16x48, .f32⟩
  | 63 => ⟨S2x16x192, .f32⟩
  | 64 => ⟨S2x16x3136, .f32⟩
  | 65 => ⟨S_, .f32⟩
  | 66 => ⟨S2x16x3136, .f32⟩
  | 67 => ⟨S2x16x3136, .f32⟩
  | 68 => ⟨S_, .f32⟩
  | 69 => ⟨S2x3136, .f32⟩
  | 70 => ⟨S_, .f32⟩
  | 71 => ⟨S2x3136, .f32⟩
  | 72 => ⟨S2x3136, .f32⟩
  | 73 => ⟨S2x1x3136, .f32⟩
  | 74 => ⟨S2x16x3136, .f32⟩
  | 75 => ⟨S2x16x3136, .f32⟩
  | 76 => ⟨S2x16x3136, .f32⟩
  | 77 => ⟨S_, .f32⟩
  | 78 => ⟨S2x3136, .f32⟩
  | 79 => ⟨S2x1x3136, .f32⟩
  | 80 => ⟨S2x16x3136, .f32⟩
  | 81 => ⟨S2x16x3136, .f32⟩
  | 82 => ⟨S_, .f32⟩
  | 83 => ⟨S_, .f32⟩
  | 84 => ⟨S_, .f32⟩
  | 85 => ⟨S2x16x3136, .i1⟩
  | 86 => ⟨S_, .f32⟩
  | 87 => ⟨S2x16x3136, .f32⟩
  | 88 => ⟨S2x16x3136, .f32⟩
  | 89 => ⟨S_, .f32⟩
  | 90 => ⟨S2x16x3136, .f32⟩
  | 91 => ⟨S2x16x3136, .i1⟩
  | 92 => ⟨S_, .f32⟩
  | 93 => ⟨S2x16x3136, .f32⟩
  | 94 => ⟨S2x16x3136, .f32⟩
  | 95 => ⟨S_, .f32⟩
  | 96 => ⟨S2x16x3136, .f32⟩
  | 97 => ⟨S2x16x3136, .i1⟩
  | 98 => ⟨S_, .f32⟩
  | 99 => ⟨S2x16x3136, .f32⟩
  | 100 => ⟨S2x16x3136, .f32⟩
  | 101 => ⟨S2x192x3136, .f32⟩
  | 102 => ⟨S_, .f32⟩
  | 103 => ⟨S_, .f32⟩
  | 104 => ⟨S_, .f32⟩
  | 105 => ⟨S2x192x3136, .i1⟩
  | 106 => ⟨S_, .f32⟩
  | 107 => ⟨S2x192x3136, .f32⟩
  | 108 => ⟨S2x192x3136, .f32⟩
  | 109 => ⟨S_, .f32⟩
  | 110 => ⟨S2x192x3136, .f32⟩
  | 111 => ⟨S2x192x3136, .i1⟩
  | 112 => ⟨S_, .f32⟩
  | 113 => ⟨S2x192x3136, .f32⟩
  | 114 => ⟨S2x192x3136, .f32⟩
  | 115 => ⟨S_, .f32⟩
  | 116 => ⟨S2x192x3136, .f32⟩
  | 117 => ⟨S2x192x3136, .i1⟩
  | 118 => ⟨S_, .f32⟩
  | 119 => ⟨S2x192x3136, .f32⟩
  | 120 => ⟨S2x192x3136, .f32⟩
  | 121 => ⟨S2x16x256, .f32⟩
  | 122 => ⟨S2x16x256, .i32⟩
  | 123 => ⟨S2x1x48x3136, .f32⟩
  | 124 => ⟨S2x16x48x3136, .f32⟩
  | 125 => ⟨S2x16x1x256, .i32⟩
  | 126 => ⟨S2x16x48x256, .i32⟩
  | 127 => ⟨S_, .i32⟩
  | _ => ⟨S2x192x224x224, .f32⟩

abbrev hbmTy0_1 (i : Nat) : BufTy := match i % 128 with
  | 0 => ⟨S2x16x48x256, .i32⟩
  | 1 => ⟨S2x16x48x256, .i1⟩
  | 2 => ⟨S_, .i32⟩
  | 3 => ⟨S2x16x48x256, .i32⟩
  | 4 => ⟨S2x16x48x256, .i32⟩
  | 5 => ⟨S2x16x48x256, .i32⟩
  | 6 => ⟨S2x16x48x256x1, .i32⟩
  | 7 => ⟨S1, .i32⟩
  | 8 => ⟨S_, .i32⟩
  | 9 => ⟨S2x16x48x256x1, .i32⟩
  | 10 => ⟨S2x16x48x256x1, .i1⟩
  | 11 => ⟨S1x1x1x1x1, .i32⟩
  | 12 => ⟨S2x16x48x256x1, .i32⟩
  | 13 => ⟨S2x16x48x256x1, .i1⟩
  | 14 => ⟨S2x16x48x256x1, .i1⟩
  | 15 => ⟨S_, .i1⟩
  | 16 => ⟨S2x16x48x256, .i1⟩
  | 17 => ⟨S2x16x48x256, .f32⟩
  | 18 => ⟨S_, .f32⟩
  | 19 => ⟨S2x16x48x256, .f32⟩
  | 20 => ⟨S2x16x48x256, .f32⟩
  | 21 => ⟨S2x1x192x3136, .f32⟩
  | 22 => ⟨S2x16x192x3136, .f32⟩
  | 23 => ⟨S2x16x1x256, .i32⟩
  | 24 => ⟨S2x16x192x256, .i32⟩
  | 25 => ⟨S_, .i32⟩
  | 26 => ⟨S2x16x192x256, .i32⟩
  | 27 => ⟨S2x16x192x256, .i1⟩
  | 28 => ⟨S_, .i32⟩
  | 29 => ⟨S2x16x192x256, .i32⟩
  | 30 => ⟨S2x16x192x256, .i32⟩
  | 31 => ⟨S2x16x192x256, .i32⟩
  | 32 => ⟨S2x16x192x256x1, .i32⟩
  | 33 => ⟨S1, .i32⟩
  | 34 => ⟨S_, .i32⟩
  | 35 => ⟨S2x16x192x256x1, .i32⟩
  | 36 => ⟨S2x16x192x256x1, .i1⟩
  | 37 => ⟨S1x1x1x1x1, .i32⟩
  | 38 => ⟨S2x16x192x256x1, .i32⟩
  | 39 => ⟨S2x16x192x256x1, .i1⟩
  | 40 => ⟨S2x16x192x256x1, .i1⟩
  | 41 => ⟨S_, .i1⟩
  | 42 => ⟨S2x16x192x256, .i1⟩
  | 43 => ⟨S2x16x192x256, .f32⟩
  | 44 => ⟨S_, .f32⟩
  | 45 => ⟨S2x16x192x256, .f32⟩
  | 46 => ⟨S2x16x192x256, .f32⟩
  | 47 => ⟨S2x3136x16, .f32⟩
  | 48 => ⟨S2x3136x1, .f32⟩
  | 49 => ⟨S2x3136x1, .i32⟩
  | 50 => ⟨S2x3136, .i32⟩
  | 51 => ⟨S2x16x256x3136, .f32⟩
  | 52 => ⟨S2x16x3136x256, .f32⟩
  | 53 => ⟨S_, .f32⟩
  | 54 => ⟨S2x16x3136x256, .f32⟩
  | 55 => ⟨S2x16x3136x256, .f32⟩
  | 56 => ⟨S2x1x3136x1, .i32⟩
  | 57 => ⟨S2x1x3136x256, .i32⟩
  | 58 => ⟨S_, .i32⟩
  | 59 => ⟨S2x1x3136x256, .i32⟩
  | 60 => ⟨S2x1x3136x256, .i1⟩
  | 61 => ⟨S_, .i32⟩
  | 62 => ⟨S2x1x3136x256, .i32⟩
  | 63 => ⟨S2x1x3136x256, .i32⟩
  | 64 => ⟨S2x1x3136x256, .i32⟩
  | 65 => ⟨S2x1x3136x256x1, .i32⟩
  | 66 => ⟨S1, .i32⟩
  | 67 => ⟨S_, .i32⟩
  | 68 => ⟨S2x1x3136x256x1, .i32⟩
  | 69 => ⟨S2x1x3136x256x1, .i1⟩
  | 70 => ⟨S1x1x1x1x1, .i32⟩
  | 71 => ⟨S2x1x3136x256x1, .i32⟩
  | 72 => ⟨S2x1x3136x256x1, .i1⟩
  | 73 => ⟨S2x1x3136x256x1, .i1⟩
  | 74 => ⟨S_, .i1⟩
  | 75 => ⟨S2x1x3136x256, .i1⟩
  | 76 => ⟨S2x1x3136x256, .f32⟩
  | 77 => ⟨S_, .f32⟩
  | 78 => ⟨S2x1x3136x256, .f32⟩
  | 79 => ⟨S2x1x3136x256, .f32⟩
  | 80 => ⟨S2x3136x256, .f32⟩
  | 81 => ⟨S2x3136x8, .f32⟩
  | 82 => ⟨S2x3136x8, .i32⟩
  | 83 => ⟨S_, .f32⟩
  | 84 => ⟨S2x3136, .f32⟩
  | 85 => ⟨S_, .f32⟩
  | 86 => ⟨S2x3136, .f32⟩
  | 87 => ⟨S2x3136, .f32⟩
  | 88 => ⟨S2x3136x1, .f32⟩
  | 89 => ⟨S2x3136x8, .f32⟩
  | 90 => ⟨S2x3136x8, .f32⟩
  | 91 => ⟨S2x3136x8, .f32⟩
  | 92 => ⟨S_, .f32⟩
  | 93 => ⟨S2x3136, .f32⟩
  | 94 => ⟨S2x3136x1, .f32⟩
  | 95 => ⟨S2x3136x8, .f32⟩
  | 96 => ⟨S2x3136x8, .f32⟩
  | 97 => ⟨S2x3136x1, .i32⟩
  | 98 => ⟨S_, .i32⟩
  | 99 => ⟨S2x3136x1, .i32⟩
  | 100 => ⟨S2x3136x1, .i32⟩
  | 101 => ⟨S2x3136x8, .i32⟩
  | 102 => ⟨S2x3136x8, .i32⟩
  | 103 => ⟨S2x16x256x192, .f32⟩
  | 104 => ⟨S2x4096x192, .f32⟩
  | 105 => ⟨S2, .i32⟩
  | 106 => ⟨S2x1x1, .i32⟩
  | 107 => ⟨S_, .i32⟩
  | 108 => ⟨S2x1x1, .i32⟩
  | 109 => ⟨S2x1x1, .i1⟩
  | 110 => ⟨S_, .i32⟩
  | 111 => ⟨S2x1x1, .i32⟩
  | 112 => ⟨S2x1x1, .i32⟩
  | 113 => ⟨S2x1x1, .i32⟩
  | 114 => ⟨S_, .i32⟩
  | 115 => ⟨S2x3136x8, .i32⟩
  | 116 => ⟨S2x3136x8, .i1⟩
  | 117 => ⟨S_, .i32⟩
  | 118 => ⟨S2x3136x8, .i32⟩
  | 119 => ⟨S2x3136x8, .i32⟩
  | 120 => ⟨S2x3136x8, .i32⟩
  | 121 => ⟨S2x3136x8, .i32⟩
  | 122 => ⟨S2x3136x8x1, .i32⟩
  | 123 => ⟨S2x3136x8x1, .i32⟩
  | 124 => ⟨S2x3136x8x2, .i32⟩
  | 125 => ⟨S2x3136x8x192, .f32⟩
  | 126 => ⟨S2x3136x192, .f32⟩
  | 127 => ⟨S2x192x3136, .f32⟩
  | _ => ⟨S2x192x224x224, .f32⟩

abbrev hbmTy0_2 (i : Nat) : BufTy := match i % 128 with
  | 0 => ⟨S_, .f32⟩
  | 1 => ⟨S_, .f32⟩
  | 2 => ⟨S_, .f32⟩
  | 3 => ⟨S2x192x3136, .i1⟩
  | 4 => ⟨S_, .f32⟩
  | 5 => ⟨S2x192x3136, .f32⟩
  | 6 => ⟨S2x192x3136, .f32⟩
  | 7 => ⟨S_, .f32⟩
  | 8 => ⟨S2x192x3136, .f32⟩
  | 9 => ⟨S2x192x3136, .i1⟩
  | 10 => ⟨S_, .f32⟩
  | 11 => ⟨S2x192x3136, .f32⟩
  | 12 => ⟨S2x192x3136, .f32⟩
  | 13 => ⟨S_, .f32⟩
  | 14 => ⟨S2x192x3136, .f32⟩
  | 15 => ⟨S2x192x3136, .i1⟩
  | 16 => ⟨S_, .f32⟩
  | 17 => ⟨S2x192x3136, .f32⟩
  | 18 => ⟨S2x192x3136, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S2x192x3136, .f32⟩
  | 26 => ⟨S2x192x3136, .f32⟩
  | 27 => ⟨S_, .f32⟩
  | 28 => ⟨S_, .f32⟩
  | 29 => ⟨S2x192x3136, .f32⟩
  | 30 => ⟨S2x192x3136, .f32⟩
  | 31 => ⟨S2x192x3136, .f32⟩
  | 32 => ⟨S_, .f32⟩
  | 33 => ⟨S_, .f32⟩
  | 34 => ⟨S_, .f32⟩
  | 35 => ⟨S2x192x3136, .i1⟩
  | 36 => ⟨S_, .f32⟩
  | 37 => ⟨S2x192x3136, .f32⟩
  | 38 => ⟨S2x192x3136, .f32⟩
  | 39 => ⟨S_, .f32⟩
  | 40 => ⟨S2x192x3136, .f32⟩
  | 41 => ⟨S2x192x3136, .i1⟩
  | 42 => ⟨S_, .f32⟩
  | 43 => ⟨S2x192x3136, .f32⟩
  | 44 => ⟨S2x192x3136, .f32⟩
  | 45 => ⟨S_, .f32⟩
  | 46 => ⟨S2x192x3136, .f32⟩
  | 47 => ⟨S2x192x3136, .i1⟩
  | 48 => ⟨S_, .f32⟩
  | 49 => ⟨S2x192x3136, .f32⟩
  | 50 => ⟨S2x192x3136, .f32⟩
  | 51 => ⟨S2x192x56x56, .f32⟩
  | 52 => ⟨S2x56x56x192, .f32⟩
  | 53 => ⟨S2x192x56x56, .f32⟩
  | 54 => ⟨S1x192x1x1, .f32⟩
  | 55 => ⟨S2x192x56x56, .f32⟩
  | 56 => ⟨S2x192x56x56, .f32⟩
  | 57 => ⟨S224, .f32⟩
  | 58 => ⟨S_, .f32⟩
  | 59 => ⟨S224, .f32⟩
  | 60 => ⟨S224, .f32⟩
  | 61 => ⟨S_, .f32⟩
  | 62 => ⟨S224, .f32⟩
  | 63 => ⟨S224, .f32⟩
  | 64 => ⟨S_, .f32⟩
  | 65 => ⟨S224, .f32⟩
  | 66 => ⟨S224, .f32⟩
  | 67 => ⟨S_, .f32⟩
  | 68 => ⟨S_, .f32⟩
  | 69 => ⟨S_, .f32⟩
  | 70 => ⟨S224, .f32⟩
  | 71 => ⟨S224, .f32⟩
  | 72 => ⟨S_, .f32⟩
  | 73 => ⟨S224, .f32⟩
  | 74 => ⟨S224, .f32⟩
  | 75 => ⟨S224x1, .f32⟩
  | 76 => ⟨S56, .f32⟩
  | 77 => ⟨S1x56, .f32⟩
  | 78 => ⟨S224x56, .f32⟩
  | 79 => ⟨S224x56, .f32⟩
  | 80 => ⟨S224x56, .f32⟩
  | 81 => ⟨S224x56, .f32⟩
  | 82 => ⟨S_, .f32⟩
  | 83 => ⟨S224x56, .f32⟩
  | 84 => ⟨S224x56, .f32⟩
  | 85 => ⟨S_, .f32⟩
  | 86 => ⟨S224x56, .f32⟩
  | 87 => ⟨S224x56, .f32⟩
  | 88 => ⟨S2x192x56x224, .f32⟩
  | 89 => ⟨S2x192x224x56, .f32⟩
  | 90 => ⟨S224, .f32⟩
  | 91 => ⟨S_, .f32⟩
  | 92 => ⟨S224, .f32⟩
  | 93 => ⟨S224, .f32⟩
  | 94 => ⟨S_, .f32⟩
  | 95 => ⟨S224, .f32⟩
  | 96 => ⟨S224, .f32⟩
  | 97 => ⟨S_, .f32⟩
  | 98 => ⟨S224, .f32⟩
  | 99 => ⟨S224, .f32⟩
  | 100 => ⟨S_, .f32⟩
  | 101 => ⟨S_, .f32⟩
  | 102 => ⟨S_, .f32⟩
  | 103 => ⟨S224, .f32⟩
  | 104 => ⟨S224, .f32⟩
  | 105 => ⟨S_, .f32⟩
  | 106 => ⟨S224, .f32⟩
  | 107 => ⟨S224, .f32⟩
  | 108 => ⟨S224x1, .f32⟩
  | 109 => ⟨S56, .f32⟩
  | 110 => ⟨S1x56, .f32⟩
  | 111 => ⟨S224x56, .f32⟩
  | 112 => ⟨S224x56, .f32⟩
  | 113 => ⟨S224x56, .f32⟩
  | 114 => ⟨S224x56, .f32⟩
  | 115 => ⟨S_, .f32⟩
  | 116 => ⟨S224x56, .f32⟩
  | 117 => ⟨S224x56, .f32⟩
  | 118 => ⟨S_, .f32⟩
  | 119 => ⟨S224x56, .f32⟩
  | 120 => ⟨S224x56, .f32⟩
  | 121 => ⟨S2x192x224x224, .f32⟩
  | 122 => ⟨S2x224x224x192, .f32⟩
  | 123 => ⟨S_, .f32⟩
  | 124 => ⟨S2x224x224, .f32⟩
  | 125 => ⟨S2x224x224x1, .f32⟩
  | 126 => ⟨S_, .f32⟩
  | 127 => ⟨S2x224x224x1, .f32⟩
  | _ => ⟨S2x192x224x224, .f32⟩

abbrev hbmTy0_3 (i : Nat) : BufTy := match i % 128 with
  | 0 => ⟨S2x224x224x1, .f32⟩
  | 1 => ⟨S_, .i32⟩
  | 2 => ⟨S_, .f32⟩
  | 3 => ⟨S2x224x224, .f32⟩
  | 4 => ⟨S2x224x224x1, .f32⟩
  | 5 => ⟨S_, .f32⟩
  | 6 => ⟨S2x224x224x1, .f32⟩
  | 7 => ⟨S2x224x224x1, .f32⟩
  | 8 => ⟨S2x224x224x192, .f32⟩
  | 9 => ⟨S2x224x224x192, .f32⟩
  | 10 => ⟨S2x224x224x192, .f32⟩
  | 11 => ⟨S_, .f32⟩
  | 12 => ⟨S_, .f32⟩
  | 13 => ⟨S_, .f32⟩
  | 14 => ⟨S_, .f32⟩
  | 15 => ⟨S2x224x224, .f32⟩
  | 16 => ⟨S2x224x224x1, .f32⟩
  | 17 => ⟨S2x224x224x1, .f32⟩
  | 18 => ⟨S2x224x224x1, .f32⟩
  | 19 => ⟨S_, .f32⟩
  | 20 => ⟨S_, .i1⟩
  | 21 => ⟨S_, .f32⟩
  | 22 => ⟨S_, .f32⟩
  | 23 => ⟨S2x224x224x1, .f32⟩
  | 24 => ⟨S2x224x224x1, .f32⟩
  | 25 => ⟨S2x224x224x192, .f32⟩
  | 26 => ⟨S2x224x224x192, .f32⟩
  | 27 => ⟨S_, .f32⟩
  | 28 => ⟨S2x224x224x1, .f32⟩
  | 29 => ⟨S2x224x224x1, .f32⟩
  | 30 => ⟨S2x224x224x1, .f32⟩
  | 31 => ⟨S2x224x224x192, .f32⟩
  | 32 => ⟨S2x224x224x192, .f32⟩
  | 33 => ⟨S1x1x1x192, .f32⟩
  | 34 => ⟨S2x224x224x192, .f32⟩
  | 35 => ⟨S2x224x224x192, .f32⟩
  | 36 => ⟨S1x1x1x192, .f32⟩
  | 37 => ⟨S2x224x224x192, .f32⟩
  | 38 => ⟨S2x224x224x192, .f32⟩
  | 39 => ⟨S2x192x224x224, .f32⟩
  | 40 => ⟨S2x192x224x224, .f32⟩
  | _ => ⟨S2x192x224x224, .f32⟩

abbrev hbmTy (i : Nat) : BufTy := match i / 128 with
  | 0 => hbmTy0_0 i
  | 1 => hbmTy0_1 i
  | 2 => hbmTy0_2 i
  | 3 => hbmTy0_3 i
  | _ => ⟨S2x192x224x224, .f32⟩

abbrev bufTy : (tb : Table) → Fin (tcTables nBuf tb) → BufTy
  | .hbm, ⟨i, _⟩ => hbmTy i
  | _, _ => ⟨S2x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_cst_5 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_call0_call0_v0 : Ref sig .tc := ⟨.hbm, 42, rfl⟩
abbrev main_call0_v2 : Ref sig .tc := ⟨.hbm, 43, rfl⟩
abbrev main_call0_cst : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_call1_v0 : Ref sig .tc := ⟨.hbm, 48, rfl⟩
abbrev main_call0_v6 : Ref sig .tc := ⟨.hbm, 49, rfl⟩
abbrev main_call0_cst_0 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_call2_v0 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_7 : Ref sig .tc := ⟨.hbm, 65, rfl⟩
abbrev main_v31 : Ref sig .tc := ⟨.hbm, 66, rfl⟩
abbrev main_v32 : Ref sig .tc := ⟨.hbm, 67, rfl⟩
abbrev main_cst_8 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_10 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_11 : Ref sig .tc := ⟨.hbm, 82, rfl⟩
abbrev main_cst_12 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_call0_v0 : Ref sig .tc := ⟨.hbm, 87, rfl⟩
abbrev main_call1_v2 : Ref sig .tc := ⟨.hbm, 88, rfl⟩
abbrev main_call1_cst : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_call1_v0 : Ref sig .tc := ⟨.hbm, 93, rfl⟩
abbrev main_call1_v6 : Ref sig .tc := ⟨.hbm, 94, rfl⟩
abbrev main_call1_cst_0 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_call2_v0 : Ref sig .tc := ⟨.hbm, 99, rfl⟩
abbrev main_v44 : Ref sig .tc := ⟨.hbm, 100, rfl⟩
abbrev main_v45 : Ref sig .tc := ⟨.hbm, 101, rfl⟩
abbrev main_cst_14 : Ref sig .tc := ⟨.hbm, 102, rfl⟩
abbrev main_cst_15 : Ref sig .tc := ⟨.hbm, 103, rfl⟩
abbrev main_cst_16 : Ref sig .tc := ⟨.hbm, 104, rfl⟩
abbrev main_call2_v0 : Ref sig .tc := ⟨.hbm, 105, rfl⟩
abbrev main_call2_v1 : Ref sig .tc := ⟨.hbm, 106, rfl⟩
abbrev main_call2_call0_v0 : Ref sig .tc := ⟨.hbm, 107, rfl⟩
abbrev main_call2_v2 : Ref sig .tc := ⟨.hbm, 108, rfl⟩
abbrev main_call2_cst : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_call1_v0 : Ref sig .tc := ⟨.hbm, 113, rfl⟩
abbrev main_call2_v6 : Ref sig .tc := ⟨.hbm, 114, rfl⟩
abbrev main_call2_cst_0 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_call2_v0 : Ref sig .tc := ⟨.hbm, 119, rfl⟩
abbrev main_v46 : Ref sig .tc := ⟨.hbm, 120, rfl⟩
abbrev main_values : Ref sig .tc := ⟨.hbm, 121, rfl⟩
abbrev main_indices : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_cst : Ref sig .tc := ⟨.hbm, 146, rfl⟩
abbrev main_call3_v14 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_call4_c : Ref sig .tc := ⟨.hbm, 153, rfl⟩
abbrev main_call4_v0 : Ref sig .tc := ⟨.hbm, 154, rfl⟩
abbrev main_call4_v1 : Ref sig .tc := ⟨.hbm, 155, rfl⟩
abbrev main_call4_c_0 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_c_1 : Ref sig .tc := ⟨.hbm, 161, rfl⟩
abbrev main_call4_c_2 : Ref sig .tc := ⟨.hbm, 162, rfl⟩
abbrev main_call4_v6 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_c_3 : Ref sig .tc := ⟨.hbm, 169, rfl⟩
abbrev main_call4_v12 : Ref sig .tc := ⟨.hbm, 170, rfl⟩
abbrev main_call4_v13 : Ref sig .tc := ⟨.hbm, 171, rfl⟩
abbrev main_call4_cst : Ref sig .tc := ⟨.hbm, 172, rfl⟩
abbrev main_call4_v14 : Ref sig .tc := ⟨.hbm, 173, rfl⟩
abbrev main_v56 : Ref sig .tc := ⟨.hbm, 174, rfl⟩
abbrev main_v57 : Ref sig .tc := ⟨.hbm, 175, rfl⟩
abbrev main_values_17 : Ref sig .tc := ⟨.hbm, 176, rfl⟩
abbrev main_indices_18 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_cst_19 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_call5_c : Ref sig .tc := ⟨.hbm, 186, rfl⟩
abbrev main_call5_v0 : Ref sig .tc := ⟨.hbm, 187, rfl⟩
abbrev main_call5_v1 : Ref sig .tc := ⟨.hbm, 188, rfl⟩
abbrev main_call5_c_0 : Ref sig .tc := ⟨.hbm, 189, rfl⟩
abbrev main_call5_v2 : Ref sig .tc := ⟨.hbm, 190, rfl⟩
abbrev main_call5_v3 : Ref sig .tc := ⟨.hbm, 191, rfl⟩
abbrev main_call5_v4 : Ref sig .tc := ⟨.hbm, 192, rfl⟩
abbrev main_call5_v5 : Ref sig .tc := ⟨.hbm, 193, rfl⟩
abbrev main_call5_c_1 : Ref sig .tc := ⟨.hbm, 194, rfl⟩
abbrev main_call5_c_2 : Ref sig .tc := ⟨.hbm, 195, rfl⟩
abbrev main_call5_v6 : Ref sig .tc := ⟨.hbm, 196, rfl⟩
abbrev main_call5_v7 : Ref sig .tc := ⟨.hbm, 197, rfl⟩
abbrev main_call5_v8 : Ref sig .tc := ⟨.hbm, 198, rfl⟩
abbrev main_call5_v9 : Ref sig .tc := ⟨.hbm, 199, rfl⟩
abbrev main_call5_v10 : Ref sig .tc := ⟨.hbm, 200, rfl⟩
abbrev main_call5_v11 : Ref sig .tc := ⟨.hbm, 201, rfl⟩
abbrev main_call5_c_3 : Ref sig .tc := ⟨.hbm, 202, rfl⟩
abbrev main_call5_v12 : Ref sig .tc := ⟨.hbm, 203, rfl⟩
abbrev main_call5_v13 : Ref sig .tc := ⟨.hbm, 204, rfl⟩
abbrev main_call5_cst : Ref sig .tc := ⟨.hbm, 205, rfl⟩
abbrev main_call5_v14 : Ref sig .tc := ⟨.hbm, 206, rfl⟩
abbrev main_v65 : Ref sig .tc := ⟨.hbm, 207, rfl⟩
abbrev main_v66 : Ref sig .tc := ⟨.hbm, 208, rfl⟩
abbrev main_values_20 : Ref sig .tc := ⟨.hbm, 209, rfl⟩
abbrev main_indices_21 : Ref sig .tc := ⟨.hbm, 210, rfl⟩
abbrev main_cst_22 : Ref sig .tc := ⟨.hbm, 211, rfl⟩
abbrev main_v67 : Ref sig .tc := ⟨.hbm, 212, rfl⟩
abbrev main_cst_23 : Ref sig .tc := ⟨.hbm, 213, rfl⟩
abbrev main_v68 : Ref sig .tc := ⟨.hbm, 214, rfl⟩
abbrev main_v69 : Ref sig .tc := ⟨.hbm, 215, rfl⟩
abbrev main_v70 : Ref sig .tc := ⟨.hbm, 216, rfl⟩
abbrev main_v71 : Ref sig .tc := ⟨.hbm, 217, rfl⟩
abbrev main_v72 : Ref sig .tc := ⟨.hbm, 218, rfl⟩
abbrev main_v73 : Ref sig .tc := ⟨.hbm, 219, rfl⟩
abbrev main_cst_24 : Ref sig .tc := ⟨.hbm, 220, rfl⟩
abbrev main_v74 : Ref sig .tc := ⟨.hbm, 221, rfl⟩
abbrev main_v75 : Ref sig .tc := ⟨.hbm, 222, rfl⟩
abbrev main_v76 : Ref sig .tc := ⟨.hbm, 223, rfl⟩
abbrev main_v77 : Ref sig .tc := ⟨.hbm, 224, rfl⟩
abbrev main_v78 : Ref sig .tc := ⟨.hbm, 225, rfl⟩
abbrev main_c : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_v84 : Ref sig .tc := ⟨.hbm, 232, rfl⟩
abbrev main_v85 : Ref sig .tc := ⟨.hbm, 233, rfl⟩
abbrev main_v86 : Ref sig .tc := ⟨.hbm, 234, rfl⟩
abbrev main_c_25 : Ref sig .tc := ⟨.hbm, 235, rfl⟩
abbrev main_v87 : Ref sig .tc := ⟨.hbm, 236, rfl⟩
abbrev main_v88 : Ref sig .tc := ⟨.hbm, 237, rfl⟩
abbrev main_c_26 : Ref sig .tc := ⟨.hbm, 238, rfl⟩
abbrev main_v89 : Ref sig .tc := ⟨.hbm, 239, rfl⟩
abbrev main_v90 : Ref sig .tc := ⟨.hbm, 240, rfl⟩
abbrev main_v91 : Ref sig .tc := ⟨.hbm, 241, rfl⟩
abbrev main_c_27 : Ref sig .tc := ⟨.hbm, 242, rfl⟩
abbrev main_v92 : Ref sig .tc := ⟨.hbm, 243, rfl⟩
abbrev main_v93 : Ref sig .tc := ⟨.hbm, 244, rfl⟩
abbrev main_c_28 : Ref sig .tc := ⟨.hbm, 245, rfl⟩
abbrev main_v94 : Ref sig .tc := ⟨.hbm, 246, rfl⟩
abbrev main_v95 : Ref sig .tc := ⟨.hbm, 247, rfl⟩
abbrev main_v96 : Ref sig .tc := ⟨.hbm, 248, rfl⟩
abbrev main_v97 : Ref sig .tc := ⟨.hbm, 249, rfl⟩
abbrev main_v98 : Ref sig .tc := ⟨.hbm, 250, rfl⟩
abbrev main_v99 : Ref sig .tc := ⟨.hbm, 251, rfl⟩
abbrev main_v100 : Ref sig .tc := ⟨.hbm, 252, rfl⟩
abbrev main_v101 : Ref sig .tc := ⟨.hbm, 253, rfl⟩
abbrev main_v102 : Ref sig .tc := ⟨.hbm, 254, rfl⟩
abbrev main_v103 : Ref sig .tc := ⟨.hbm, 255, rfl⟩
abbrev main_cst_29 : Ref sig .tc := ⟨.hbm, 256, rfl⟩
abbrev main_cst_30 : Ref sig .tc := ⟨.hbm, 257, rfl⟩
abbrev main_cst_31 : Ref sig .tc := ⟨.hbm, 258, rfl⟩
abbrev main_call6_v0 : Ref sig .tc := ⟨.hbm, 259, rfl⟩
abbrev main_call6_v1 : Ref sig .tc := ⟨.hbm, 260, rfl⟩
abbrev main_call6_call0_v0 : Ref sig .tc := ⟨.hbm, 261, rfl⟩
abbrev main_call6_v2 : Ref sig .tc := ⟨.hbm, 262, rfl⟩
abbrev main_call6_cst : Ref sig .tc := ⟨.hbm, 263, rfl⟩
abbrev main_call6_v3 : Ref sig .tc := ⟨.hbm, 264, rfl⟩
abbrev main_call6_v4 : Ref sig .tc := ⟨.hbm, 265, rfl⟩
abbrev main_call6_v5 : Ref sig .tc := ⟨.hbm, 266, rfl⟩
abbrev main_call6_call1_v0 : Ref sig .tc := ⟨.hbm, 267, rfl⟩
abbrev main_call6_v6 : Ref sig .tc := ⟨.hbm, 268, rfl⟩
abbrev main_call6_cst_0 : Ref sig .tc := ⟨.hbm, 269, rfl⟩
abbrev main_call6_v7 : Ref sig .tc := ⟨.hbm, 270, rfl⟩
abbrev main_call6_v8 : Ref sig .tc := ⟨.hbm, 271, rfl⟩
abbrev main_call6_v9 : Ref sig .tc := ⟨.hbm, 272, rfl⟩
abbrev main_call6_call2_v0 : Ref sig .tc := ⟨.hbm, 273, rfl⟩
abbrev main_v104 : Ref sig .tc := ⟨.hbm, 274, rfl⟩
abbrev main_v105 : Ref sig .tc := ⟨.hbm, 275, rfl⟩
abbrev main_v106 : Ref sig .tc := ⟨.hbm, 276, rfl⟩
abbrev main_cst_32 : Ref sig .tc := ⟨.hbm, 277, rfl⟩
abbrev main_v107 : Ref sig .tc := ⟨.hbm, 278, rfl⟩
abbrev main_cst_33 : Ref sig .tc := ⟨.hbm, 279, rfl⟩
abbrev main_v108 : Ref sig .tc := ⟨.hbm, 280, rfl⟩
abbrev main_v109 : Ref sig .tc := ⟨.hbm, 281, rfl⟩
abbrev main_v110 : Ref sig .tc := ⟨.hbm, 282, rfl⟩
abbrev main_cst_34 : Ref sig .tc := ⟨.hbm, 283, rfl⟩
abbrev main_v111 : Ref sig .tc := ⟨.hbm, 284, rfl⟩
abbrev main_v112 : Ref sig .tc := ⟨.hbm, 285, rfl⟩
abbrev main_v113 : Ref sig .tc := ⟨.hbm, 286, rfl⟩
abbrev main_v114 : Ref sig .tc := ⟨.hbm, 287, rfl⟩
abbrev main_cst_35 : Ref sig .tc := ⟨.hbm, 288, rfl⟩
abbrev main_cst_36 : Ref sig .tc := ⟨.hbm, 289, rfl⟩
abbrev main_cst_37 : Ref sig .tc := ⟨.hbm, 290, rfl⟩
abbrev main_call7_v0 : Ref sig .tc := ⟨.hbm, 291, rfl⟩
abbrev main_call7_v1 : Ref sig .tc := ⟨.hbm, 292, rfl⟩
abbrev main_call7_call0_v0 : Ref sig .tc := ⟨.hbm, 293, rfl⟩
abbrev main_call7_v2 : Ref sig .tc := ⟨.hbm, 294, rfl⟩
abbrev main_call7_cst : Ref sig .tc := ⟨.hbm, 295, rfl⟩
abbrev main_call7_v3 : Ref sig .tc := ⟨.hbm, 296, rfl⟩
abbrev main_call7_v4 : Ref sig .tc := ⟨.hbm, 297, rfl⟩
abbrev main_call7_v5 : Ref sig .tc := ⟨.hbm, 298, rfl⟩
abbrev main_call7_call1_v0 : Ref sig .tc := ⟨.hbm, 299, rfl⟩
abbrev main_call7_v6 : Ref sig .tc := ⟨.hbm, 300, rfl⟩
abbrev main_call7_cst_0 : Ref sig .tc := ⟨.hbm, 301, rfl⟩
abbrev main_call7_v7 : Ref sig .tc := ⟨.hbm, 302, rfl⟩
abbrev main_call7_v8 : Ref sig .tc := ⟨.hbm, 303, rfl⟩
abbrev main_call7_v9 : Ref sig .tc := ⟨.hbm, 304, rfl⟩
abbrev main_call7_call2_v0 : Ref sig .tc := ⟨.hbm, 305, rfl⟩
abbrev main_v115 : Ref sig .tc := ⟨.hbm, 306, rfl⟩
abbrev main_v116 : Ref sig .tc := ⟨.hbm, 307, rfl⟩
abbrev main_v117 : Ref sig .tc := ⟨.hbm, 308, rfl⟩
abbrev main_v118 : Ref sig .tc := ⟨.hbm, 309, rfl⟩
abbrev main_v119 : Ref sig .tc := ⟨.hbm, 310, rfl⟩
abbrev main_v120 : Ref sig .tc := ⟨.hbm, 311, rfl⟩
abbrev main_v121 : Ref sig .tc := ⟨.hbm, 312, rfl⟩
abbrev main_v122 : Ref sig .tc := ⟨.hbm, 313, rfl⟩
abbrev main_cst_38 : Ref sig .tc := ⟨.hbm, 314, rfl⟩
abbrev main_v123 : Ref sig .tc := ⟨.hbm, 315, rfl⟩
abbrev main_v124 : Ref sig .tc := ⟨.hbm, 316, rfl⟩
abbrev main_cst_39 : Ref sig .tc := ⟨.hbm, 317, rfl⟩
abbrev main_v125 : Ref sig .tc := ⟨.hbm, 318, rfl⟩
abbrev main_v126 : Ref sig .tc := ⟨.hbm, 319, rfl⟩
abbrev main_cst_40 : Ref sig .tc := ⟨.hbm, 320, rfl⟩
abbrev main_v127 : Ref sig .tc := ⟨.hbm, 321, rfl⟩
abbrev main_v128 : Ref sig .tc := ⟨.hbm, 322, rfl⟩
abbrev main_cst_41 : Ref sig .tc := ⟨.hbm, 323, rfl⟩
abbrev main_cst_42 : Ref sig .tc := ⟨.hbm, 324, rfl⟩
abbrev main_call8_v0 : Ref sig .tc := ⟨.hbm, 325, rfl⟩
abbrev main_call8_v1 : Ref sig .tc := ⟨.hbm, 326, rfl⟩
abbrev main_call8_v2 : Ref sig .tc := ⟨.hbm, 327, rfl⟩
abbrev main_call8_v3 : Ref sig .tc := ⟨.hbm, 328, rfl⟩
abbrev main_call8_v4 : Ref sig .tc := ⟨.hbm, 329, rfl⟩
abbrev main_v129 : Ref sig .tc := ⟨.hbm, 330, rfl⟩
abbrev main_v130 : Ref sig .tc := ⟨.hbm, 331, rfl⟩
abbrev main_v131 : Ref sig .tc := ⟨.hbm, 332, rfl⟩
abbrev main_v132 : Ref sig .tc := ⟨.hbm, 333, rfl⟩
abbrev main_v133 : Ref sig .tc := ⟨.hbm, 334, rfl⟩
abbrev main_v134 : Ref sig .tc := ⟨.hbm, 335, rfl⟩
abbrev main_v135 : Ref sig .tc := ⟨.hbm, 336, rfl⟩
abbrev main_v136 : Ref sig .tc := ⟨.hbm, 337, rfl⟩
abbrev main_cst_43 : Ref sig .tc := ⟨.hbm, 338, rfl⟩
abbrev main_v137 : Ref sig .tc := ⟨.hbm, 339, rfl⟩
abbrev main_v138 : Ref sig .tc := ⟨.hbm, 340, rfl⟩
abbrev main_cst_44 : Ref sig .tc := ⟨.hbm, 341, rfl⟩
abbrev main_v139 : Ref sig .tc := ⟨.hbm, 342, rfl⟩
abbrev main_v140 : Ref sig .tc := ⟨.hbm, 343, rfl⟩
abbrev main_v141 : Ref sig .tc := ⟨.hbm, 344, rfl⟩
abbrev main_v142 : Ref sig .tc := ⟨.hbm, 345, rfl⟩
abbrev main_v143 : Ref sig .tc := ⟨.hbm, 346, rfl⟩
abbrev main_cst_45 : Ref sig .tc := ⟨.hbm, 347, rfl⟩
abbrev main_v144 : Ref sig .tc := ⟨.hbm, 348, rfl⟩
abbrev main_v145 : Ref sig .tc := ⟨.hbm, 349, rfl⟩
abbrev main_cst_46 : Ref sig .tc := ⟨.hbm, 350, rfl⟩
abbrev main_v146 : Ref sig .tc := ⟨.hbm, 351, rfl⟩
abbrev main_v147 : Ref sig .tc := ⟨.hbm, 352, rfl⟩
abbrev main_cst_47 : Ref sig .tc := ⟨.hbm, 353, rfl⟩
abbrev main_v148 : Ref sig .tc := ⟨.hbm, 354, rfl⟩
abbrev main_v149 : Ref sig .tc := ⟨.hbm, 355, rfl⟩
abbrev main_cst_48 : Ref sig .tc := ⟨.hbm, 356, rfl⟩
abbrev main_cst_49 : Ref sig .tc := ⟨.hbm, 357, rfl⟩
abbrev main_call9_v0 : Ref sig .tc := ⟨.hbm, 358, rfl⟩
abbrev main_call9_v1 : Ref sig .tc := ⟨.hbm, 359, rfl⟩
abbrev main_call9_v2 : Ref sig .tc := ⟨.hbm, 360, rfl⟩
abbrev main_call9_v3 : Ref sig .tc := ⟨.hbm, 361, rfl⟩
abbrev main_call9_v4 : Ref sig .tc := ⟨.hbm, 362, rfl⟩
abbrev main_v150 : Ref sig .tc := ⟨.hbm, 363, rfl⟩
abbrev main_v151 : Ref sig .tc := ⟨.hbm, 364, rfl⟩
abbrev main_v152 : Ref sig .tc := ⟨.hbm, 365, rfl⟩
abbrev main_v153 : Ref sig .tc := ⟨.hbm, 366, rfl⟩
abbrev main_v154 : Ref sig .tc := ⟨.hbm, 367, rfl⟩
abbrev main_v155 : Ref sig .tc := ⟨.hbm, 368, rfl⟩
abbrev main_v156 : Ref sig .tc := ⟨.hbm, 369, rfl⟩
abbrev main_v157 : Ref sig .tc := ⟨.hbm, 370, rfl⟩
abbrev main_cst_50 : Ref sig .tc := ⟨.hbm, 371, rfl⟩
abbrev main_v158 : Ref sig .tc := ⟨.hbm, 372, rfl⟩
abbrev main_v159 : Ref sig .tc := ⟨.hbm, 373, rfl⟩
abbrev main_cst_51 : Ref sig .tc := ⟨.hbm, 374, rfl⟩
abbrev main_v160 : Ref sig .tc := ⟨.hbm, 375, rfl⟩
abbrev main_v161 : Ref sig .tc := ⟨.hbm, 376, rfl⟩
abbrev main_v162 : Ref sig .tc := ⟨.hbm, 377, rfl⟩
abbrev main_v163 : Ref sig .tc := ⟨.hbm, 378, rfl⟩
abbrev main_cst_52 : Ref sig .tc := ⟨.hbm, 379, rfl⟩
abbrev main_v164 : Ref sig .tc := ⟨.hbm, 380, rfl⟩
abbrev main_v165 : Ref sig .tc := ⟨.hbm, 381, rfl⟩
abbrev main_cst_53 : Ref sig .tc := ⟨.hbm, 382, rfl⟩
abbrev main_v166 : Ref sig .tc := ⟨.hbm, 383, rfl⟩
abbrev main_v167 : Ref sig .tc := ⟨.hbm, 384, rfl⟩
abbrev main_c_54 : Ref sig .tc := ⟨.hbm, 385, rfl⟩
abbrev main_call10_cst : Ref sig .tc := ⟨.hbm, 386, rfl⟩
abbrev main_call10_v0 : Ref sig .tc := ⟨.hbm, 387, rfl⟩
abbrev main_call10_v1 : Ref sig .tc := ⟨.hbm, 388, rfl⟩
abbrev main_call10_cst_0 : Ref sig .tc := ⟨.hbm, 389, rfl⟩
abbrev main_call10_v2 : Ref sig .tc := ⟨.hbm, 390, rfl⟩
abbrev main_call10_v3 : Ref sig .tc := ⟨.hbm, 391, rfl⟩
abbrev main_call10_v4 : Ref sig .tc := ⟨.hbm, 392, rfl⟩
abbrev main_call10_v5 : Ref sig .tc := ⟨.hbm, 393, rfl⟩
abbrev main_call10_v6 : Ref sig .tc := ⟨.hbm, 394, rfl⟩
abbrev main_call10_v7 : Ref sig .tc := ⟨.hbm, 395, rfl⟩
abbrev main_call10_cst_1 : Ref sig .tc := ⟨.hbm, 396, rfl⟩
abbrev main_call10_v8 : Ref sig .tc := ⟨.hbm, 397, rfl⟩
abbrev main_call10_cst_2 : Ref sig .tc := ⟨.hbm, 398, rfl⟩
abbrev main_call10_v9 : Ref sig .tc := ⟨.hbm, 399, rfl⟩
abbrev main_call10_v10 : Ref sig .tc := ⟨.hbm, 400, rfl⟩
abbrev main_call10_v11 : Ref sig .tc := ⟨.hbm, 401, rfl⟩
abbrev main_call10_v12 : Ref sig .tc := ⟨.hbm, 402, rfl⟩
abbrev main_call10_cst_3 : Ref sig .tc := ⟨.hbm, 403, rfl⟩
abbrev main_call10_v13 : Ref sig .tc := ⟨.hbm, 404, rfl⟩
abbrev main_call10_cst_4 : Ref sig .tc := ⟨.hbm, 405, rfl⟩
abbrev main_call10_call0_v0 : Ref sig .tc := ⟨.hbm, 406, rfl⟩
abbrev main_call10_call0_v1 : Ref sig .tc := ⟨.hbm, 407, rfl⟩
abbrev main_v168 : Ref sig .tc := ⟨.hbm, 408, rfl⟩
abbrev main_v169 : Ref sig .tc := ⟨.hbm, 409, rfl⟩
abbrev main_v170 : Ref sig .tc := ⟨.hbm, 410, rfl⟩
abbrev main_cst_55 : Ref sig .tc := ⟨.hbm, 411, rfl⟩
abbrev main_v171 : Ref sig .tc := ⟨.hbm, 412, rfl⟩
abbrev main_v172 : Ref sig .tc := ⟨.hbm, 413, rfl⟩
abbrev main_v173 : Ref sig .tc := ⟨.hbm, 414, rfl⟩
abbrev main_v174 : Ref sig .tc := ⟨.hbm, 415, rfl⟩
abbrev main_v175 : Ref sig .tc := ⟨.hbm, 416, rfl⟩
abbrev main_v176 : Ref sig .tc := ⟨.hbm, 417, rfl⟩
abbrev main_v177 : Ref sig .tc := ⟨.hbm, 418, rfl⟩
abbrev main_v178 : Ref sig .tc := ⟨.hbm, 419, rfl⟩
abbrev main_v179 : Ref sig .tc := ⟨.hbm, 420, rfl⟩
abbrev main_v180 : Ref sig .tc := ⟨.hbm, 421, rfl⟩
abbrev main_v181 : Ref sig .tc := ⟨.hbm, 422, rfl⟩
abbrev main_v182 : Ref sig .tc := ⟨.hbm, 423, rfl⟩
abbrev main_v183 : Ref sig .tc := ⟨.hbm, 424, rfl⟩

abbrev nD : Nat := 1
abbrev τ : Topo := Topo.v7x

variable {F : FTy → Type} [FloatOps F]
-- ==== Proof.KernelIdeal.Dn.lean ====
/- One call of the program, the average pool: what its body leaves in each output block, and that it runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x32x224x224 := Rect.unit (s := S1x32x224x224) ![0, 0, 0, 0] S1x32x224x224.size inb_S1x32x224x224_S1x32x224x224_0_0_0_0
abbrev r0_1 : Rect S1x32x3136 := Rect.unit (s := S1x32x3136) ![0, 0, 0] S1x32x3136.size inb_S1x32x3136_S1x32x3136_0_0_0

/-- What the body leaves in an output window, from the input blocks. -/
def out0_1 (x0 : Vec F S1x32x224x224 .f32) : Vec F S1x32x3136 .f32 :=
  View.canon [⟨r0_1, k0_pay1 (View.ld x0 r0_0)⟩]

theorem cover0_1 (p0 : Vec F S1x32x3136 .f32) (y : S1x32x3136.Idx) :
    ∃ pc ∈ ([⟨r0_1, p0⟩] : List (View.Piece (Elt F) S1x32x3136 .f32)), y ∈ pc.1.set :=
  View.cover_of_tiled [⟨r0_1, p0⟩] S1x32x3136.size (by rfl) y

set_option maxHeartbeats 1000000 in
/-- One run of the body on whole buffers: the inputs are read and kept, the outputs are filled. -/
theorem sound_kernel0 (c : Dev nD) (E : Set ℕ) (i : grid0.Coords) (arg2 : Memref sig .tc .vmem S1x32x224x224 .f32) (harg2 : arg2.IsWhole) (arg3 : Memref sig .tc .vmem S1x32x3136 .f32) (harg3 : arg3.IsWhole)
    (x0 : Vec F S1x32x224x224 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__dn_kernel i arg2 harg2 arg3 harg3) K := by
  simp only [cc0__dn_kernel_eq_skeleton]; unfold cc0__dn_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The call's data: every array as found, each input block left in place, each output block as computed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

/-- The body meets the pipeline's demand at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KernelIdeal.Gl.lean ====
/- One call of the program, the global stage: soft assignment, projections, region sums, and the list of the 256 best pixels of each region. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.WordArith.Masks
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The list of the best pixels -/

/-- The rows after `k` rounds, the maximum of each round masked out. -/
def tkW (s : FVec F S16x3136 .f32) : ℕ → FVec F S16x3136 .f32
  | 0 => k1_pay12 s
  | k + 1 => k1_pay16 k1_pay13 (tkW s k)

/-- The list after `k` rounds, begun from whatever the buffer held. -/
def tkT (s : FVec F S16x3136 .f32) (t0 : Vec F S16x256 .f32) : ℕ → Vec F S16x256 .f32
  | 0 => t0
  | k + 1 => if h : k < k1_t1_loop.trips then k1_pay15 k1_pay13 (iota .tc S16x256 32 [1] iota_S16x256_d1_w32) ⟨k, h⟩ (tkW s k) (tkT s t0 k) else tkT s t0 k

/-- The finished list: column `j` is the row maximum's place in round `j`. -/
def tkI (s : FVec F S16x3136 .f32) : Vec F S16x256 .f32 := fun ix =>
  broadcastTo S16x256 (shapeCast S16x1 (k1_pay14 k1_pay13 (tkW s (ix 1).val)) shapeCasts_S16x1_S16x1) broadcasts_S16x1_S16x256 ix

/-- A round writes its own column and leaves the others. -/
theorem tkT_step (s : FVec F S16x3136 .f32) (t : Vec F S16x256 .f32) (k : Fin k1_t1_loop.trips) (ix : S16x256.Idx) :
    k1_pay15 k1_pay13 (iota .tc S16x256 32 [1] iota_S16x256_d1_w32) k (tkW s k) t ix = if (ix 1).val = k.val then tkI s ix else t ix := by
  have hk : k.val < 256 := Nat.lt_of_lt_of_le k.isLt k1_t1_abs.2.1
  have hi : (ix 1).val < 256 := (ix 1).isLt
  have hiv : (Scf.iv 0#32 1#32 k).toNat = k.val := WordArith.toNat_iv_zero_one _ (by omega)
  have hio : (iota .tc S16x256 32 [1] iota_S16x256_d1_w32 ix).toNat = (ix 1).val := by
    simp only [iota, List.foldl_cons, List.foldl_nil, Nat.zero_mul, Nat.zero_add, BitVec.toNat_ofNat]
    exact Nat.mod_eq_of_lt (by omega)
  unfold k1_pay15
  dsimp only
  rw [shapeCast_self]
  unfold select Scalar.select cmpi broadcast
  rw [WordCmp.cmpi_eq_eq_toNat, hiv, hio]
  by_cases h : (ix 1).val = k.val
  · rw [if_pos h, if_pos (by simp [h])]
    unfold tkI; rw [h]
  · rw [if_neg h, if_neg (by simp [h])]

/-- After all rounds nothing of the buffer's first contents is left. -/
theorem tkT_end (s : FVec F S16x3136 .f32) (t0 : Vec F S16x256 .f32) : tkT s t0 k1_t1_loop.trips = tkI s := by
  have H : ∀ k ≤ k1_t1_loop.trips, ∀ ix : S16x256.Idx, (ix 1).val < k → tkT s t0 k ix = tkI s ix := by
    intro k
    induction k with
    | zero => intro _ ix h; exact absurd h (Nat.not_lt_zero _)
    | succ k ih =>
      intro hk ix h
      have hk' : k < k1_t1_loop.trips := hk
      rw [tkT, dif_pos hk', tkT_step s _ ⟨k, hk'⟩ ix]
      by_cases e : (ix 1).val = k
      · rw [if_pos e]
      · rw [if_neg e]; exact ih (Nat.le_of_lt hk') ix (by omega)
  funext ix
  refine H _ (Nat.le_refl _) ix ?_
  have h256 : k1_t1_loop.trips = 256 := by decide
  rw [h256]; exact (ix 1).isLt

/-- One trip's stores: the maximum masked out, and the column of the list. -/
theorem trip_pieces (𝒱 : Variants) (c : Dev nD) (bd : Option 𝒱.V) (i : grid1.Coords) (arg1 : Memref sig .tc .vmem S1x192x3136 .f32) (harg1 : arg1.IsWhole) (arg2 : Memref sig .tc .vmem S1x16x192 .f32) (harg2 : arg2.IsWhole) (arg3 : Memref sig .tc .vmem S1x16x1 .f32) (harg3 : arg3.IsWhole) (arg4 : Memref sig .tc .vmem S1x48x192 .f32) (harg4 : arg4.IsWhole) (arg5 : Memref sig .tc .vmem S1x48x192 .f32) (harg5 : arg5.IsWhole) (arg6 : Memref sig .tc .vmem S1x192x192 .f32) (harg6 : arg6.IsWhole) (arg7 : Memref sig .tc .vmem S1x3136x48 .f32) (harg7 : arg7.IsWhole) (arg8 : Memref sig .tc .vmem S1x3136x192 .f32) (harg8 : arg8.IsWhole) (arg9 : Memref sig .tc .vmem S1x16x48 .f32) (harg9 : arg9.IsWhole) (arg10 : Memref sig .tc .vmem S1x16x192 .f32) (harg10 : arg10.IsWhole) (arg11 : Memref sig .tc .vmem S1x3136x16 .f32) (harg11 : arg11.IsWhole) (arg12 : Memref sig .tc .vmem S1x4096x48 .f32) (harg12 : arg12.IsWhole) (arg13 : Memref sig .tc .vmem S1x16x256 .f32) (harg13 : arg13.IsWhole) (arg14 : Memref sig .tc .vmem S16x3136 .f32) (harg14 : arg14.IsWhole) (arg15 : Memref sig .tc .vmem S16x256 .f32) (harg15 : arg15.IsWhole) (v23 : FVec F S3136x48 .f32) (v65 : FVec F S16x3136 .f32) (v66 : IVec S16x256 32) (k : Fin k1_t1_loop.trips)
    (f14 : BufTy.Contents (Elt F) arg14.view.ty) (f15 : BufTy.Contents (Elt F) arg15.view.ty) :
    tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v23 v65 v66 k f14 f15
      = ([⟨Rect.unit ![0, 0] ![16, 3136] inb_S16x3136_S16x3136_0_0, k1_pay16 v65 (arg14.view.read (Elt F) f14)⟩],
        [⟨Rect.unit ![0, 0] ![16, 256] inb_S16x256_S16x256_0_0, k1_pay15 v65 v66 k (arg14.view.read (Elt F) f14) (arg15.view.read (Elt F) f15)⟩]) := by
  unfold tripL_k1_t1 trip_k1_t1
  dsimp only
  rw [show View.readAt (Elt F) arg14.view (Rect.unit ![0, 0] ![16, 3136] inb_S16x3136_S16x3136_0_0).toLoadRect f14 = arg14.view.read (Elt F) f14 from View.readAt_full _ _ _,
    show View.readAt (Elt F) arg15.view (Rect.unit ![0, 0] ![16, 256] inb_S16x256_S16x256_0_0).toLoadRect f15 = arg15.view.read (Elt F) f15 from View.readAt_full _ _ _]

/-- What the two scratch buffers read after `k` trips. -/
theorem trips_read (𝒱 : Variants) (c : Dev nD) (bd : Option 𝒱.V) (i : grid1.Coords) (arg1 : Memref sig .tc .vmem S1x192x3136 .f32) (harg1 : arg1.IsWhole) (arg2 : Memref sig .tc .vmem S1x16x192 .f32) (harg2 : arg2.IsWhole) (arg3 : Memref sig .tc .vmem S1x16x1 .f32) (harg3 : arg3.IsWhole) (arg4 : Memref sig .tc .vmem S1x48x192 .f32) (harg4 : arg4.IsWhole) (arg5 : Memref sig .tc .vmem S1x48x192 .f32) (harg5 : arg5.IsWhole) (arg6 : Memref sig .tc .vmem S1x192x192 .f32) (harg6 : arg6.IsWhole) (arg7 : Memref sig .tc .vmem S1x3136x48 .f32) (harg7 : arg7.IsWhole) (arg8 : Memref sig .tc .vmem S1x3136x192 .f32) (harg8 : arg8.IsWhole) (arg9 : Memref sig .tc .vmem S1x16x48 .f32) (harg9 : arg9.IsWhole) (arg10 : Memref sig .tc .vmem S1x16x192 .f32) (harg10 : arg10.IsWhole) (arg11 : Memref sig .tc .vmem S1x3136x16 .f32) (harg11 : arg11.IsWhole) (arg12 : Memref sig .tc .vmem S1x4096x48 .f32) (harg12 : arg12.IsWhole) (arg13 : Memref sig .tc .vmem S1x16x256 .f32) (harg13 : arg13.IsWhole) (arg14 : Memref sig .tc .vmem S16x3136 .f32) (harg14 : arg14.IsWhole) (arg15 : Memref sig .tc .vmem S16x256 .f32) (harg15 : arg15.IsWhole) (v23 : FVec F S3136x48 .f32) (s : FVec F S16x3136 .f32)
    (G14 : BufTy.Contents (Elt F) arg14.view.ty) (G15 : BufTy.Contents (Elt F) arg15.view.ty) (h14 : arg14.view.read (Elt F) G14 = k1_pay12 s) : ∀ k ≤ k1_t1_loop.trips,
    arg14.view.read (Elt F) (arg14.view.writes (Elt F) G14 (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v23 k1_pay13 (iota .tc S16x256 32 [1] iota_S16x256_d1_w32) G14 G15 k).1) = tkW s k
    ∧ arg15.view.read (Elt F) (arg15.view.writes (Elt F) G15 (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v23 k1_pay13 (iota .tc S16x256 32 [1] iota_S16x256_d1_w32) G14 G15 k).2)
      = tkT s (arg15.view.read (Elt F) G15) k := by
  intro k
  induction k with
  | zero => intro _; exact ⟨h14, rfl⟩
  | succ k ih =>
    intro hk
    have hk' : k < k1_t1_loop.trips := hk
    obtain ⟨h1, h2⟩ := ih (Nat.le_of_lt hk')
    have e := pb_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v23 k1_pay13 (iota .tc S16x256 32 [1] iota_S16x256_d1_w32) G14 G15 ⟨k, hk'⟩
    rw [trip_pieces, h1, h2] at e
    rw [show pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v23 k1_pay13 (iota .tc S16x256 32 [1] iota_S16x256_d1_w32) G14 G15 (k + 1) = _ from e]
    refine ⟨?_, ?_⟩
    · exact View.read_writes_full _ _ _ _ _
    · rw [tkT, dif_pos hk']; exact View.read_writes_full _ _ _ _ _

/-- The list buffer after the loop, whatever it held before. -/
theorem list_read (𝒱 : Variants) (c : Dev nD) (bd : Option 𝒱.V) (i : grid1.Coords) (arg1 : Memref sig .tc .vmem S1x192x3136 .f32) (harg1 : arg1.IsWhole) (arg2 : Memref sig .tc .vmem S1x16x192 .f32) (harg2 : arg2.IsWhole) (arg3 : Memref sig .tc .vmem S1x16x1 .f32) (harg3 : arg3.IsWhole) (arg4 : Memref sig .tc .vmem S1x48x192 .f32) (harg4 : arg4.IsWhole) (arg5 : Memref sig .tc .vmem S1x48x192 .f32) (harg5 : arg5.IsWhole) (arg6 : Memref sig .tc .vmem S1x192x192 .f32) (harg6 : arg6.IsWhole) (arg7 : Memref sig .tc .vmem S1x3136x48 .f32) (harg7 : arg7.IsWhole) (arg8 : Memref sig .tc .vmem S1x3136x192 .f32) (harg8 : arg8.IsWhole) (arg9 : Memref sig .tc .vmem S1x16x48 .f32) (harg9 : arg9.IsWhole) (arg10 : Memref sig .tc .vmem S1x16x192 .f32) (harg10 : arg10.IsWhole) (arg11 : Memref sig .tc .vmem S1x3136x16 .f32) (harg11 : arg11.IsWhole) (arg12 : Memref sig .tc .vmem S1x4096x48 .f32) (harg12 : arg12.IsWhole) (arg13 : Memref sig .tc .vmem S1x16x256 .f32) (harg13 : arg13.IsWhole) (arg14 : Memref sig .tc .vmem S16x3136 .f32) (harg14 : arg14.IsWhole) (arg15 : Memref sig .tc .vmem S16x256 .f32) (harg15 : arg15.IsWhole) (v23 : FVec F S3136x48 .f32) (s : FVec F S16x3136 .f32)
    (G14 : BufTy.Contents (Elt F) arg14.view.ty) (G15 : BufTy.Contents (Elt F) arg15.view.ty) (h14 : arg14.view.read (Elt F) G14 = k1_pay12 s) :
    arg15.view.read (Elt F) (arg15.view.writes (Elt F) G15 (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v23 k1_pay13 (iota .tc S16x256 32 [1] iota_S16x256_d1_w32) G14 G15 k1_t1_loop.trips).2)
      = tkI s := by
  rw [(trips_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v23 s G14 G15 h14 _ (Nat.le_refl _)).2, tkT_end]

/-! ## The body -/

abbrev r1_0 : Rect S1x192x3136 := Rect.unit ![0, 0, 0] S1x192x3136.size inb_S1x192x3136_S1x192x3136_0_0_0
abbrev r1_1 : Rect S1x16x192 := Rect.unit ![0, 0, 0] S1x16x192.size inb_S1x16x192_S1x16x192_0_0_0
abbrev r1_2 : Rect S1x16x1 := Rect.unit ![0, 0, 0] S1x16x1.size inb_S1x16x1_S1x16x1_0_0_0
abbrev r1_3 : Rect S1x48x192 := Rect.unit ![0, 0, 0] S1x48x192.size inb_S1x48x192_S1x48x192_0_0_0
abbrev r1_4 : Rect S1x48x192 := Rect.unit ![0, 0, 0] S1x48x192.size inb_S1x48x192_S1x48x192_0_0_0
abbrev r1_5 : Rect S1x192x192 := Rect.unit ![0, 0, 0] S1x192x192.size inb_S1x192x192_S1x192x192_0_0_0

/-- The soft assignment of the pixels to the regions. -/
def gSem (x0 : Vec F S1x192x3136 .f32) (x1 : Vec F S1x16x192 .f32) (x2 : Vec F S1x16x1 .f32) (x3 : Vec F S1x48x192 .f32) (x4 : Vec F S1x48x192 .f32) (x5 : Vec F S1x192x192 .f32) : FVec F S16x3136 .f32 := k1_pay4 (View.ld x0 r1_0) (View.ld x1 r1_1) (View.ld x2 r1_2)
/-- The keys. -/
def gK (x0 : Vec F S1x192x3136 .f32) (x1 : Vec F S1x16x192 .f32) (x2 : Vec F S1x16x1 .f32) (x3 : Vec F S1x48x192 .f32) (x4 : Vec F S1x48x192 .f32) (x5 : Vec F S1x192x192 .f32) : FVec F S3136x48 .f32 := k1_pay5 (View.ld x0 r1_0) (View.ld x4 r1_4)
/-- The values. -/
def gV (x0 : Vec F S1x192x3136 .f32) (x1 : Vec F S1x16x192 .f32) (x2 : Vec F S1x16x1 .f32) (x3 : Vec F S1x48x192 .f32) (x4 : Vec F S1x48x192 .f32) (x5 : Vec F S1x192x192 .f32) : FVec F S3136x192 .f32 := k1_pay6 (View.ld x0 r1_0) (View.ld x5 r1_5)
/-- The list of the best pixels of each region. -/
def gT (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S16x256 .f32 := tkI (gSem x0 x1 x2 x3 x4 x5)

/-- What the body stores into output window 6. -/
def p1_6 (x0 : Vec F S1x192x3136 .f32) (x1 : Vec F S1x16x192 .f32) (x2 : Vec F S1x16x1 .f32) (x3 : Vec F S1x48x192 .f32) (x4 : Vec F S1x48x192 .f32) (x5 : Vec F S1x192x192 .f32) : List (View.Piece (Elt F) S1x3136x48 .f32) :=
  [⟨Rect.unit ![0, 0, 0] S1x3136x48.size inb_S1x3136x48_S1x3136x48_0_0_0, k1_pay7 (View.ld x0 r1_0) (View.ld x3 r1_3)⟩]
def out1_6 (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S1x3136x48 .f32 := View.canon (p1_6 x0 x1 x2 x3 x4 x5)
theorem cover1_6 (x0 : Vec F S1x192x3136 .f32) (x1 : Vec F S1x16x192 .f32) (x2 : Vec F S1x16x1 .f32) (x3 : Vec F S1x48x192 .f32) (x4 : Vec F S1x48x192 .f32) (x5 : Vec F S1x192x192 .f32) (y : S1x3136x48.Idx) : ∃ pc ∈ p1_6 x0 x1 x2 x3 x4 x5, y ∈ pc.1.set :=
  View.cover_of_tiledL (p1_6 x0 x1 x2 x3 x4 x5) S1x3136x48.size (by sl_kernel_rfl) y

/-- What the body stores into output window 7. -/
def p1_7 (x0 : Vec F S1x192x3136 .f32) (x1 : Vec F S1x16x192 .f32) (x2 : Vec F S1x16x1 .f32) (x3 : Vec F S1x48x192 .f32) (x4 : Vec F S1x48x192 .f32) (x5 : Vec F S1x192x192 .f32) : List (View.Piece (Elt F) S1x3136x192 .f32) :=
  [⟨Rect.unit ![0, 0, 0] S1x3136x192.size inb_S1x3136x192_S1x3136x192_0_0_0, k1_pay8 (gV x0 x1 x2 x3 x4 x5)⟩]
def out1_7 (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S1x3136x192 .f32 := View.canon (p1_7 x0 x1 x2 x3 x4 x5)
theorem cover1_7 (x0 : Vec F S1x192x3136 .f32) (x1 : Vec F S1x16x192 .f32) (x2 : Vec F S1x16x1 .f32) (x3 : Vec F S1x48x192 .f32) (x4 : Vec F S1x48x192 .f32) (x5 : Vec F S1x192x192 .f32) (y : S1x3136x192.Idx) : ∃ pc ∈ p1_7 x0 x1 x2 x3 x4 x5, y ∈ pc.1.set :=
  View.cover_of_tiledL (p1_7 x0 x1 x2 x3 x4 x5) S1x3136x192.size (by sl_kernel_rfl) y

/-- What the body stores into output window 8. -/
def p1_8 (x0 : Vec F S1x192x3136 .f32) (x1 : Vec F S1x16x192 .f32) (x2 : Vec F S1x16x1 .f32) (x3 : Vec F S1x48x192 .f32) (x4 : Vec F S1x48x192 .f32) (x5 : Vec F S1x192x192 .f32) : List (View.Piece (Elt F) S1x16x48 .f32) :=
  [⟨Rect.unit ![0, 0, 0] S1x16x48.size inb_S1x16x48_S1x16x48_0_0_0, k1_pay9 (gSem x0 x1 x2 x3 x4 x5) (gK x0 x1 x2 x3 x4 x5)⟩]
def out1_8 (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S1x16x48 .f32 := View.canon (p1_8 x0 x1 x2 x3 x4 x5)
theorem cover1_8 (x0 : Vec F S1x192x3136 .f32) (x1 : Vec F S1x16x192 .f32) (x2 : Vec F S1x16x1 .f32) (x3 : Vec F S1x48x192 .f32) (x4 : Vec F S1x48x192 .f32) (x5 : Vec F S1x192x192 .f32) (y : S1x16x48.Idx) : ∃ pc ∈ p1_8 x0 x1 x2 x3 x4 x5, y ∈ pc.1.set :=
  View.cover_of_tiledL (p1_8 x0 x1 x2 x3 x4 x5) S1x16x48.size (by sl_kernel_rfl) y

/-- What the body stores into output window 9. -/
def p1_9 (x0 : Vec F S1x192x3136 .f32) (x1 : Vec F S1x16x192 .f32) (x2 : Vec F S1x16x1 .f32) (x3 : Vec F S1x48x192 .f32) (x4 : Vec F S1x48x192 .f32) (x5 : Vec F S1x192x192 .f32) : List (View.Piece (Elt F) S1x16x192 .f32) :=
  [⟨Rect.unit ![0, 0, 0] S1x16x192.size inb_S1x16x192_S1x16x192_0_0_0, k1_pay10 (gSem x0 x1 x2 x3 x4 x5) (gV x0 x1 x2 x3 x4 x5)⟩]
def out1_9 (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S1x16x192 .f32 := View.canon (p1_9 x0 x1 x2 x3 x4 x5)
theorem cover1_9 (x0 : Vec F S1x192x3136 .f32) (x1 : Vec F S1x16x192 .f32) (x2 : Vec F S1x16x1 .f32) (x3 : Vec F S1x48x192 .f32) (x4 : Vec F S1x48x192 .f32) (x5 : Vec F S1x192x192 .f32) (y : S1x16x192.Idx) : ∃ pc ∈ p1_9 x0 x1 x2 x3 x4 x5, y ∈ pc.1.set :=
  View.cover_of_tiledL (p1_9 x0 x1 x2 x3 x4 x5) S1x16x192.size (by sl_kernel_rfl) y

/-- What the body stores into output window 10. -/
def p1_10 (x0 : Vec F S1x192x3136 .f32) (x1 : Vec F S1x16x192 .f32) (x2 : Vec F S1x16x1 .f32) (x3 : Vec F S1x48x192 .f32) (x4 : Vec F S1x48x192 .f32) (x5 : Vec F S1x192x192 .f32) : List (View.Piece (Elt F) S1x3136x16 .f32) :=
  [⟨Rect.unit ![0, 0, 0] S1x3136x16.size inb_S1x3136x16_S1x3136x16_0_0_0, k1_pay11 (gSem x0 x1 x2 x3 x4 x5)⟩]
def out1_10 (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S1x3136x16 .f32 := View.canon (p1_10 x0 x1 x2 x3 x4 x5)
theorem cover1_10 (x0 : Vec F S1x192x3136 .f32) (x1 : Vec F S1x16x192 .f32) (x2 : Vec F S1x16x1 .f32) (x3 : Vec F S1x48x192 .f32) (x4 : Vec F S1x48x192 .f32) (x5 : Vec F S1x192x192 .f32) (y : S1x3136x16.Idx) : ∃ pc ∈ p1_10 x0 x1 x2 x3 x4 x5, y ∈ pc.1.set :=
  View.cover_of_tiledL (p1_10 x0 x1 x2 x3 x4 x5) S1x3136x16.size (by sl_kernel_rfl) y

/-- What the body stores into output window 11. -/
def p1_11 (x0 : Vec F S1x192x3136 .f32) (x1 : Vec F S1x16x192 .f32) (x2 : Vec F S1x16x1 .f32) (x3 : Vec F S1x48x192 .f32) (x4 : Vec F S1x48x192 .f32) (x5 : Vec F S1x192x192 .f32) : List (View.Piece (Elt F) S1x4096x48 .f32) :=
  [
    ⟨Rect.unit ![0, 3840, 0] S1x256x48.size inb_S1x4096x48_S1x256x48_0_3840_0, k1_pay2 (gK x0 x1 x2 x3 x4 x5) (gT x0 x1 x2 x3 x4 x5) (k1_pay18 (F := F))⟩,
    ⟨Rect.unit ![0, 3584, 0] S1x256x48.size inb_S1x4096x48_S1x256x48_0_3584_0, k1_pay1 (k1_pay36 (gK x0 x1 x2 x3 x4 x5) (gT x0 x1 x2 x3 x4 x5) (k1_pay18 (F := F)))⟩,
    ⟨Rect.unit ![0, 3328, 0] S1x256x48.size inb_S1x4096x48_S1x256x48_0_3328_0, k1_pay35 (gK x0 x1 x2 x3 x4 x5) (gT x0 x1 x2 x3 x4 x5) (k1_pay18 (F := F))⟩,
    ⟨Rect.unit ![0, 3072, 0] S1x256x48.size inb_S1x4096x48_S1x256x48_0_3072_0, k1_pay34 (gK x0 x1 x2 x3 x4 x5) (gT x0 x1 x2 x3 x4 x5) (k1_pay18 (F := F))⟩,
    ⟨Rect.unit ![0, 2816, 0] S1x256x48.size inb_S1x4096x48_S1x256x48_0_2816_0, k1_pay33 (gK x0 x1 x2 x3 x4 x5) (gT x0 x1 x2 x3 x4 x5) (k1_pay18 (F := F))⟩,
    ⟨Rect.unit ![0, 2560, 0] S1x256x48.size inb_S1x4096x48_S1x256x48_0_2560_0, k1_pay32 (k1_pay31 (gK x0 x1 x2 x3 x4 x5) (gT x0 x1 x2 x3 x4 x5) (k1_pay18 (F := F)))⟩,
    ⟨Rect.unit ![0, 2304, 0] S1x256x48.size inb_S1x4096x48_S1x256x48_0_2304_0, k1_pay30 (gK x0 x1 x2 x3 x4 x5) (gT x0 x1 x2 x3 x4 x5) (k1_pay18 (F := F))⟩,
    ⟨Rect.unit ![0, 2048, 0] S1x256x48.size inb_S1x4096x48_S1x256x48_0_2048_0, k1_pay29 (gK x0 x1 x2 x3 x4 x5) (gT x0 x1 x2 x3 x4 x5) (k1_pay18 (F := F))⟩,
    ⟨Rect.unit ![0, 1792, 0] S1x256x48.size inb_S1x4096x48_S1x256x48_0_1792_0, k1_pay28 (gK x0 x1 x2 x3 x4 x5) (gT x0 x1 x2 x3 x4 x5) (k1_pay18 (F := F))⟩,
    ⟨Rect.unit ![0, 1536, 0] S1x256x48.size inb_S1x4096x48_S1x256x48_0_1536_0, k1_pay27 (k1_pay26 (gK x0 x1 x2 x3 x4 x5) (gT x0 x1 x2 x3 x4 x5) (k1_pay18 (F := F)))⟩,
    ⟨Rect.unit ![0, 1280, 0] S1x256x48.size inb_S1x4096x48_S1x256x48_0_1280_0, k1_pay25 (gK x0 x1 x2 x3 x4 x5) (gT x0 x1 x2 x3 x4 x5) (k1_pay18 (F := F))⟩,
    ⟨Rect.unit ![0, 1024, 0] S1x256x48.size inb_S1x4096x48_S1x256x48_0_1024_0, k1_pay24 (gK x0 x1 x2 x3 x4 x5) (gT x0 x1 x2 x3 x4 x5) (k1_pay18 (F := F))⟩,
    ⟨Rect.unit ![0, 768, 0] S1x256x48.size inb_S1x4096x48_S1x256x48_0_768_0, k1_pay23 (gK x0 x1 x2 x3 x4 x5) (gT x0 x1 x2 x3 x4 x5) (k1_pay18 (F := F))⟩,
    ⟨Rect.unit ![0, 512, 0] S1x256x48.size inb_S1x4096x48_S1x256x48_0_512_0, k1_pay22 (k1_pay21 (gK x0 x1 x2 x3 x4 x5) (gT x0 x1 x2 x3 x4 x5))⟩,
    ⟨Rect.unit ![0, 256, 0] S1x256x48.size inb_S1x4096x48_S1x256x48_0_256_0, k1_pay20 (gK x0 x1 x2 x3 x4 x5) (gT x0 x1 x2 x3 x4 x5)⟩,
    ⟨Rect.unit ![0, 0, 0] S1x256x48.size inb_S1x4096x48_S1x256x48_0_0_0, k1_pay19 (gK x0 x1 x2 x3 x4 x5) (gT x0 x1 x2 x3 x4 x5)⟩]
def out1_11 (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S1x4096x48 .f32 := View.canon (p1_11 x0 x1 x2 x3 x4 x5)
theorem cover1_11 (x0 : Vec F S1x192x3136 .f32) (x1 : Vec F S1x16x192 .f32) (x2 : Vec F S1x16x1 .f32) (x3 : Vec F S1x48x192 .f32) (x4 : Vec F S1x48x192 .f32) (x5 : Vec F S1x192x192 .f32) (y : S1x4096x48.Idx) : ∃ pc ∈ p1_11 x0 x1 x2 x3 x4 x5, y ∈ pc.1.set :=
  View.cover_of_tiledL (p1_11 x0 x1 x2 x3 x4 x5) S1x256x48.size (by sl_kernel_rfl) y

/-- What the body stores into output window 12. -/
def p1_12 (x0 : Vec F S1x192x3136 .f32) (x1 : Vec F S1x16x192 .f32) (x2 : Vec F S1x16x1 .f32) (x3 : Vec F S1x48x192 .f32) (x4 : Vec F S1x48x192 .f32) (x5 : Vec F S1x192x192 .f32) : List (View.Piece (Elt F) S1x16x256 .f32) :=
  [⟨Rect.unit ![0, 0, 0] S1x16x256.size inb_S1x16x256_S1x16x256_0_0_0, k1_pay17 (gT x0 x1 x2 x3 x4 x5)⟩]
def out1_12 (x0 : Vec F S1x192x3136 .f32) (x1 : Vec F S1x16x192 .f32) (x2 : Vec F S1x16x1 .f32) (x3 : Vec F S1x48x192 .f32) (x4 : Vec F S1x48x192 .f32) (x5 : Vec F S1x192x192 .f32) : Vec F S1x16x256 .f32 := View.canon (p1_12 x0 x1 x2 x3 x4 x5)
theorem cover1_12 (x0 : Vec F S1x192x3136 .f32) (x1 : Vec F S1x16x192 .f32) (x2 : Vec F S1x16x1 .f32) (x3 : Vec F S1x48x192 .f32) (x4 : Vec F S1x48x192 .f32) (x5 : Vec F S1x192x192 .f32) (y : S1x16x256.Idx) : ∃ pc ∈ p1_12 x0 x1 x2 x3 x4 x5, y ∈ pc.1.set :=
  View.cover_of_tiledL (p1_12 x0 x1 x2 x3 x4 x5) S1x16x256.size (by sl_kernel_rfl) y

set_option maxHeartbeats 4000000 in
/-- One run of the body on whole buffers: the inputs are read and kept, the outputs are filled, the scratch buffers are left at something. -/
theorem sound_kernel1 (c : Dev nD) (i : grid1.Coords) (arg1 : Memref sig .tc .vmem S1x192x3136 .f32) (harg1 : arg1.IsWhole) (arg2 : Memref sig .tc .vmem S1x16x192 .f32) (harg2 : arg2.IsWhole) (arg3 : Memref sig .tc .vmem S1x16x1 .f32) (harg3 : arg3.IsWhole) (arg4 : Memref sig .tc .vmem S1x48x192 .f32) (harg4 : arg4.IsWhole) (arg5 : Memref sig .tc .vmem S1x48x192 .f32) (harg5 : arg5.IsWhole) (arg6 : Memref sig .tc .vmem S1x192x192 .f32) (harg6 : arg6.IsWhole) (arg7 : Memref sig .tc .vmem S1x3136x48 .f32) (harg7 : arg7.IsWhole) (arg8 : Memref sig .tc .vmem S1x3136x192 .f32) (harg8 : arg8.IsWhole) (arg9 : Memref sig .tc .vmem S1x16x48 .f32) (harg9 : arg9.IsWhole) (arg10 : Memref sig .tc .vmem S1x16x192 .f32) (harg10 : arg10.IsWhole) (arg11 : Memref sig .tc .vmem S1x3136x16 .f32) (harg11 : arg11.IsWhole) (arg12 : Memref sig .tc .vmem S1x4096x48 .f32) (harg12 : arg12.IsWhole) (arg13 : Memref sig .tc .vmem S1x16x256 .f32) (harg13 : arg13.IsWhole) (arg14 : Memref sig .tc .vmem S16x3136 .f32) (harg14 : arg14.IsWhole) (arg15 : Memref sig .tc .vmem S16x256 .f32) (harg15 : arg15.IsWhole) (x0 : Vec F S1x192x3136 .f32) (x1 : Vec F S1x16x192 .f32) (x2 : Vec F S1x16x1 .f32) (x3 : Vec F S1x48x192 .f32) (x4 : Vec F S1x48x192 .f32) (x5 : Vec F S1x192x192 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5) ∗ owns (c : Thread nD τ) arg10 fullShare (out1_9 x0 x1 x2 x3 x4 x5) ∗ owns (c : Thread nD τ) arg11 fullShare (out1_10 x0 x1 x2 x3 x4 x5) ∗ owns (c : Thread nD τ) arg12 fullShare (out1_11 x0 x1 x2 x3 x4 x5) ∗ owns (c : Thread nD τ) arg13 fullShare (out1_12 x0 x1 x2 x3 x4 x5) ∗ (∃ d, owns (c : Thread nD τ) arg14 fullShare d) ∗ (∃ d, owns (c : Thread nD τ) arg15 fullShare d)) -∗ K ⟨⟩))
      ⊢ wp frame (wpE (defs₀ (F := F)) Variants.none c none) E (cc1__global_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__global_kernel_eq_skeleton]; unfold cc1__global_kernel_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5
  sl_exec
  sl_step
  have hv : sound_kernel1.sl.v68 c i arg1 harg1 arg2 harg2 arg3 harg3 arg4 harg4 arg5 harg5 arg6 harg6 arg7 harg7 arg8 harg8 arg9 harg9 arg10 harg10 arg11 harg11 arg12 harg12 arg13 harg13 arg14 harg14 arg15 harg15 f0 f1 f2 f4 f14 = gT (arg1.view.read (Elt F) f0) (arg2.view.read (Elt F) f1) (arg3.view.read (Elt F) f2) (arg4.view.read (Elt F) f3) (arg5.view.read (Elt F) f4) (arg6.view.read (Elt F) f5) := by
    unfold sound_kernel1.sl.v68
    refine (View.readAt_full _ _ _).trans ?_
    exact list_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ (gSem (arg1.view.read (Elt F) f0) (arg2.view.read (Elt F) f1) (arg3.view.read (Elt F) f2) (arg4.view.read (Elt F) f3) (arg5.view.read (Elt F) f4) (arg6.view.read (Elt F) f5)) _ _ (View.read_writes_full _ _ _ _ _)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ (p1_6 (arg1.view.read (Elt F) f0) (arg2.view.read (Elt F) f1) (arg3.view.read (Elt F) f2) (arg4.view.read (Elt F) f3) (arg5.view.read (Elt F) f4) (arg6.view.read (Elt F) f5)) (cover1_6 _ _ _ _ _ _)
  isplitl [H7]
  · iexists _; isplitr
    swap; · iexact H7
    ipureintro
    exact View.read_writes_eq_canon _ _ (p1_7 (arg1.view.read (Elt F) f0) (arg2.view.read (Elt F) f1) (arg3.view.read (Elt F) f2) (arg4.view.read (Elt F) f3) (arg5.view.read (Elt F) f4) (arg6.view.read (Elt F) f5)) (cover1_7 _ _ _ _ _ _)
  isplitl [H8]
  · iexists _; isplitr
    swap; · iexact H8
    ipureintro
    exact View.read_writes_eq_canon _ _ (p1_8 (arg1.view.read (Elt F) f0) (arg2.view.read (Elt F) f1) (arg3.view.read (Elt F) f2) (arg4.view.read (Elt F) f3) (arg5.view.read (Elt F) f4) (arg6.view.read (Elt F) f5)) (cover1_8 _ _ _ _ _ _)
  isplitl [H9]
  · iexists _; isplitr
    swap; · iexact H9
    ipureintro
    exact View.read_writes_eq_canon _ _ (p1_9 (arg1.view.read (Elt F) f0) (arg2.view.read (Elt F) f1) (arg3.view.read (Elt F) f2) (arg4.view.read (Elt F) f3) (arg5.view.read (Elt F) f4) (arg6.view.read (Elt F) f5)) (cover1_9 _ _ _ _ _ _)
  isplitl [H10]
  · iexists _; isplitr
    swap; · iexact H10
    ipureintro
    exact View.read_writes_eq_canon _ _ (p1_10 (arg1.view.read (Elt F) f0) (arg2.view.read (Elt F) f1) (arg3.view.read (Elt F) f2) (arg4.view.read (Elt F) f3) (arg5.view.read (Elt F) f4) (arg6.view.read (Elt F) f5)) (cover1_10 _ _ _ _ _ _)
  isplitl [H11]
  · iexists _; isplitr
    swap; · iexact H11
    ipureintro
    refine Eq.trans (congrArg (fun v => View.read (Elt F) _ (View.writes _ (Elt F) _ v)) ?_) (View.read_writes_eq_canon _ _ (p1_11 (arg1.view.read (Elt F) f0) (arg2.view.read (Elt F) f1) (arg3.view.read (Elt F) f2) (arg4.view.read (Elt F) f3) (arg5.view.read (Elt F) f4) (arg6.view.read (Elt F) f5)) (cover1_11 _ _ _ _ _ _))
    unfold p1_11; rw [← hv]; rfl
  isplitl [H12]
  · iexists _; isplitr
    swap; · iexact H12
    ipureintro
    refine Eq.trans (congrArg (fun v => View.read (Elt F) _ (View.writes _ (Elt F) _ v)) ?_) (View.read_writes_eq_canon _ _ (p1_12 (arg1.view.read (Elt F) f0) (arg2.view.read (Elt F) f1) (arg3.view.read (Elt F) f2) (arg4.view.read (Elt F) f3) (arg5.view.read (Elt F) f4) (arg6.view.read (Elt F) f5)) (cover1_12 _ _ _ _ _ _))
    unfold p1_12; rw [← hv]
  isplitl [H13]
  · iexists _, _; isplitr; swap; · iexact H13
    ipureintro; rfl
  iexists _, _; isplitr; swap; · iexact H14
  ipureintro; rfl

/-! ## The call -/

-- what the TensorCore's buffers hold when the call is entered
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev scM1_0 : Memref sig .tc .vmem S16x3136 .f32 := Memref.whole cc1_scratch0
abbrev scM1_1 : Memref sig .tc .vmem S16x256 .f32 := Memref.whole cc1_scratch1

theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ Pipeline.scopedRestBut spec1 c [cc1_scratch0, cc1_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc]

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Pipeline.scopedRestBut spec1 c [cc1_scratch0, cc1_scratch1]) ∗ (∃ r, prngReg c r)) := by
  unfold Pipeline.ΦA; rw [scopedRest1_flat]; simp only [scM1_0, scM1_1, owns_whole]; try rfl
/-- The call's data: every array as found, each input block left in place, each output block as computed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t) (iblk1 V c 3 t) (iblk1 V c 4 t) (iblk1 V c 5 t)
    | ⟨10, _⟩ => out1_10 (iblk1 V c 0 t) (iblk1 V c 1 t) (iblk1 V c 2 t) (iblk1 V c 3 t) (iblk1 V c 4 t) (iblk1 V c 5 t)
    | ⟨11, _⟩ => out1_11 (iblk1 V c 0 t) (iblk1 V c 1 t) (iblk1 V c 2 t) (iblk1 V c 3 t) (iblk1 V c 4 t) (iblk1 V c 5 t)
    | ⟨12, _⟩ => out1_12 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (out1_6 (iblk1 V c 0 t) (iblk1 V c 1 t) (iblk1 V c 2 t) (iblk1 V c 3 t) (iblk1 V c 4 t) (iblk1 V c 5 t)) := by dsimp only [dat1]
theorem after1_7 (c : Dev nD) (t : Fin cfg1.N) : (dat1 V c).after 7 t = (out1_7 (iblk1 V c 0 t) (iblk1 V c 1 t) (iblk1 V c 2 t) (iblk1 V c 3 t) (iblk1 V c 4 t) (iblk1 V c 5 t)) := by dsimp only [dat1]
theorem after1_8 (c : Dev nD) (t : Fin cfg1.N) : (dat1 V c).after 8 t = (out1_8 (iblk1 V c 0 t) (iblk1 V c 1 t) (iblk1 V c 2 t) (iblk1 V c 3 t) (iblk1 V c 4 t) (iblk1 V c 5 t)) := by dsimp only [dat1]
theorem after1_9 (c : Dev nD) (t : Fin cfg1.N) : (dat1 V c).after 9 t = (out1_9 (iblk1 V c 0 t) (iblk1 V c 1 t) (iblk1 V c 2 t) (iblk1 V c 3 t) (iblk1 V c 4 t) (iblk1 V c 5 t)) := by dsimp only [dat1]
theorem after1_10 (c : Dev nD) (t : Fin cfg1.N) : (dat1 V c).after 10 t = (out1_10 (iblk1 V c 0 t) (iblk1 V c 1 t) (iblk1 V c 2 t) (iblk1 V c 3 t) (iblk1 V c 4 t) (iblk1 V c 5 t)) := by dsimp only [dat1]
theorem after1_11 (c : Dev nD) (t : Fin cfg1.N) : (dat1 V c).after 11 t = (out1_11 (iblk1 V c 0 t) (iblk1 V c 1 t) (iblk1 V c 2 t) (iblk1 V c 3 t) (iblk1 V c 4 t) (iblk1 V c 5 t)) := by dsimp only [dat1]
theorem after1_12 (c : Dev nD) (t : Fin cfg1.N) : (dat1 V c).after 12 t = (out1_12 (iblk1 V c 0 t) (iblk1 V c 1 t) (iblk1 V c 2 t) (iblk1 V c 3 t) (iblk1 V c 4 t) (iblk1 V c 5 t)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  rw [show (dat1 V c).Φ t.castSucc = Pipeline.ΦA spec1 c from rfl, PhiA1_eq]
  iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 HR2 Hg]
  · isplitl [HS0 HS1 HR2]
    · isplitl [HS0]; · iexact HS0
      isplitl [HS1]; · iexact HS1
      iexact HR2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row1 (t : Fin cfg1.N) :
    defs₀ (F := F) .tc cfg1.body (cfg1.bodyArgs t (cfg1.slots t)) = bodyAt1 t := by
  unfold defs₀; rw [Defs.onTc_tc]

/-- The body meets the pipeline's demand at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.KernelIdeal.At.lean ====
/- One call of the program, the attention over a tile of pixels: what its body leaves in each output block, and that it runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-- Window `w`'s block of its array at grid point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x448x48 := Rect.unit (s := S1x448x48) ![0, 0, 0] S1x448x48.size inb_S1x448x48_S1x448x48_0_0_0
abbrev r2_1 : Rect S1x448x16 := Rect.unit (s := S1x448x16) ![0, 0, 0] S1x448x16.size inb_S1x448x16_S1x448x16_0_0_0
abbrev r2_2 : Rect S1x4096x48 := Rect.unit (s := S1x4096x48) ![0, 0, 0] S1x4096x48.size inb_S1x4096x48_S1x4096x48_0_0_0
abbrev r2_3 : Rect S1x16x256 := Rect.unit (s := S1x16x256) ![0, 0, 0] S1x16x256.size inb_S1x16x256_S1x16x256_0_0_0
abbrev r2_4 : Rect S1x3136x192 := Rect.unit (s := S1x3136x192) ![0, 0, 0] S1x3136x192.size inb_S1x3136x192_S1x3136x192_0_0_0
abbrev r2_5 : Rect S1x16x48 := Rect.unit (s := S1x16x48) ![0, 0, 0] S1x16x48.size inb_S1x16x48_S1x16x48_0_0_0
abbrev r2_6 : Rect S1x16x192 := Rect.unit (s := S1x16x192) ![0, 0, 0] S1x16x192.size inb_S1x16x192_S1x16x192_0_0_0
abbrev r2_7 : Rect S1x1x1 := Rect.unit (s := S1x1x1) ![0, 0, 0] S1x1x1.size inb_S1x1x1_S1x1x1_0_0_0
abbrev r2_8 : Rect S1x192x192 := Rect.unit (s := S1x192x192) ![0, 0, 0] S1x192x192.size inb_S1x192x192_S1x192x192_0_0_0
abbrev r2_9 : Rect S1x1x192 := Rect.unit (s := S1x1x192) ![0, 0, 0] S1x1x192.size inb_S1x1x192_S1x1x192_0_0_0
abbrev r2_10 : Rect S1x448x192 := Rect.unit (s := S1x448x192) ![0, 0, 0] S1x448x192.size inb_S1x448x192_S1x448x192_0_0_0

def k2_pay47 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x16 .f32 :=
  k2_pay3 (View.ld x1 r2_1) -- `v3`
def k2_pay48 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x4096 .f32 :=
  k2_pay7 (View.ld x0 r2_0) (View.ld x2 r2_2) -- `v29`
def k2_pay49 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x256 .f32 :=
  k2_pay8 (k2_pay47 x0 x1 x2 x3 x4 x5 x6 x7 x8 x9) (k2_pay48 x0 x1 x2 x3 x4 x5 x6 x7 x8 x9) -- `v85`
def k2_pay50 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x256 .f32 :=
  k2_pay9 (k2_pay48 x0 x1 x2 x3 x4 x5 x6 x7 x8 x9) -- `v87`
def k2_pay51 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x256 .f32 :=
  k2_pay10 (k2_pay47 x0 x1 x2 x3 x4 x5 x6 x7 x8 x9) -- `v88`
def k2_pay52 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : IVec S448x256 32 :=
  iota .tc S448x256 32 [1] iota_S448x256_d1_w32 -- `v112`
def k2_pay53 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x256 .f32 :=
  k2_pay12 (k2_pay47 x0 x1 x2 x3 x4 x5 x6 x7 x8 x9) (k2_pay4 (View.ld x3 r2_3)) -- `v111`
def k2_pay54 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x1 .f32 :=
  k2_pay13 (k2_pay47 x0 x1 x2 x3 x4 x5 x6 x7 x8 x9) (k2_pay48 x0 x1 x2 x3 x4 x5 x6 x7 x8 x9) (k2_pay49 x0 x1 x2 x3 x4 x5 x6 x7 x8 x9) (k2_pay50 x0 x1 x2 x3 x4 x5 x6 x7 x8 x9) (k2_pay51 x0 x1 x2 x3 x4 x5 x6 x7 x8 x9) -- `v114`
def k2_pay55 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x1 .f32 :=
  k2_pay16 (k2_pay47 x0 x1 x2 x3 x4 x5 x6 x7 x8 x9) (k2_pay48 x0 x1 x2 x3 x4 x5 x6 x7 x8 x9) (k2_pay49 x0 x1 x2 x3 x4 x5 x6 x7 x8 x9) (k2_pay50 x0 x1 x2 x3 x4 x5 x6 x7 x8 x9) (k2_pay51 x0 x1 x2 x3 x4 x5 x6 x7 x8 x9) -- `v126`
def k2_pay56 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x256 .f32 :=
  k2_pay18 (k2_pay47 x0 x1 x2 x3 x4 x5 x6 x7 x8 x9) (k2_pay48 x0 x1 x2 x3 x4 x5 x6 x7 x8 x9) (k2_pay49 x0 x1 x2 x3 x4 x5 x6 x7 x8 x9) (k2_pay50 x0 x1 x2 x3 x4 x5 x6 x7 x8 x9) (k2_pay51 x0 x1 x2 x3 x4 x5 x6 x7 x8 x9) -- `v136`
def k2_pay57 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x1 .f32 :=
  k2_pay19 (k2_pay47 x0 x1 x2 x3 x4 x5 x6 x7 x8 x9) (k2_pay48 x0 x1 x2 x3 x4 x5 x6 x7 x8 x9) (k2_pay49 x0 x1 x2 x3 x4 x5 x6 x7 x8 x9) (k2_pay50 x0 x1 x2 x3 x4 x5 x6 x7 x8 x9) (k2_pay51 x0 x1 x2 x3 x4 x5 x6 x7 x8 x9) -- `v138`
def k2_pay58 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x1 .f32 :=
  k2_pay22 (k2_pay52 x0 x1 x2 x3 x4 x5 x6 x7 x8 x9) (k2_pay56 x0 x1 x2 x3 x4 x5 x6 x7 x8 x9) (k2_pay57 x0 x1 x2 x3 x4 x5 x6 x7 x8 x9) -- `v150`
def k2_pay59 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x1 .f32 :=
  k2_pay25 (k2_pay52 x0 x1 x2 x3 x4 x5 x6 x7 x8 x9) (k2_pay56 x0 x1 x2 x3 x4 x5 x6 x7 x8 x9) (k2_pay57 x0 x1 x2 x3 x4 x5 x6 x7 x8 x9) -- `v162`
def k2_pay60 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x256 .f32 :=
  k2_pay27 (k2_pay52 x0 x1 x2 x3 x4 x5 x6 x7 x8 x9) (k2_pay56 x0 x1 x2 x3 x4 x5 x6 x7 x8 x9) (k2_pay57 x0 x1 x2 x3 x4 x5 x6 x7 x8 x9) -- `v172`
def k2_pay61 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x1 .f32 :=
  k2_pay28 (k2_pay52 x0 x1 x2 x3 x4 x5 x6 x7 x8 x9) (k2_pay56 x0 x1 x2 x3 x4 x5 x6 x7 x8 x9) (k2_pay57 x0 x1 x2 x3 x4 x5 x6 x7 x8 x9) -- `v174`
def k2_pay62 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : IVec S448x256 1 :=
  k2_pay30 (k2_pay52 x0 x1 x2 x3 x4 x5 x6 x7 x8 x9) (k2_pay56 x0 x1 x2 x3 x4 x5 x6 x7 x8 x9) (k2_pay57 x0 x1 x2 x3 x4 x5 x6 x7 x8 x9) -- `v182`
def k2_pay63 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x256 .f32 :=
  k2_pay31 (F := F) -- `v183`
def k2_pay64 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : IVec S448x3136 32 :=
  iota .tc S448x3136 32 [1] iota_S448x3136_d1_w32 -- `v215`
def k2_pay65 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : FVec F S448x8 .f32 :=
  k2_pay38 (k2_pay52 x0 x1 x2 x3 x4 x5 x6 x7 x8 x9) (k2_pay54 x0 x1 x2 x3 x4 x5 x6 x7 x8 x9) (k2_pay55 x0 x1 x2 x3 x4 x5 x6 x7 x8 x9) (k2_pay57 x0 x1 x2 x3 x4 x5 x6 x7 x8 x9) (k2_pay58 x0 x1 x2 x3 x4 x5 x6 x7 x8 x9) (k2_pay59 x0 x1 x2 x3 x4 x5 x6 x7 x8 x9) (k2_pay60 x0 x1 x2 x3 x4 x5 x6 x7 x8 x9) (k2_pay61 x0 x1 x2 x3 x4 x5 x6 x7 x8 x9) (k2_pay62 x0 x1 x2 x3 x4 x5 x6 x7 x8 x9) (k2_pay63 x0 x1 x2 x3 x4 x5 x6 x7 x8 x9) -- `v214`

/-- What the body leaves in an output window, from the input blocks. -/
def out2_10 (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) : Vec F S1x448x192 .f32 :=
  View.canon [⟨r2_10, k2_pay1 (k2_pay46 (k2_pay5 (View.ld x6 r2_4)) (k2_pay6 (View.ld x0 r2_0) (View.ld x4 r2_5) (View.ld x5 r2_6)) (k2_pay53 x0 x1 x2 x3 x4 x5 x6 x7 x8 x9) (k2_pay52 x0 x1 x2 x3 x4 x5 x6 x7 x8 x9) (k2_pay37 (k2_pay52 x0 x1 x2 x3 x4 x5 x6 x7 x8 x9) (k2_pay60 x0 x1 x2 x3 x4 x5 x6 x7 x8 x9) (k2_pay62 x0 x1 x2 x3 x4 x5 x6 x7 x8 x9) (k2_pay63 x0 x1 x2 x3 x4 x5 x6 x7 x8 x9)) (k2_pay65 x0 x1 x2 x3 x4 x5 x6 x7 x8 x9) (k2_pay64 x0 x1 x2 x3 x4 x5 x6 x7 x8 x9) (k2_pay44 (k2_pay53 x0 x1 x2 x3 x4 x5 x6 x7 x8 x9) (k2_pay52 x0 x1 x2 x3 x4 x5 x6 x7 x8 x9) (k2_pay26 (k2_pay52 x0 x1 x2 x3 x4 x5 x6 x7 x8 x9) (k2_pay56 x0 x1 x2 x3 x4 x5 x6 x7 x8 x9) (k2_pay57 x0 x1 x2 x3 x4 x5 x6 x7 x8 x9)) (k2_pay29 (k2_pay52 x0 x1 x2 x3 x4 x5 x6 x7 x8 x9) (k2_pay56 x0 x1 x2 x3 x4 x5 x6 x7 x8 x9) (k2_pay57 x0 x1 x2 x3 x4 x5 x6 x7 x8 x9)) (k2_pay65 x0 x1 x2 x3 x4 x5 x6 x7 x8 x9) (k2_pay64 x0 x1 x2 x3 x4 x5 x6 x7 x8 x9) (k2_pay42 (k2_pay53 x0 x1 x2 x3 x4 x5 x6 x7 x8 x9) (k2_pay52 x0 x1 x2 x3 x4 x5 x6 x7 x8 x9) (k2_pay17 (k2_pay47 x0 x1 x2 x3 x4 x5 x6 x7 x8 x9) (k2_pay48 x0 x1 x2 x3 x4 x5 x6 x7 x8 x9) (k2_pay49 x0 x1 x2 x3 x4 x5 x6 x7 x8 x9) (k2_pay50 x0 x1 x2 x3 x4 x5 x6 x7 x8 x9) (k2_pay51 x0 x1 x2 x3 x4 x5 x6 x7 x8 x9)) (k2_pay20 (k2_pay52 x0 x1 x2 x3 x4 x5 x6 x7 x8 x9) (k2_pay56 x0 x1 x2 x3 x4 x5 x6 x7 x8 x9) (k2_pay57 x0 x1 x2 x3 x4 x5 x6 x7 x8 x9)) (k2_pay65 x0 x1 x2 x3 x4 x5 x6 x7 x8 x9) (k2_pay64 x0 x1 x2 x3 x4 x5 x6 x7 x8 x9) (k2_pay39 (F := F)) (k2_pay40 (k2_pay53 x0 x1 x2 x3 x4 x5 x6 x7 x8 x9) (k2_pay52 x0 x1 x2 x3 x4 x5 x6 x7 x8 x9) (k2_pay14 (k2_pay47 x0 x1 x2 x3 x4 x5 x6 x7 x8 x9) (k2_pay48 x0 x1 x2 x3 x4 x5 x6 x7 x8 x9) (k2_pay49 x0 x1 x2 x3 x4 x5 x6 x7 x8 x9) (k2_pay50 x0 x1 x2 x3 x4 x5 x6 x7 x8 x9) (k2_pay51 x0 x1 x2 x3 x4 x5 x6 x7 x8 x9))) (Scalar.ofBits .f32 0x00000000#32) (k2_pay41 (k2_pay52 x0 x1 x2 x3 x4 x5 x6 x7 x8 x9) (k2_pay54 x0 x1 x2 x3 x4 x5 x6 x7 x8 x9) (k2_pay55 x0 x1 x2 x3 x4 x5 x6 x7 x8 x9) (k2_pay57 x0 x1 x2 x3 x4 x5 x6 x7 x8 x9) (k2_pay58 x0 x1 x2 x3 x4 x5 x6 x7 x8 x9) (k2_pay59 x0 x1 x2 x3 x4 x5 x6 x7 x8 x9) (k2_pay60 x0 x1 x2 x3 x4 x5 x6 x7 x8 x9) (k2_pay61 x0 x1 x2 x3 x4 x5 x6 x7 x8 x9) (k2_pay62 x0 x1 x2 x3 x4 x5 x6 x7 x8 x9) (k2_pay63 x0 x1 x2 x3 x4 x5 x6 x7 x8 x9))) (k2_pay43 (k2_pay53 x0 x1 x2 x3 x4 x5 x6 x7 x8 x9) (k2_pay52 x0 x1 x2 x3 x4 x5 x6 x7 x8 x9) (k2_pay23 (k2_pay52 x0 x1 x2 x3 x4 x5 x6 x7 x8 x9) (k2_pay56 x0 x1 x2 x3 x4 x5 x6 x7 x8 x9) (k2_pay57 x0 x1 x2 x3 x4 x5 x6 x7 x8 x9)) (k2_pay64 x0 x1 x2 x3 x4 x5 x6 x7 x8 x9))) (k2_pay45 (k2_pay53 x0 x1 x2 x3 x4 x5 x6 x7 x8 x9) (k2_pay52 x0 x1 x2 x3 x4 x5 x6 x7 x8 x9) (k2_pay34 (k2_pay52 x0 x1 x2 x3 x4 x5 x6 x7 x8 x9) (k2_pay60 x0 x1 x2 x3 x4 x5 x6 x7 x8 x9) (k2_pay62 x0 x1 x2 x3 x4 x5 x6 x7 x8 x9) (k2_pay63 x0 x1 x2 x3 x4 x5 x6 x7 x8 x9))) (View.ld x7 r2_7) (View.ld x8 r2_8)) (View.ld x9 r2_9)⟩]

theorem cover2_10 (p0 : Vec F S1x448x192 .f32) (y : S1x448x192.Idx) :
    ∃ pc ∈ ([⟨r2_10, p0⟩] : List (View.Piece (Elt F) S1x448x192 .f32)), y ∈ pc.1.set :=
  View.cover_of_tiled [⟨r2_10, p0⟩] S1x448x192.size (by rfl) y

set_option maxHeartbeats 1088600 in
/-- One run of the body on whole buffers: the inputs are read and kept, the outputs are filled. -/
theorem sound_kernel2 (c : Dev nD) (E : Set ℕ) (i : grid2.Coords) (arg2 : Memref sig .tc .vmem S1x448x48 .f32) (harg2 : arg2.IsWhole) (arg3 : Memref sig .tc .vmem S1x448x16 .f32) (harg3 : arg3.IsWhole) (arg4 : Memref sig .tc .vmem S1x4096x48 .f32) (harg4 : arg4.IsWhole) (arg5 : Memref sig .tc .vmem S1x16x256 .f32) (harg5 : arg5.IsWhole) (arg6 : Memref sig .tc .vmem S1x16x48 .f32) (harg6 : arg6.IsWhole) (arg7 : Memref sig .tc .vmem S1x16x192 .f32) (harg7 : arg7.IsWhole) (arg8 : Memref sig .tc .vmem S1x3136x192 .f32) (harg8 : arg8.IsWhole) (arg9 : Memref sig .tc .vmem S1x1x1 .f32) (harg9 : arg9.IsWhole) (arg10 : Memref sig .tc .vmem S1x192x192 .f32) (harg10 : arg10.IsWhole) (arg11 : Memref sig .tc .vmem S1x1x192 .f32) (harg11 : arg11.IsWhole) (arg12 : Memref sig .tc .vmem S1x448x192 .f32) (harg12 : arg12.IsWhole)
    (x0 : Vec F S1x448x48 .f32) (x1 : Vec F S1x448x16 .f32) (x2 : Vec F S1x4096x48 .f32) (x3 : Vec F S1x16x256 .f32) (x4 : Vec F S1x16x48 .f32) (x5 : Vec F S1x16x192 .f32) (x6 : Vec F S1x3136x192 .f32) (x7 : Vec F S1x1x1 .f32) (x8 : Vec F S1x192x192 .f32) (x9 : Vec F S1x1x192 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out2_10 x0 x1 x2 x3 x4 x5 x6 x7 x8 x9)) -∗ K ⟨⟩))
      ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K := by
  simp only [cc2__attn_kernel_eq_skeleton]; unfold cc2__attn_kernel_skel
  simp only [k2_part1_eq_skeleton, k2_part2_eq_skeleton, k2_part3_eq_skeleton, k2_part4_eq_skeleton, k2_part5_eq_skeleton, k2_part6_eq_skeleton, k2_part7_eq_skeleton, k2_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover2_10 _)).trans ?_
  rfl

/-- The call's data: every array as found, each input block left in place, each output block as computed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row2 (t : Fin cfg2.N) :
    defs₀ (F := F) .tc cfg2.body (cfg2.bodyArgs t (cfg2.slots t)) = bodyAt2 t := by
  unfold defs₀; rw [Defs.onTc_tc]

/-- The body meets the pipeline's demand at every grid point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen

end
-- ==== Proof.KernelIdeal.Tr.lean ====
/- One call of the program, the transpose: what its body leaves in each output block, and that it runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-- Window `w`'s block of its array at grid point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x3136x192 := Rect.unit (s := S1x3136x192) ![0, 0, 0] S1x3136x192.size inb_S1x3136x192_S1x3136x192_0_0_0
abbrev r3_1 : Rect S1x56x10752 := Rect.unit (s := S1x56x10752) ![0, 0, 0] S1x56x10752.size inb_S1x56x10752_S1x56x10752_0_0_0

/-- What the body leaves in an output window, from the input blocks. -/
def out3_1 (x0 : Vec F S1x3136x192 .f32) : Vec F S1x56x10752 .f32 :=
  View.canon [⟨r3_1, k3_pay1 (View.ld x0 r3_0)⟩]

theorem cover3_1 (p0 : Vec F S1x56x10752 .f32) (y : S1x56x10752.Idx) :
    ∃ pc ∈ ([⟨r3_1, p0⟩] : List (View.Piece (Elt F) S1x56x10752 .f32)), y ∈ pc.1.set :=
  View.cover_of_tiled [⟨r3_1, p0⟩] S1x56x10752.size (by rfl) y

set_option maxHeartbeats 1000000 in
/-- One run of the body on whole buffers: the inputs are read and kept, the outputs are filled. -/
theorem sound_kernel3 (c : Dev nD) (E : Set ℕ) (i : grid3.Coords) (arg1 : Memref sig .tc .vmem S1x3136x192 .f32) (harg1 : arg1.IsWhole) (arg2 : Memref sig .tc .vmem S1x56x10752 .f32) (harg2 : arg2.IsWhole)
    (x0 : Vec F S1x3136x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__tr_kernel i arg1 harg1 arg2 harg2) K := by
  simp only [cc3__tr_kernel_eq_skeleton]; unfold cc3__tr_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The call's data: every array as found, each input block left in place, each output block as computed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row3 (t : Fin cfg3.N) :
    defs₀ (F := F) .tc cfg3.body (cfg3.bodyArgs t (cfg3.slots t)) = bodyAt3 t := by
  unfold defs₀; rw [Defs.onTc_tc]

/-- The body meets the pipeline's demand at every grid point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Gen

end
-- ==== Proof.KernelIdeal.Up.lean ====
/- One call of the program, the bilinear resize, layer norm and residual: what its body leaves in each output block, and that it runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-- Window `w`'s block of its array at grid point `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1x56x10752 := Rect.unit (s := S1x56x10752) ![0, 0, 0] S1x56x10752.size inb_S1x56x10752_S1x56x10752_0_0_0
abbrev r4_1 : Rect S192x1 := Rect.unit (s := S192x1) ![0, 0] S192x1.size inb_S192x1_S192x1_0_0
abbrev r4_2 : Rect S1x192x32x224 := Rect.unit (s := S1x192x32x224) ![0, 0, 0, 0] S1x192x32x224.size inb_S1x192x32x224_S1x192x32x224_0_0_0_0

def k4_pay8 (i : grid4.Coords) (x0 : Vec F S1x56x10752 .f32) (x1 : Vec F S1x192x32x224 .f32) (x2 : Vec F S192x1 .f32) (x3 : Vec F S192x1 .f32) : FVec F S224x56 .f32 :=
  k4_pay2 (F := F) -- `v34`
def k4_pay9 (i : grid4.Coords) (x0 : Vec F S1x56x10752 .f32) (x1 : Vec F S1x192x32x224 .f32) (x2 : Vec F S192x1 .f32) (x3 : Vec F S192x1 .f32) : FVec F S32x56 .f32 :=
  k4_pay3 (F := F) -- `v40`
def k4_pay10 (i : grid4.Coords) (x0 : Vec F S1x56x10752 .f32) (x1 : Vec F S1x192x32x224 .f32) (x2 : Vec F S192x1 .f32) (x3 : Vec F S192x1 .f32) : FVec F S32x56 .f32 :=
  k4_pay4 (F := F) i -- `v44`
def k4_pay11 (i : grid4.Coords) (x0 : Vec F S1x56x10752 .f32) (x1 : Vec F S1x192x32x224 .f32) (x2 : Vec F S192x1 .f32) (x3 : Vec F S192x1 .f32) : FVec F S32x56 .f32 :=
  k4_pay5 (F := F) i -- `v45`

/-- What the body leaves in an output window, from the input blocks. -/
def out4_4 (i : grid4.Coords) (x0 : Vec F S1x56x10752 .f32) (x1 : Vec F S1x192x32x224 .f32) (x2 : Vec F S192x1 .f32) (x3 : Vec F S192x1 .f32) : Vec F S1x192x32x224 .f32 :=
  View.canon [⟨r4_2, k4_pay1 (k4_pay6 (k4_pay8 i x0 x1 x2 x3) (k4_pay9 i x0 x1 x2 x3) (k4_pay10 i x0 x1 x2 x3) (k4_pay11 i x0 x1 x2 x3) (View.ld x0 r4_0)) (k4_pay7 (k4_pay8 i x0 x1 x2 x3) (k4_pay9 i x0 x1 x2 x3) (k4_pay10 i x0 x1 x2 x3) (k4_pay11 i x0 x1 x2 x3) (View.ld x0 r4_0)) (View.ld x2 r4_1) (View.ld x3 r4_1) (View.ld x1 r4_2)⟩]

theorem cover4_4 (p0 : Vec F S1x192x32x224 .f32) (y : S1x192x32x224.Idx) :
    ∃ pc ∈ ([⟨r4_2, p0⟩] : List (View.Piece (Elt F) S1x192x32x224 .f32)), y ∈ pc.1.set :=
  View.cover_of_tiled [⟨r4_2, p0⟩] S1x192x32x224.size (by rfl) y

set_option maxHeartbeats 1000000 in
/-- One run of the body on whole buffers: the inputs are read and kept, the outputs are filled. -/
theorem sound_kernel4 (c : Dev nD) (E : Set ℕ) (i : grid4.Coords) (arg2 : Memref sig .tc .vmem S1x56x10752 .f32) (harg2 : arg2.IsWhole) (arg3 : Memref sig .tc .vmem S1x192x32x224 .f32) (harg3 : arg3.IsWhole) (arg4 : Memref sig .tc .vmem S192x1 .f32) (harg4 : arg4.IsWhole) (arg5 : Memref sig .tc .vmem S192x1 .f32) (harg5 : arg5.IsWhole) (arg6 : Memref sig .tc .vmem S1x192x32x224 .f32) (harg6 : arg6.IsWhole)
    (x0 : Vec F S1x56x10752 .f32) (x1 : Vec F S1x192x32x224 .f32) (x2 : Vec F S192x1 .f32) (x3 : Vec F S192x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out4_4 i x0 x1 x2 x3)) -∗ K ⟨⟩))
      ⊢ wp frame (wpE (defs₀ (F := F)) Variants.none c none) E (cc4__up_kernel i arg2 harg2 arg3 harg3 arg4 harg4 arg5 harg5 arg6 harg6) K := by
  simp only [cc4__up_kernel_eq_skeleton]; unfold cc4__up_kernel_skel
  simp only [k4_part1_eq_skeleton, k4_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover4_4 _)).trans ?_
  rfl

/-- The call's data: every array as found, each input block left in place, each output block as computed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (grid4.coords t) (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (grid4.coords t) (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row4 (t : Fin cfg4.N) :
    defs₀ (F := F) .tc cfg4.body (cfg4.bodyArgs t (cfg4.slots t)) = bodyAt4 t := by
  unfold defs₀; rw [Defs.onTc_tc]

/-- The body meets the pipeline's demand at every grid point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Gen

end
-- ==== Proof.KernelIdeal.Run.lean ====
/- The whole program: the buffers at each boundary between host operations and calls, the chain of its segments, and what a run leaves. -/
module

public import proofs.«01_k».proof.Proof.KernelIdeal.Dn
public import proofs.«01_k».proof.Proof.KernelIdeal.Gl
public import proofs.«01_k».proof.Proof.KernelIdeal.At
public import proofs.«01_k».proof.Proof.KernelIdeal.Tr
public import proofs.«01_k».proof.Proof.KernelIdeal.Up

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v6, main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v12, main_v13, main_v14]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem W8_of (c : Dev nD) (r : Ref sig .tc) (h : ∀ w : Fin cfg4.W, Pipeline.arrRef spec4 w = r → (cfg4.win w).isOut = false) :
    W8 m ρ c (Proc.devRef .tc r) = W7 m ρ c (Proc.devRef .tc r) := by
  by_cases hw : ∃ w : Fin cfg4.W, Pipeline.arrRef spec4 w = r
  · obtain ⟨w, rfl⟩ := hw
    exact (W8_arr m ρ c w).trans (((dat4 (V7 m ρ) c).arrAt_in w (h w rfl) _).trans (A_eq4 (V7 m ρ) c w))
  · exact W8_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn4 a ha)).trans (W7_args m ρ c a ha)
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) (A_eq4 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with each unscoped buffer at the last boundary's contents and every semaphore at zero. -/
theorem run_all : θ_run defs (onTc (τ := τ) (main (F := F))) ⟨m, fun _ => 0, ρ⟩ (fun r =>
      (∀ c : Dev nD, ∀ b : Ref sig .tc, ¬ (Proc.devRef .tc b : DevRef τ sig).isScoped →
        r.2.mem ((c.tc : Thread nD τ).loc b) = W8 m ρ c (Proc.devRef .tc b)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c b hb => h c _ (mem_uc b hb), funext fun g => hz g (.inr (no_unscoped g.2))⟩)

/-- Termination without a fault, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => by
    have key : ∀ a ∈ argRefs, r.2.mem ((c.tc : Thread nD τ).loc a) = m ((c.tc : Thread nD τ).loc a) := fun a ha =>
      (h.1 c a ((by decide : ∀ a ∈ argRefs, ¬ (Proc.devRef .tc a : DevRef τ sig).isScoped) a ha)).trans (W8_args m ρ c a ha)
    exact ⟨key main_arg0 (by decide), key main_arg1 (by decide), key main_arg2 (by decide), key main_arg3 (by decide), key main_arg4 (by decide), key main_arg5 (by decide), key main_arg6 (by decide), key main_arg7 (by decide), key main_arg8 (by decide), key main_arg9 (by decide), key main_arg10 (by decide)⟩, h.2⟩) (run_all m ρ)

end Cert.KernelIdeal.Gen

end
-- ==== Proof.Value.Order.lean ====
/- The stable descending order of a finite family of reals, and its positions found one by one: the greatest entry left,
   the lowest position that holds it, that position struck out. -/
module

public import Idealize.ShloMosaic.Lib.Pointwise
public import Idealize.ShloMosaic.Lib.SortFacts

@[expose] public section

noncomputable section

namespace Cert.Value

open Idealize.ShloMosaic

variable {n : ℕ}

/-- `ord s i` is the position of the `i`-th greatest entry of `s`, equal entries in the order of their positions. -/
def ord (s : Fin n → ℝ) : Fin n → Fin n := sortedFrom fun a b => decide (s b < s a)

/-- `a` comes before `b` in that order. -/
def Before (s : Fin n → ℝ) (a b : Fin n) : Prop := s b < s a ∨ s a = s b ∧ a < b

theorem pairwise_insertBefore (s : Fin n → ℝ) (a : Fin n) (l : List (Fin n)) (hl : l.Pairwise (Before s))
    (ha : ∀ b ∈ l, a < b) : (insertBefore (fun a b => decide (s b < s a)) a l).Pairwise (Before s) := by
  induction l with
  | nil => simp [insertBefore]
  | cons b l ih =>
    rw [List.pairwise_cons] at hl
    unfold insertBefore
    split
    · rename_i h
      have h : s a < s b := by simpa using h
      refine List.pairwise_cons.mpr ⟨fun c hc => ?_, ih hl.2 fun c hc => ha c (List.mem_cons_of_mem _ hc)⟩
      rcases List.mem_cons.mp ((perm_insertBefore _ _ _).mem_iff.mp hc) with rfl | hc
      · exact .inl h
      · exact hl.1 c hc
    · rename_i h
      have h : s b ≤ s a := by simpa using h
      have hab : Before s a b := by
        rcases h.lt_or_eq with h | h
        · exact .inl h
        · exact .inr ⟨h.symm, ha b List.mem_cons_self⟩
      refine List.pairwise_cons.mpr ⟨fun c hc => ?_, List.pairwise_cons.mpr hl⟩
      rcases List.mem_cons.mp hc with rfl | hc
      · exact hab
      · have hac := ha c (List.mem_cons_of_mem _ hc)
        rcases hl.1 c hc with h' | h'
        · exact .inl (h'.trans_le h)
        · rcases h.lt_or_eq with h | h
          · exact .inl (h'.1 ▸ h)
          · exact .inr ⟨h.symm.trans h'.1, hac⟩

theorem pairwise_stableSort (s : Fin n → ℝ) (l : List (Fin n)) (hl : l.Pairwise (· < ·)) :
    (stableSort (fun a b => decide (s b < s a)) l).Pairwise (Before s) := by
  induction l with
  | nil => simp [stableSort]
  | cons a l ih =>
    rw [List.pairwise_cons] at hl
    unfold stableSort
    exact pairwise_insertBefore s a _ (ih hl.2) fun b hb => hl.1 b ((perm_stableSort _ _).mem_iff.mp hb)

theorem ord_before (s : Fin n → ℝ) {i j : Fin n} (h : i < j) : Before s (ord s i) (ord s j) :=
  List.pairwise_iff_get.mp (pairwise_stableSort s (List.finRange n) (List.pairwise_lt_finRange n)) _ _ h

theorem ord_injective (s : Fin n → ℝ) : Function.Injective (ord s) := sortedFrom_injective _

theorem ord_surjective (s : Fin n → ℝ) : Function.Surjective (ord s) := sortedFrom_surjective _

/-- The family after its first `k` positions are struck out. -/
def left (s : Fin n → ℝ) (k : ℕ) (j : Fin n) : EReal := if ∃ i : Fin n, i.val < k ∧ ord s i = j then ⊥ else (s j : EReal)

theorem left_zero (s : Fin n → ℝ) (j : Fin n) : left s 0 j = s j := by simp [left]

theorem left_succ (s : Fin n → ℝ) (k : Fin n) (j : Fin n) :
    left s (k.val + 1) j = if j = ord s k then ⊥ else left s k j := by
  unfold left
  by_cases h : j = ord s k
  · rw [if_pos h, if_pos ⟨k, by omega, h.symm⟩]
  · rw [if_neg h]
    congr 1
    refine propext ⟨fun ⟨i, hi, e⟩ => ⟨i, ?_, e⟩, fun ⟨i, hi, e⟩ => ⟨i, by omega, e⟩⟩
    rcases Nat.lt_succ_iff_lt_or_eq.mp hi with h' | h'
    · exact h'
    · exact absurd (e ▸ congrArg (ord s) (Fin.ext h')) h

theorem left_at (s : Fin n → ℝ) (k : Fin n) : left s k (ord s k) = s (ord s k) := by
  unfold left
  rw [if_neg]
  rintro ⟨i, hi, e⟩
  exact absurd (congrArg Fin.val (ord_injective s e)) (by omega)

theorem left_before (s : Fin n → ℝ) (k j : Fin n) :
    left s k j = ⊥ ∨ j = ord s k ∨ (left s k j = s j ∧ Before s (ord s k) j) := by
  obtain ⟨i, rfl⟩ := ord_surjective s j
  rcases lt_trichotomy i k with h | h | h
  · exact .inl (if_pos ⟨i, h, rfl⟩)
  · exact .inr (.inl (congrArg _ h))
  · refine .inr (.inr ⟨if_neg ?_, ord_before s h⟩)
    rintro ⟨i', hi, e⟩
    have := ord_injective s e
    subst this
    exact absurd hi (by simpa using h.le)

/-- The greatest entry left. -/
theorem fold_max_left (s : Fin n → ℝ) (k : Fin n) : Finset.fold max ⊥ (left s k) Finset.univ = s (ord s k) := by
  refine le_antisymm ((Finset.fold_max_le _).mpr ⟨bot_le, fun j _ => ?_⟩)
    ((Finset.le_fold_max _).mpr (.inr ⟨ord s k, Finset.mem_univ _, (left_at s k).ge⟩))
  rcases left_before s k j with h | h | ⟨h, h'⟩
  · rw [h]; exact bot_le
  · rw [h, left_at]
  · rw [h]
    rcases h' with h' | h'
    · exact EReal.coe_le_coe_iff.mpr h'.le
    · exact EReal.coe_le_coe_iff.mpr h'.1.ge

/-- The positions that hold it: none before `ord s k`. -/
theorem ord_le_of_left_eq (s : Fin n → ℝ) (k j : Fin n) (h : left s k j = s (ord s k)) : ord s k ≤ j := by
  rcases left_before s k j with h' | h' | ⟨h', b⟩
  · rw [h'] at h; exact absurd h (EReal.bot_ne_coe _)
  · exact h'.ge
  · rw [h', EReal.coe_eq_coe_iff] at h
    rcases b with b | b
    · exact absurd h b.ne
    · exact b.2.le

theorem fold_min_eq {ι : Type} [Fintype ι] {β : Type} [LinearOrder β] (b v : β) (f : ι → β) (hb : v ≤ b) (hf : ∀ i, v ≤ f i)
    (i : ι) (hi : f i = v) : Finset.fold min b f Finset.univ = v :=
  le_antisymm ((Finset.fold_min_le _).mpr (.inr ⟨i, Finset.mem_univ _, hi.le⟩))
    ((Finset.le_fold_min _).mpr ⟨hb, fun i _ => hf i⟩)

/-- The lowest position of the greatest entry left, positions as extended reals. -/
theorem fold_min_left (s : Fin n → ℝ) (k : Fin n) (N : EReal) (hN : ((n : ℝ) : EReal) ≤ N) (w : Fin n → EReal) (hw : w = left s k) :
    Finset.fold min ⊤ (fun j : Fin n => if w j = (s (ord s k) : EReal) then (((j : ℕ) : ℝ) : EReal) else N) Finset.univ
      = (((ord s k : ℕ) : ℝ) : EReal) := by
  subst hw
  refine fold_min_eq _ _ _ le_top (fun j => ?_) (ord s k) (if_pos (left_at s k))
  split
  · rename_i h
    exact EReal.coe_le_coe_iff.mpr (Nat.cast_le.mpr (ord_le_of_left_eq s k j h))
  · exact le_trans (EReal.coe_le_coe_iff.mpr (Nat.cast_le.mpr (ord s k).isLt.le)) hN

/-- The same, positions as 32-bit words. -/
theorem fold_minsi_left (hn : n < 2 ^ 31) (s : Fin n → ℝ) (k : Fin n) (N : BitVec 32) (hN : (n : ℤ) ≤ N.toInt)
    (w : Fin n → EReal) (hw : w = left s k) :
    Finset.fold IntOp.minsi 2147483647#32 (fun j : Fin n => if w j = (s (ord s k) : EReal) then BitVec.ofNat 32 j else N) Finset.univ
      = BitVec.ofNat 32 (ord s k) := by
  subst hw
  have hI : ∀ j : ℕ, j < n → (BitVec.ofNat 32 j).toInt = (j : ℤ) := fun j hj => by
    rw [BitVec.toInt_eq_toNat_cond, BitVec.toNat_ofNat, Nat.mod_eq_of_lt (by omega), if_pos (by omega)]
  apply BitVec.eq_of_toInt_eq
  rw [← Finset.fold_hom (op' := min) (m := BitVec.toInt) (fun x y => ?_), hI _ (ord s k).isLt]
  · refine fold_min_eq _ _ _ ?_ (fun j => ?_) (ord s k) ?_
    · have := (ord s k).isLt
      have h2 : (2147483647#32).toInt = 2147483647 := by decide
      omega
    · show _ ≤ BitVec.toInt _
      split
      · rename_i h
        rw [hI _ j.isLt]
        exact Int.ofNat_le.mpr (ord_le_of_left_eq s k j h)
      · have := (ord s k).isLt
        omega
    · show BitVec.toInt _ = _
      rw [if_pos (left_at s k), hI _ (ord s k).isLt]
  · unfold IntOp.minsi
    by_cases h : x.toInt < y.toInt
    · rw [if_pos (BitVec.slt_iff_toInt_lt.mpr h), min_eq_left h.le]
    · rw [if_neg fun e => h (BitVec.slt_iff_toInt_lt.mp e), min_eq_right (le_of_not_gt h)]

end Cert.Value

end
-- ==== Proof.Value.Real.lean ====
/- Extended reals that are real numbers: the operations of the ideal semantics on them are the operations of ℝ. -/
module

public import proofs.«01_k».proof.Proof.Value.Order
public import Mathlib.Analysis.SpecialFunctions.Exp

@[expose] public section

noncomputable section

namespace Cert.Value

open Idealize.ShloMosaic

/-! ### Offsets -/

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

/-! ### Constants -/

theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_quarter : Ideal.ofBits .f32 0x3E800000#32 = ((1 / 4 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul, -EReal.coe_one]; norm_num
theorem lit_16 : Ideal.ofBits .f32 0x41800000#32 = ((16 : ℝ) : EReal) := by
  simp [Ideal.ofBits, Ideal.ieee, -EReal.coe_mul]; norm_num
theorem lit_3136 : Ideal.ofBits .f32 0x45440000#32 = ((3136 : ℝ) : EReal) := by
  simp [Ideal.ofBits, Ideal.ieee, -EReal.coe_mul]; norm_num
theorem lit_55 : Ideal.ofBits .f32 0x425C0000#32 = ((55 : ℝ) : EReal) := by
  simp [Ideal.ofBits, Ideal.ieee, -EReal.coe_mul]; norm_num
theorem lit_3_8 : Ideal.ofBits .f32 0x3EC00000#32 = ((3 / 8 : ℝ) : EReal) := by
  simp [Ideal.ofBits, Ideal.ieee, -EReal.coe_mul]; norm_num
theorem lit_192 : Ideal.ofBits .f32 0x43400000#32 = ((192 : ℝ) : EReal) := by
  simp [Ideal.ofBits, Ideal.ieee, -EReal.coe_mul]; norm_num

/-- What the programs divide the scores by: the float nearest to `√48 + 10⁻⁶`. -/
def scale : ℝ := 14529497 / 2097152
theorem lit_scale : Ideal.ofBits .f32 0x40DDB3D9#32 = ((scale : ℝ) : EReal) := by
  unfold scale; simp [Ideal.ofBits, Ideal.ieee, -EReal.coe_mul]; norm_num
theorem scale_ne : scale ≠ 0 := by unfold scale; norm_num

/-- What the programs add to the variance: the float nearest to `10⁻⁵`. -/
def eps : ℝ := 10995116 / 1099511627776
theorem lit_eps : Ideal.ofBits .f32 0x3727C5AC#32 = ((eps : ℝ) : EReal) := by
  unfold eps; simp [Ideal.ofBits, Ideal.ieee, -EReal.coe_mul]; norm_num
theorem eps_pos : 0 < eps := by unfold eps; norm_num

/-! ### Operations -/

theorem coe_sum {ι : Type} [Fintype ι] (f : ι → ℝ) : (∑ i, (f i : EReal)) = ((∑ i, f i : ℝ) : EReal) := by
  classical
  induction (Finset.univ : Finset ι) using Finset.induction_on with
  | empty => simp
  | insert a s h ih => rw [Finset.sum_insert h, Finset.sum_insert h, ih, EReal.coe_add]

theorem exp_coe (x : ℝ) : Ideal.exp (x : EReal) = (Real.exp x : EReal) := rfl

theorem div_coe_coe (x : ℝ) {y : ℝ} (h : y ≠ 0) : Ideal.div (x : EReal) (y : EReal) = ((x / y : ℝ) : EReal) := by
  rw [Ideal.div_coe h, ← EReal.coe_mul, mul_one_div]

theorem floor_coe (x : ℝ) : Ideal.liftRound Int.floor (x : EReal) = (((⌊x⌋ : ℤ) : ℝ) : EReal) := rfl

theorem max_coe (x y : ℝ) : max (x : EReal) (y : EReal) = ((max x y : ℝ) : EReal) :=
  ((EReal.coe_strictMono.monotone).map_max).symm

theorem min_coe (x y : ℝ) : min (x : EReal) (y : EReal) = ((min x y : ℝ) : EReal) :=
  ((EReal.coe_strictMono.monotone).map_min).symm

theorem ite_coe (p : Prop) [Decidable p] (x y : ℝ) : (if p then (x : EReal) else (y : EReal)) = ((if p then x else y : ℝ) : EReal) := by
  split <;> rfl

theorem sitofp_ofNat {n : ℕ} (h : n < 2 ^ 31) : (FloatOps.sitofp (F := Ideal) .f32 (BitVec.ofNat 32 n) : EReal) = ((n : ℝ) : EReal) := by
  have : (BitVec.ofNat 32 n).toInt = (n : ℤ) := by
    rw [BitVec.toInt_eq_toNat_cond, BitVec.toNat_ofNat, Nat.mod_eq_of_lt (by omega), if_pos (by omega)]
  show (((BitVec.ofNat 32 n).toInt : ℝ) : EReal) = _
  rw [this, Int.cast_natCast]

theorem sitofp_bit (p : Prop) [Decidable p] :
    (FloatOps.sitofp (F := Ideal) .f32 (BitVec.setWidth 32 (BitVec.ofBool (decide p))) : EReal) = ((if p then 1 else 0 : ℝ) : EReal) := by
  show (((BitVec.setWidth 32 (BitVec.ofBool (decide p))).toInt : ℝ) : EReal) = _
  by_cases h : p <;> simp [h]

theorem ofNat_inj {a b : ℕ} (ha : a < 2 ^ 32) (hb : b < 2 ^ 32) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt ha, Nat.mod_eq_of_lt hb] at this

theorem natCast_inj {a b : ℕ} : (((a : ℕ) : ℝ) : EReal) = (((b : ℕ) : ℝ) : EReal) ↔ a = b := by
  rw [EReal.coe_eq_coe_iff, Nat.cast_inj]

/-- The greatest of finitely many reals is one of them. -/
theorem fold_max_coe {ι : Type} [Fintype ι] [Nonempty ι] (f : ι → ℝ) :
    ∃ m : ℝ, Finset.fold max ⊥ (fun i => (f i : EReal)) Finset.univ = (m : EReal) := by
  obtain ⟨i, hi⟩ := Finite.exists_max f
  refine ⟨f i, le_antisymm ((Finset.fold_max_le _).mpr ⟨bot_le, fun j _ => EReal.coe_le_coe_iff.mpr (hi j)⟩)
    ((Finset.le_fold_max _).mpr (.inr ⟨i, Finset.mem_univ _, le_rfl⟩))⟩

/-- Over part of the family too. -/
theorem fold_max_coe_of {ι : Type} (s : Finset ι) (hs : s.Nonempty) (g : ι → EReal) (h : ∀ i, ∃ r : ℝ, g i = r) :
    ∃ m : ℝ, Finset.fold max ⊥ g s = (m : EReal) := by
  choose f hf using h
  obtain rfl : g = fun i => (f i : EReal) := funext hf
  obtain ⟨i, hi, hm⟩ := s.exists_max_image f hs
  refine ⟨f i, le_antisymm ((Finset.fold_max_le _).mpr ⟨bot_le, fun j hj => EReal.coe_le_coe_iff.mpr (hm j hj)⟩)
    ((Finset.le_fold_max _).mpr (.inr ⟨i, hi, le_rfl⟩))⟩

/-! ### Softmax -/

/-- The softmax of a finite family. -/
def soft {ι : Type} [Fintype ι] (f : ι → ℝ) (k : ι) : ℝ := Real.exp (f k) / ∑ j, Real.exp (f j)

theorem sum_exp_pos {ι : Type} [Fintype ι] [Nonempty ι] (f : ι → ℝ) : 0 < ∑ j, Real.exp (f j) :=
  Finset.sum_pos (fun j _ => Real.exp_pos _) Finset.univ_nonempty

/-- The exponentials of the differences with any real, over their sum. -/
theorem soft_shift {ι : Type} [Fintype ι] [Nonempty ι] (f : ι → ℝ) (m : ℝ) (k : ι) :
    Real.exp (f k - m) / ∑ j, Real.exp (f j - m) = soft f k := by
  unfold soft
  simp only [Real.exp_sub, ← Finset.sum_div]
  rw [div_div_div_cancel_right₀ (Real.exp_pos m).ne']

theorem soft_eq {ι : Type} [Fintype ι] [Nonempty ι] (f : ι → ℝ) (k : ι) (g : ι → EReal) (hg : ∀ j, g j = f j) :
    Ideal.div (Ideal.exp (g k - Finset.fold max ⊥ g Finset.univ)) (∑ j, Ideal.exp (g j - Finset.fold max ⊥ g Finset.univ))
      = (soft f k : EReal) := by
  obtain rfl : g = fun j => (f j : EReal) := funext hg
  obtain ⟨m, hm⟩ := fold_max_coe f
  simp only [hm, ← EReal.coe_sub, exp_coe, coe_sum]
  rw [div_coe_coe _ (sum_exp_pos fun j => f j - m).ne', soft_shift]

/-- A sum over positions that picks out one. -/
theorem sum_pick {n : ℕ} (f : Fin n → ℝ) (t : Fin n) : (∑ x : Fin n, (if t = x then 1 else 0) * f x) = f t := by
  simp

theorem sqrt_coe {r : ℝ} (h : 0 ≤ r) : Ideal.sqrt (r : EReal) = (Real.sqrt r : EReal) := if_neg (not_lt.mpr h)

theorem rsqrt_coe {r : ℝ} (h : 0 < r) : Ideal.rsqrt (r : EReal) = ((Real.sqrt r)⁻¹ : ℝ) :=
  (if_neg (not_lt.mpr h.le)).trans (if_neg h.ne')

theorem sitofp_zero : (FloatOps.sitofp (F := Ideal) .f32 0#32 : EReal) = 0 := by
  have := sitofp_ofNat (n := 0) (by decide)
  simpa using this

end Cert.Value

end
-- ==== Proof.Value.Pre.lean ====
/- The precondition, read: where it holds, the entries of the first eight arguments are real numbers. -/
module

public import proofs.«01_k».proof.Pre_finite
public import proofs.«01_k».proof.Proof.Value.Real
public import Idealize.ShloMosaic.Lib.Affine
public import Idealize.ShloMosaic.Lib.ReduceAll
public import Idealize.ShloMosaic.Lib.Pointwise

@[expose] public section

noncomputable section

open Idealize.ShloMosaic

namespace Cert.Pre_finite

open Cert.Value

/-- The side conditions that the precondition states. -/
instance facts : Facts where
  bcast_S_S2x192x224x224 := by decide
  reducesTo_S2x192x224x224_S_d0_1_2_3 := by decide
  h_S_ := by decide
  bcast_S_S16x192 := by decide
  reducesTo_S16x192_S_d0_1 := by decide
  bcast_S_S16 := by decide
  reducesTo_S16_S_d0 := by decide
  bcast_S_S48x192 := by decide
  reducesTo_S48x192_S_d0_1 := by decide
  bcast_S_S192x192 := by decide
  reducesTo_S192x192_S_d0_1 := by decide
  bcast_S_S192 := by decide
  reducesTo_S192_S_d0 := by decide

theorem real_of_lt_top (a : EReal) (h : max a (-a) < ⊤) : ∃ r : ℝ, a = r := by
  induction a using EReal.rec with
  | bot => simp at h
  | coe r => exact ⟨r, rfl⟩
  | top => simp at h

/-- An array whose magnitudes all lie below infinity holds real numbers. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, @Eq EReal (x i) r := by
  haveI : Subsingleton S_.Idx := ⟨fun a b => funext fun k => k.elim0⟩
  have h := Host.reduce_andi_all _ _ hr hu j e i
  have h' : BitVec.ofBool (decide (max (x i : EReal) (-(x i : EReal)) < Ideal.ofBits .f32 0x7F800000#32)) = 1#1 := h
  rw [lit_top] at h'
  refine real_of_lt_top _ ?_
  by_contra hn
  rw [decide_eq_false hn] at h'
  exact absurd h' (by decide)

theorem and_at (a b : IVec S_ 1) (j : S_.Idx) (h : andi a b j = 1#1) : a j = 1#1 ∧ b j = 1#1 :=
  (show ∀ c d : BitVec 1, IntOp.andi c d = 1#1 → c = 1#1 ∧ d = 1#1 by decide) _ _ h

theorem reals (a0 : FVec Ideal S2x192x224x224 .f32) (a1 : FVec Ideal S16x192 .f32) (a2 : FVec Ideal S16 .f32) (a3 a4 : FVec Ideal S48x192 .f32)
    (a5 a6 : FVec Ideal S192x192 .f32) (a7 : FVec Ideal S192 .f32) (a8 : FVec Ideal S_ .f32) (a9 a10 : FVec Ideal S192 .f32)
    (h : fn (F := Ideal) a0 a1 a2 a3 a4 a5 a6 a7 a8 a9 a10 = fun _ => 1#1) :
    (∀ i, ∃ r : ℝ, @Eq EReal (a0 i) r) ∧ (∀ i, ∃ r : ℝ, @Eq EReal (a1 i) r) ∧ (∀ i, ∃ r : ℝ, @Eq EReal (a2 i) r) ∧ (∀ i, ∃ r : ℝ, @Eq EReal (a3 i) r)
    ∧ (∀ i, ∃ r : ℝ, @Eq EReal (a4 i) r) ∧ (∀ i, ∃ r : ℝ, @Eq EReal (a5 i) r) ∧ (∀ i, ∃ r : ℝ, @Eq EReal (a6 i) r) ∧ (∀ i, ∃ r : ℝ, @Eq EReal (a7 i) r) := by
  have h := congrFun h (fun k => k.elim0)
  unfold fn fn_part1 fn_part2 at h
  obtain ⟨h, e7⟩ := and_at _ _ _ h
  obtain ⟨h, e6⟩ := and_at _ _ _ h
  obtain ⟨h, e5⟩ := and_at _ _ _ h
  obtain ⟨h, e4⟩ := and_at _ _ _ h
  obtain ⟨h, e3⟩ := and_at _ _ _ h
  obtain ⟨h, e2⟩ := and_at _ _ _ h
  obtain ⟨h, e1⟩ := and_at _ _ _ h
  obtain ⟨-, e0⟩ := and_at _ _ _ h
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7⟩

end Cert.Pre_finite

end
-- ==== Proof.Value.Spec.lean ====
/- The function both programs compute, over the reals: region attention between an average pool and a bilinear resize,
   up to the layer normalisation. -/
module

public import proofs.«01_k».proof.Proof.Value.Real

@[expose] public section

noncomputable section

open Idealize.ShloMosaic

namespace Cert.Value

/-- The real arguments: the image, and the weights in front of the layer normalisation; `a` is the share of the
    attention over whole regions. -/
structure Data where
  x : Fin 2 → Fin 192 → Fin 224 → Fin 224 → ℝ
  sw : Fin 16 → Fin 192 → ℝ
  sb : Fin 16 → ℝ
  qw : Fin 48 → Fin 192 → ℝ
  kw : Fin 48 → Fin 192 → ℝ
  vw : Fin 192 → Fin 192 → ℝ
  fw : Fin 192 → Fin 192 → ℝ
  fb : Fin 192 → ℝ
  a : ℝ

/-- A fine pixel's coordinate: the `p`-th of the four that coarse coordinate `i` covers. -/
def fine (i : Fin 56) (p : Fin 4) : Fin 224 := ⟨i.val * 4 + p.val, by omega⟩

/-- A coarse position's row. -/
def row (n : Fin 3136) : Fin 56 := ⟨n.val / 56, by omega⟩

/-- A coarse position's column. -/
def col (n : Fin 3136) : Fin 56 := ⟨n.val % 56, by omega⟩

/-- The position at a row and a column. -/
def pos (i j : Fin 56) : Fin 3136 := ⟨i.val * 56 + j.val, by omega⟩

namespace Data

variable (D : Data) (b : Fin 2)

/-- The average pool. -/
def avg (c : Fin 192) (n : Fin 3136) : ℝ := (∑ p : Fin 4, ∑ q : Fin 4, D.x b c (fine (row n) p) (fine (col n) q)) / 16

/-- The soft assignment of a position to the regions. -/
def logit (n : Fin 3136) (r : Fin 16) : ℝ := (∑ c, D.sw r c * D.avg b c n) + D.sb r
def sem (r : Fin 16) (n : Fin 3136) : ℝ := soft (D.logit b n) r

def q (d : Fin 48) (n : Fin 3136) : ℝ := ∑ c, D.qw d c * D.avg b c n
def k (d : Fin 48) (n : Fin 3136) : ℝ := ∑ c, D.kw d c * D.avg b c n
def v (c : Fin 192) (n : Fin 3136) : ℝ := ∑ c', D.vw c c' * D.avg b c' n

/-- The keys and the values of a region. -/
def rk (r : Fin 16) (d : Fin 48) : ℝ := ∑ n, D.sem b r n * D.k b d n
def rv (r : Fin 16) (c : Fin 192) : ℝ := ∑ n, D.sem b r n * D.v b c n

/-- A position's attention over whole regions. -/
def reg (n : Fin 3136) (r : Fin 16) : ℝ := (∑ d, D.q b d n * D.rk b r d) / scale
def cont (c : Fin 192) (n : Fin 3136) : ℝ := ∑ r, soft (D.reg b n) r * D.rv b r c

/-- The region a position belongs to most. -/
def hard (n : Fin 3136) : Fin 16 := ord (fun r => D.sem b r n) 0

/-- The 256 positions that belong most to a region. -/
def top (r : Fin 16) (m : Fin 256) : Fin 3136 := ord (D.sem b r) (m.castLE (by decide))

theorem hard_eq (n : Fin 3136) : D.hard b n = ord (fun r => D.sem b r n) 0 := rfl
theorem top_eq (r : Fin 16) (m : Fin 256) : D.top b r m = ord (D.sem b r) (m.castLE (by decide)) := rfl

attribute [irreducible] hard top

/-- A position's scores against the members of its region, the eight best of them, and the attention over those. -/
def sel (n : Fin 3136) (m : Fin 256) : ℝ := (∑ d, D.q b d n * D.k b d (D.top b (D.hard b n) m)) / scale
def best (n : Fin 3136) (j : Fin 8) : Fin 256 := ord (D.sel b n) (j.castLE (by decide))
theorem best_eq (n : Fin 3136) (j : Fin 8) : D.best b n j = ord (D.sel b n) (j.castLE (by decide)) := rfl

attribute [irreducible] best

def att (n : Fin 3136) (j : Fin 8) : ℝ := soft (fun j => D.sel b n (D.best b n j)) j
def sparse (c : Fin 192) (n : Fin 3136) : ℝ := ∑ j, D.att b n j * D.v b c (D.top b (D.hard b n) (D.best b n j))

def comb (c : Fin 192) (n : Fin 3136) : ℝ := D.a * D.cont b c n + (1 - D.a) * D.sparse b c n
def fused (o : Fin 192) (n : Fin 3136) : ℝ := (∑ c, D.fw o c * D.comb b c n) + D.fb o

end Data

/-- The weight of coarse coordinate `j` at fine coordinate `i` in a bilinear resize by four: the centre of `i` on the
    coarse grid, held inside it, and the distance to `j`. -/
def weight (i : Fin 224) (j : Fin 56) : ℝ := max (1 - |min 55 (max 0 (((i.val : ℝ) + 1 / 2) * (1 / 4) - 1 / 2)) - (j.val : ℝ)|) 0

/-- It as the extended reals compute it. -/
theorem tent_eq (i : Fin 224) (j : Fin 56) :
    max ((1 : EReal) - FloatOps.absf (F := Ideal) (φ := .f32) (min (Ideal.ofBits .f32 0x425C0000#32) (max (Ideal.ofBits .f32 0x00000000#32)
      (((FloatOps.sitofp (F := Ideal) .f32 (BitVec.ofNat 32 i.val) : EReal) + Ideal.ofBits .f32 0x3F000000#32) * Ideal.ofBits .f32 0x3E800000#32
        - Ideal.ofBits .f32 0x3F000000#32)) - (FloatOps.sitofp (F := Ideal) .f32 (BitVec.ofNat 32 j.val) : EReal))) 0 = (weight i j : EReal) := by
  rw [sitofp_ofNat (by omega), sitofp_ofNat (by omega), lit_55, lit_half, lit_quarter, Ideal.ofBits_zero, ← EReal.coe_zero, ← EReal.coe_add,
    ← EReal.coe_mul, ← EReal.coe_sub, max_coe, min_coe, ← EReal.coe_sub]
  show max ((1 : EReal) - max _ (-_)) _ = _
  rw [← EReal.coe_neg, max_coe, ← EReal.coe_one, ← EReal.coe_sub, max_coe]
  rfl

namespace Data

variable (D : Data) (b : Fin 2)

/-- The resized image in front of the layer normalisation. -/
def up (o : Fin 192) (i j : Fin 224) : ℝ := ∑ w : Fin 56, weight j w * ∑ h : Fin 56, weight i h * D.fused b o (pos h w)

def mean (i j : Fin 224) : ℝ := (∑ o, D.up b o i j) / 192
def var (i j : Fin 224) : ℝ := (∑ o, (D.up b o i j - D.mean b i j) * (D.up b o i j - D.mean b i j)) / 192

/-- The normalised image. -/
def norm (o : Fin 192) (i j : Fin 224) : ℝ := (D.up b o i j - D.mean b i j) / Real.sqrt (D.var b i j + eps)

/-- The result: the image and the normalised image scaled and shifted per channel. -/
def out (lw lb : Fin 192 → EReal) (o : Fin 192) (i j : Fin 224) : EReal :=
  (D.x b o i j : EReal) + ((D.norm b o i j : EReal) * lw o + lb o)

theorem var_nonneg (i j : Fin 224) : 0 ≤ D.var b i j :=
  div_nonneg (Finset.sum_nonneg fun o _ => mul_self_nonneg _) (by norm_num)

end Data

end Cert.Value

end
-- ==== Proof.Value.Ref.lean ====
/- The reference at real arguments: its stages are the stages of the function over the reals. -/
module

public import proofs.«01_k».proof.Proof.Value.Spec
public import proofs.«01_k».proof.Proof.Gen.ReferenceIdeal.Run
public import Idealize.ShloMosaic.Lib.Pointwise

@[expose] public section

noncomputable section

open Idealize.ShloMosaic Idealize.ShloMosaic.StableHlo Idealize.SL.Sem

namespace Cert.ReferenceIdeal.Value

open Cert.ReferenceIdeal Cert.Value

/-- The arguments hold the real data. -/
structure Holds (V : Valuation τ sig (Elt Ideal)) (D : Data) : Prop where
  x : ∀ b c i j, @Eq EReal (V (Proc.devRef .tc main_arg0) (ix4 b c i j)) (D.x b c i j)
  sw : ∀ r c, @Eq EReal (V (Proc.devRef .tc main_arg1) (ix2 r c)) (D.sw r c)
  sb : ∀ r, @Eq EReal (V (Proc.devRef .tc main_arg2) (ix1 r)) (D.sb r)
  qw : ∀ r c, @Eq EReal (V (Proc.devRef .tc main_arg3) (ix2 r c)) (D.qw r c)
  kw : ∀ r c, @Eq EReal (V (Proc.devRef .tc main_arg4) (ix2 r c)) (D.kw r c)
  vw : ∀ r c, @Eq EReal (V (Proc.devRef .tc main_arg5) (ix2 r c)) (D.vw r c)
  fw : ∀ r c, @Eq EReal (V (Proc.devRef .tc main_arg6) (ix2 r c)) (D.fw r c)
  fb : ∀ r, @Eq EReal (V (Proc.devRef .tc main_arg7) (ix1 r)) (D.fb r)
  a : @Eq EReal (Ideal.logistic (V (Proc.devRef .tc main_arg8) ix0)) D.a

/-- A real passes a `nan_to_num` unchanged. -/
theorem coe_clean (r : ℝ) (a b c : EReal) :
    (if (if (if (r : EReal) ≠ r then a else r) = ⊤ then b else (if (r : EReal) ≠ r then a else r)) = ⊥ then c
      else (if (if (r : EReal) ≠ r then a else r) = ⊤ then b else (if (r : EReal) ≠ r then a else r))) = (r : EReal) := by
  simp

variable {V : Valuation τ sig (Elt Ideal)} {D : Data} (H : Holds V D)
/-- Reduced over rows and columns of four by four pixels. -/
theorem pool_sum (b : Fin 2) (c : Fin 192) (i j : Fin 56) (x : S2x192x224x224.Idx → EReal) (h) (h') :
    Ideal.hostReduceAdd (s := S2x192x56x4x56x4) (t := S2x192x56x56) (axes := [3, 5]) h
        (shapeCast S2x192x56x4x56x4 x h') 0 (ix4 b c i j)
      = ∑ p : Fin 4, ∑ q : Fin 4, x (ix4 b c (fine i p) (fine j q)) := by
  unfold Ideal.hostReduceAdd
  rw [zero_add, ← Finset.sum_product']
  refine (Finset.sum_nbij' (fun pq : Fin 4 × Fin 4 => (ix6 b c i pq.1 j pq.2 : S2x192x56x4x56x4.Idx)) (fun y => (y 3, y 5)) ?_ ?_ ?_ ?_ ?_).symm
  · intro pq _
    refine Finset.mem_filter.mpr ⟨Finset.mem_univ _, ?_⟩
    funext a
    match a with
    | ⟨0, _⟩ => rfl
    | ⟨1, _⟩ => rfl
    | ⟨2, _⟩ => rfl
    | ⟨3, _⟩ => rfl
  · intro y _
    exact Finset.mem_product.mpr ⟨Finset.mem_univ _, Finset.mem_univ _⟩
  · intro pq _; rfl
  · intro y hy
    have h0 := (Finset.mem_filter.mp hy).2
    have e := fun a => congrFun h0 a
    funext a
    match a with
    | ⟨0, _⟩ => exact (e 0).symm
    | ⟨1, _⟩ => exact (e 1).symm
    | ⟨2, _⟩ => exact (e 2).symm
    | ⟨3, _⟩ => rfl
    | ⟨4, _⟩ => exact (e 3).symm
    | ⟨5, _⟩ => rfl
  · intro pq _
    pointwise
    rfl

include H

theorem v4_eq (b : Fin 2) (c : Fin 192) (n : Fin 3136) : @Eq EReal (res_main_v4 V (ix3 b c n)) (D.avg b c n) := by
  pointwise [res_main_v4]
  rw [pool_sum]
  simp only [H.x, lit_16, coe_sum]
  rw [div_coe_coe _ (by norm_num)]
  rfl

theorem v9_eq (b : Fin 2) (r : Fin 16) (n : Fin 3136) : @Eq EReal (res_main_v9 V (ix3 b r n)) (D.logit b n r) := by
  pointwise [res_main_v9, dot_S2x192x3136_S16x192_S2x3136x16_1_1_02_0_n_n]
  simp only [v4_eq H, H.sw, H.sb, ← EReal.coe_mul, coe_sum, ← EReal.coe_add, mul_comm (D.avg b _ n)]
  rfl

theorem v16_eq (b : Fin 2) (n : Fin 3136) :
    ∃ m : ℝ, ∀ r, @Eq EReal (res_main_v16 V (ix3 b r n)) (Real.exp (D.logit b n r - m) : ℝ) := by
  obtain ⟨m, hm⟩ := fold_max_coe_of (Finset.univ.filter fun i => Gen.reducesTo_S2x16x3136_S2x3136_d1.drop i = ix2 b n)
    ⟨ix3 b 0 n, Finset.mem_filter.mpr ⟨Finset.mem_univ _, by funext a; match a with | ⟨0, _⟩ => rfl | ⟨1, _⟩ => rfl⟩⟩
    (res_main_v9 V) (fun i => ⟨D.logit (i 0) (i 2) (i 1), by
      rw [show i = ix3 (i 0) (i 1) (i 2) from eq_ix3 i]; exact v9_eq H _ _ _⟩)
  refine ⟨m, fun r => ?_⟩
  pointwise [res_main_v16]
  simp only [lit_bot]
  rw [v9_eq H]
  refine (congrArg (fun z : EReal => Ideal.exp (↑(D.logit b n r) - max ⊥ z)) hm).trans ?_
  rw [max_eq_right bot_le]
  rfl

theorem v20_eq (b : Fin 2) (r : Fin 16) (n : Fin 3136) : @Eq EReal (res_main_v20 V (ix3 b r n)) (D.sem b r n) := by
  obtain ⟨m, hm⟩ := v16_eq H b n
  pointwise [res_main_v20]
  simp only [hm, coe_sum]
  rw [div_coe_coe _ (sum_exp_pos _).ne', soft_shift]
  rfl

theorem v21_eq (b : Fin 2) (r : Fin 16) (n : Fin 3136) : @Eq EReal (res_main_v21 V (ix3 b r n)) (D.sem b r n) := by
  pointwise [res_main_v21, res_main_call0_v6, res_main_call0_v2]
  simp only [v20_eq H, lit_bot, lit_top]
  exact coe_clean _ _ _ _

theorem v23_eq (b : Fin 2) (d : Fin 48) (n : Fin 3136) : @Eq EReal (res_main_v23 V (ix3 b d n)) (D.q b d n) := by
  pointwise [res_main_v23, dot_S2x192x3136_S48x192_S2x3136x48_1_1_02_0_n_n]
  simp only [v4_eq H, H.qw, ← EReal.coe_mul, coe_sum, mul_comm (D.avg b _ n)]
  rfl

theorem v25_eq (b : Fin 2) (d : Fin 48) (n : Fin 3136) : @Eq EReal (res_main_v25 V (ix3 b d n)) (D.k b d n) := by
  pointwise [res_main_v25, dot_S2x192x3136_S48x192_S2x3136x48_1_1_02_0_n_n]
  simp only [v4_eq H, H.kw, ← EReal.coe_mul, coe_sum, mul_comm (D.avg b _ n)]
  rfl

theorem v27_eq (b : Fin 2) (d : Fin 192) (n : Fin 3136) : @Eq EReal (res_main_v27 V (ix3 b d n)) (D.v b d n) := by
  pointwise [res_main_v27, dot_S2x192x3136_S192x192_S2x3136x192_1_1_02_0_n_n]
  simp only [v4_eq H, H.vw, ← EReal.coe_mul, coe_sum, mul_comm (D.avg b _ n)]
  rfl

theorem v32_eq (b : Fin 2) (r : Fin 16) (n : Fin 3136) : @Eq EReal (res_main_v32 V (ix3 b r n)) (D.reg b n r) := by
  pointwise [res_main_v32, dot_S2x16x48_S2x48x3136_S2x16x3136_2_1_1_2_0_0, dot_S2x16x3136_S2x48x3136_S2x16x48_2_2_1_1_0_0]
  simp only [v21_eq H, v25_eq H, v23_eq H, ← EReal.coe_mul, coe_sum, lit_scale]
  rw [div_coe_coe _ scale_ne]
  unfold Data.reg Data.rk
  simp only [mul_comm]

theorem v39_eq (b : Fin 2) (n : Fin 3136) :
    ∃ m : ℝ, ∀ r, @Eq EReal (res_main_v39 V (ix3 b r n)) (Real.exp (D.reg b n r - m) : ℝ) := by
  obtain ⟨m, hm⟩ := fold_max_coe_of (Finset.univ.filter fun i => Gen.reducesTo_S2x16x3136_S2x3136_d1.drop i = ix2 b n)
    ⟨ix3 b 0 n, Finset.mem_filter.mpr ⟨Finset.mem_univ _, by funext a; match a with | ⟨0, _⟩ => rfl | ⟨1, _⟩ => rfl⟩⟩
    (res_main_v32 V) (fun i => ⟨D.reg (i 0) (i 2) (i 1), by
      rw [show i = ix3 (i 0) (i 1) (i 2) from eq_ix3 i]; exact v32_eq H _ _ _⟩)
  refine ⟨m, fun r => ?_⟩
  pointwise [res_main_v39]
  simp only [lit_bot]
  rw [v32_eq H]
  refine (congrArg (fun z : EReal => Ideal.exp (↑(D.reg b n r) - max ⊥ z)) hm).trans ?_
  rw [max_eq_right bot_le]
  rfl

theorem v43_eq (b : Fin 2) (r : Fin 16) (n : Fin 3136) : @Eq EReal (res_main_v43 V (ix3 b r n)) (soft (D.reg b n) r : ℝ) := by
  obtain ⟨m, hm⟩ := v39_eq H b n
  pointwise [res_main_v43]
  simp only [hm, coe_sum]
  rw [div_coe_coe _ (sum_exp_pos _).ne', soft_shift]

theorem call1_eq (b : Fin 2) (r : Fin 16) (n : Fin 3136) :
    @Eq EReal (res_main_call1_v6 V (ix3 b r n)) (soft (D.reg b n) r : ℝ) := by
  pointwise [res_main_call1_v6, res_main_call1_v2]
  simp only [v43_eq H, lit_top, ne_eq, not_true_eq_false, if_false, EReal.coe_ne_top]

theorem v45_eq (b : Fin 2) (c : Fin 192) (n : Fin 3136) : @Eq EReal (res_main_v45 V (ix3 b c n)) (D.cont b c n) := by
  pointwise [res_main_v45, dot_S2x16x192_S2x16x3136_S2x192x3136_1_1_2_2_0_0,
    dot_S2x16x3136_S2x192x3136_S2x16x192_2_2_1_1_0_0]
  simp only [call1_eq H, lit_bot, EReal.coe_ne_bot, if_false, v21_eq H, v27_eq H, ← EReal.coe_mul, coe_sum]
  unfold Data.cont Data.rv
  simp only [mul_comm]

theorem call2_eq (b : Fin 2) (c : Fin 192) (n : Fin 3136) : @Eq EReal (res_main_call2_v6 V (ix3 b c n)) (D.cont b c n) := by
  pointwise [res_main_call2_v6, res_main_call2_v2]
  simp only [v45_eq H, lit_top, ne_eq, not_true_eq_false, if_false, EReal.coe_ne_top]

end Cert.ReferenceIdeal.Value

end
-- ==== Proof.Value.Host.lean ====
/- Host operations on real entries: a batched top-k, reads along an axis at indices in range. -/
module

public import proofs.«01_k».proof.Proof.Value.Real

@[expose] public section

noncomputable section

open Idealize.ShloMosaic

namespace Cert.Value

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

theorem toNat_ofNat {n : ℕ} (h : n < 2 ^ 31) : (BitVec.ofNat 32 n).toInt.toNat = n := by
  rw [toInt_ofNat h, Int.toNat_natCast]

theorem along3 {A B N : ℕ} (a : Fin A) (b : Fin B) (j k : Fin N) (d : Fin 3) (hd : d = 2) :
    (ix3 a b j : (⟨3, ![A, B, N]⟩ : Shape).Idx).along d (hd ▸ k) = ix3 a b k := by
  subst hd
  funext e
  match e with
  | ⟨0, _⟩ => rfl
  | ⟨1, _⟩ => rfl
  | ⟨2, _⟩ => rfl

theorem topK_order {N : ℕ} (x : Fin N → EReal) (s : Fin N → ℝ) (hx : ∀ j, x j = s j) :
    (sortedFrom fun k k' => FloatOps.cmpfTotal (F := Ideal) (φ := .f32) .gt (x k) (x k') == 1#1) = ord s := by
  unfold ord
  congr 1
  funext k k'
  rw [hx, hx]
  show (BitVec.ofBool (decide ((s k' : EReal) < s k)) == 1#1) = _
  by_cases h : s k' < s k <;> simp [h]

/-- A top-k along the last of three axes: the greatest entries in order, and their positions. -/
theorem topK_eq {A B N K : ℕ} (x : (⟨3, ![A, B, N]⟩ : Shape).Idx → EReal) (a : Fin A) (b : Fin B) (s : Fin N → ℝ)
    (hx : ∀ j, x (ix3 a b j) = s j) (h : Shape.Slices ⟨3, ![A, B, N]⟩ (fun _ => 0) ⟨3, ![A, B, K]⟩) (hk : K ≤ N) (k : Fin K) :
    (Host.topK ⟨3, ![A, B, K]⟩ 2 (FloatOps.cmpfTotal (F := Ideal) (φ := .f32) .gt) x h).1 (ix3 a b k) = (s (ord s (k.castLE hk)) : EReal)
    ∧ (Host.topK ⟨3, ![A, B, K]⟩ 2 (FloatOps.cmpfTotal (F := Ideal) (φ := .f32) .gt) x h).2 (ix3 a b k)
      = BitVec.ofNat 32 (ord s (k.castLE hk)).val := by
  have hi : ∀ {β : Type} (f : (⟨3, ![A, B, N]⟩ : Shape).Idx → β),
      extractStridedSlice ⟨3, ![A, B, K]⟩ (fun _ => 0) f h (ix3 a b k) = f (ix3 a b (k.castLE hk)) := fun f => by
    unfold extractStridedSlice
    congr 1
    funext e
    match e with
    | ⟨0, _⟩ => exact Fin.ext (Nat.zero_add _)
    | ⟨1, _⟩ => exact Fin.ext (Nat.zero_add _)
    | ⟨2, _⟩ => exact Fin.ext (Nat.zero_add _)
  have ha : ∀ (j k : Fin N), (ix3 a b j : (⟨3, ![A, B, N]⟩ : Shape).Idx).along 2 k = ix3 a b k :=
    fun j k => along3 a b j k 2 rfl
  have key : (sortedFrom fun k' k'' : Fin N => FloatOps.cmpfTotal (F := Ideal) (φ := .f32) .gt
      (x ((ix3 a b (k.castLE hk) : (⟨3, ![A, B, N]⟩ : Shape).Idx).along 2 k'))
      (x ((ix3 a b (k.castLE hk) : (⟨3, ![A, B, N]⟩ : Shape).Idx).along 2 k'')) == 1#1) = ord s :=
    topK_order (fun j => x ((ix3 a b (k.castLE hk) : (⟨3, ![A, B, N]⟩ : Shape).Idx).along 2 j)) s fun j => (congrArg x (ha _ _)).trans (hx j)
  let pos : IVec ⟨3, ![A, B, N]⟩ 32 := fun i => if hd : 2 < 3 then iotaInDim ⟨3, ![A, B, N]⟩ 32 ⟨2, hd⟩ i else 0#32
  constructor
  · refine Eq.trans ?_ ((congrArg x (ha (k.castLE hk) (ord s (k.castLE hk)))).trans (hx _))
    rw [← key]
    exact hi (Host.sort2 ⟨3, ![A, B, N]⟩ 2 (fun l r => FloatOps.cmpfTotal (F := Ideal) (φ := .f32) .gt l.1 r.1) x pos).1
  · refine (hi (Host.sort2 ⟨3, ![A, B, N]⟩ 2 (fun l r => FloatOps.cmpfTotal (F := Ideal) (φ := .f32) .gt l.1 r.1) x pos).2).trans ?_
    rw [← key]
    rfl

/-- Tests that all hold, folded by `and`. -/
theorem fold_andi_one {ι : Type} (s : Finset ι) (p : ι → BitVec 1) (h : ∀ i ∈ s, p i = 1#1) :
    Finset.fold IntOp.andi 1#1 p s = 1#1 := by
  classical
  induction s using Finset.induction_on with
  | empty => rfl
  | insert a s ha ih =>
    rw [Finset.fold_insert ha, h a (Finset.mem_insert_self _ _), ih fun i hi => h i (Finset.mem_insert_of_mem hi)]
    rfl

theorem index_word (p q : ℕ) : IntOp.addi (IntOp.muli (BitVec.ofNat 32 p) 256#32) (BitVec.ofNat 32 q) = BitVec.ofNat 32 (p * 256 + q) := by
  show BitVec.ofNat 32 p * 256#32 + BitVec.ofNat 32 q = _
  rw [BitVec.ofNat_add, BitVec.ofNat_mul]

theorem index_lt (p : Fin 16) (q : Fin 256) : p.val * 256 + q.val < 4096 := by omega

theorem select_one {α : Type} (x y : α) : Scalar.select 1#1 x y = x := rfl

/-- An index that counts from the front is kept as it is. -/
theorem wrap_eq {n : ℕ} (h : n < 2 ^ 31) (z : BitVec 32) :
    Scalar.select (IntOp.cmpi .slt (BitVec.ofNat 32 n) 0#32) z (BitVec.ofNat 32 n) = BitVec.ofNat 32 n := by
  have : IntOp.cmpi .slt (BitVec.ofNat 32 n) 0#32 = 0#1 := by
    show BitVec.ofBool ((BitVec.ofNat 32 n).slt 0#32) = 0#1
    have : (BitVec.ofNat 32 n).slt 0#32 = false := by
      rw [Bool.eq_false_iff, ne_eq, BitVec.slt_iff_toInt_lt, toInt_ofNat h]
      simp
    rw [this]; rfl
  rw [this]; rfl

/-- An index in range passes the test of its range. -/
theorem range_one {n N : ℕ} (h : n ≤ N) (hN : N < 2 ^ 31) :
    IntOp.andi (IntOp.cmpi .sge (BitVec.ofNat 32 n) 0#32) (IntOp.cmpi .sle (BitVec.ofNat 32 n) (BitVec.ofNat 32 N)) = 1#1 := by
  have h1 : IntOp.cmpi .sge (BitVec.ofNat 32 n) 0#32 = 1#1 := by
    show BitVec.ofBool ((0#32).sle (BitVec.ofNat 32 n)) = 1#1
    rw [BitVec.sle_iff_toInt_le.mpr (by rw [toInt_ofNat (n := n) (by omega)]; exact Int.natCast_nonneg n)]; rfl
  have h2 : IntOp.cmpi .sle (BitVec.ofNat 32 n) (BitVec.ofNat 32 N) = 1#1 := by
    show BitVec.ofBool ((BitVec.ofNat 32 n).sle (BitVec.ofNat 32 N)) = 1#1
    rw [BitVec.sle_iff_toInt_le.mpr (by rw [toInt_ofNat (by omega), toInt_ofNat hN]; exact_mod_cast h)]; rfl
  rw [h1, h2]; rfl

theorem ix5_last {A B C M : ℕ} (i : (⟨5, ![A, B, C, M, 1]⟩ : Shape).Idx) : ∃ a b c m, i = ix5 a b c m 0 :=
  ⟨i 0, i 1, i 2, i 3, (eq_ix5 i).trans (congrArg _ (Subsingleton.elim (α := Fin 1) _ _))⟩

theorem ix5_second_last {A C M : ℕ} (i : (⟨5, ![A, 1, C, M, 1]⟩ : Shape).Idx) : ∃ a c m, i = ix5 a 0 c m 0 := by
  obtain ⟨a, b, c, m, h⟩ := ix5_last i
  exact ⟨a, c, m, by rw [h, Subsingleton.elim b 0]⟩

section Members
variable {α : Type}

/-- A read along the last of four axes, at an index per result entry. -/
abbrev memberDims (A B C N M : ℕ)
    (wf : GatherDims.WF ⟨4, ![A, B, C, N]⟩ ⟨5, ![A, B, C, M, 1]⟩ ⟨4, ![A, B, C, M]⟩ [] [3] [0, 1, 2] [3] [0, 1, 2] 4 ![1, 1, 1, 1]) :
    GatherDims ⟨4, ![A, B, C, N]⟩ ⟨5, ![A, B, C, M, 1]⟩ ⟨4, ![A, B, C, M]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

theorem gather_member {A B C N M : ℕ} (wf) (x : (⟨4, ![A, B, C, N]⟩ : Shape).Idx → α) (idx : IVec ⟨5, ![A, B, C, M, 1]⟩ 32)
    (a : Fin A) (b : Fin B) (c : Fin C) (m : Fin M) (t : Fin N) (hN : N < 2 ^ 31) (h : idx (ix5 a b c m 0) = BitVec.ofNat 32 t.val) :
    Host.gather (memberDims A B C N M wf) x idx (ix4 a b c m) = x (ix4 a b c t) := by
  unfold Host.gather
  congr 1
  funext e
  refine Fin.ext ?_
  show (memberDims A B C N M wf).start _ idx e + (memberDims A B C N M wf).batchCoord _ e + (memberDims A B C N M wf).offCoord _ e = _
  match e with
  | ⟨0, _⟩ => exact (Nat.zero_add _)
  | ⟨1, _⟩ => exact (Nat.zero_add _)
  | ⟨2, _⟩ => exact (Nat.zero_add _)
  | ⟨3, _⟩ =>
    show (memberDims A B C N M wf).start _ idx 3 = t.val
    unfold GatherDims.start
    rw [dif_pos (show (3 : Fin 4) ∈ (memberDims A B C N M wf).startIndexMap from List.mem_singleton.mpr rfl)]
    have hsi : (memberDims A B C N M wf).siIdx (ix4 a b c m) ⟨List.idxOf (3 : Fin 4) (memberDims A B C N M wf).startIndexMap,
        List.idxOf_lt_length_iff.2 (List.mem_singleton.mpr rfl)⟩ = ix5 a b c m 0 := by
      funext b
      match b with
      | ⟨0, _⟩ => rfl
      | ⟨1, _⟩ => rfl
      | ⟨2, _⟩ => rfl
      | ⟨3, _⟩ => rfl
      | ⟨4, _⟩ => rfl
    rw [hsi, h, toNat_ofNat (by omega)]
    exact min_eq_left (by show t.val ≤ N - 1; omega)

/-- A read along the second of four axes, at an index per result entry. -/
abbrev groupDims (A B C M : ℕ)
    (wf : GatherDims.WF ⟨4, ![A, B, C, M]⟩ ⟨5, ![A, 1, C, M, 1]⟩ ⟨4, ![A, 1, C, M]⟩ [] [1] [0, 2, 3] [1] [0, 2, 3] 4 ![1, 1, 1, 1]) :
    GatherDims ⟨4, ![A, B, C, M]⟩ ⟨5, ![A, 1, C, M, 1]⟩ ⟨4, ![A, 1, C, M]⟩ where
  offsetDims := []
  collapsedSliceDims := [1]
  operandBatchingDims := [0, 2, 3]
  startIndicesBatchingDims := [0, 2, 3]
  startIndexMap := [1]
  indexVectorDim := 4
  sliceSizes := ![1, 1, 1, 1]
  wf := wf

theorem gather_group {A B C M : ℕ} (wf) (x : (⟨4, ![A, B, C, M]⟩ : Shape).Idx → α) (idx : IVec ⟨5, ![A, 1, C, M, 1]⟩ 32)
    (a : Fin A) (c : Fin C) (m : Fin M) (t : Fin B) (hN : B < 2 ^ 31) (h : idx (ix5 a 0 c m 0) = BitVec.ofNat 32 t.val) :
    Host.gather (groupDims A B C M wf) x idx (ix4 a 0 c m) = x (ix4 a t c m) := by
  unfold Host.gather
  congr 1
  funext e
  refine Fin.ext ?_
  show (groupDims A B C M wf).start _ idx e + (groupDims A B C M wf).batchCoord _ e + (groupDims A B C M wf).offCoord _ e = _
  match e with
  | ⟨0, _⟩ => exact (Nat.zero_add _)
  | ⟨2, _⟩ => exact (Nat.zero_add _)
  | ⟨3, _⟩ => exact (Nat.zero_add _)
  | ⟨1, _⟩ =>
    show (groupDims A B C M wf).start _ idx 1 = t.val
    unfold GatherDims.start
    rw [dif_pos (show (1 : Fin 4) ∈ (groupDims A B C M wf).startIndexMap from List.mem_singleton.mpr rfl)]
    have hsi : (groupDims A B C M wf).siIdx (ix4 a 0 c m) ⟨List.idxOf (1 : Fin 4) (groupDims A B C M wf).startIndexMap,
        List.idxOf_lt_length_iff.2 (List.mem_singleton.mpr rfl)⟩ = ix5 a 0 c m 0 := by
      funext b
      match b with
      | ⟨0, _⟩ => rfl
      | ⟨1, _⟩ => rfl
      | ⟨2, _⟩ => rfl
      | ⟨3, _⟩ => rfl
      | ⟨4, _⟩ => rfl
    rw [hsi, h, toNat_ofNat (by omega)]
    exact min_eq_left (by show t.val ≤ B - 1; omega)

/-- A read of whole rows along the last of three axes, at a batch and a row index per result row. -/
abbrev rowsDims (A N C P M : ℕ)
    (wf : GatherDims.WF ⟨3, ![A, N, C]⟩ ⟨4, ![A, P, M, 2]⟩ ⟨4, ![A, P, M, C]⟩ [3] [0, 1] [] [0, 1] [] 3 ![1, 1, C]) :
    GatherDims ⟨3, ![A, N, C]⟩ ⟨4, ![A, P, M, 2]⟩ ⟨4, ![A, P, M, C]⟩ where
  offsetDims := [3]
  collapsedSliceDims := [0, 1]
  operandBatchingDims := []
  startIndicesBatchingDims := []
  startIndexMap := [0, 1]
  indexVectorDim := 3
  sliceSizes := ![1, 1, C]
  wf := wf

theorem gather_rows {A N C P M : ℕ} (wf) (x : (⟨3, ![A, N, C]⟩ : Shape).Idx → α) (idx : IVec ⟨4, ![A, P, M, 2]⟩ 32)
    (a : Fin A) (p : Fin P) (m : Fin M) (c : Fin C) (a' : Fin A) (t : Fin N) (hA : A < 2 ^ 31) (hN : N < 2 ^ 31)
    (h0 : idx (ix4 a p m 0) = BitVec.ofNat 32 a'.val) (h1 : idx (ix4 a p m 1) = BitVec.ofNat 32 t.val) :
    Host.gather (rowsDims A N C P M wf) x idx (ix4 a p m c) = x (ix3 a' t c) := by
  have hm0 : (0 : Fin 3) ∈ ([0, 1] : List (Fin 3)) := by decide
  have hm1 : (1 : Fin 3) ∈ ([0, 1] : List (Fin 3)) := by decide
  unfold Host.gather
  congr 1
  funext e
  refine Fin.ext ?_
  show (rowsDims A N C P M wf).start _ idx e + (rowsDims A N C P M wf).batchCoord _ e + (rowsDims A N C P M wf).offCoord _ e = _
  match e with
  | ⟨0, _⟩ =>
    show (rowsDims A N C P M wf).start _ idx 0 = a'.val
    unfold GatherDims.start
    rw [dif_pos (show (0 : Fin 3) ∈ (rowsDims A N C P M wf).startIndexMap from hm0)]
    have hsi : (rowsDims A N C P M wf).siIdx (ix4 a p m c) ⟨List.idxOf (0 : Fin 3) (rowsDims A N C P M wf).startIndexMap,
        List.idxOf_lt_length_iff.2 hm0⟩ = ix4 a p m 0 := by
      funext b
      match b with
      | ⟨0, _⟩ => rfl
      | ⟨1, _⟩ => rfl
      | ⟨2, _⟩ => rfl
      | ⟨3, _⟩ => rfl
    rw [hsi, h0, toNat_ofNat (by omega)]
    exact min_eq_left (by show a'.val ≤ A - 1; omega)
  | ⟨1, _⟩ =>
    show (rowsDims A N C P M wf).start _ idx 1 = t.val
    unfold GatherDims.start
    rw [dif_pos (show (1 : Fin 3) ∈ (rowsDims A N C P M wf).startIndexMap from hm1)]
    have hsi : (rowsDims A N C P M wf).siIdx (ix4 a p m c) ⟨List.idxOf (1 : Fin 3) (rowsDims A N C P M wf).startIndexMap,
        List.idxOf_lt_length_iff.2 hm1⟩ = ix4 a p m 1 := by
      funext b
      match b with
      | ⟨0, _⟩ => rfl
      | ⟨1, _⟩ => rfl
      | ⟨2, _⟩ => rfl
      | ⟨3, _⟩ => rfl
    rw [hsi, h1, toNat_ofNat (by omega)]
    exact min_eq_left (by show t.val ≤ N - 1; omega)
  | ⟨2, _⟩ => exact (Nat.zero_add _)

end Members

end Cert.Value

end
-- ==== Proof.Value.RefTop.lean ====
/- The reference's selections: the members of each region, each position's region, its scores there, the eight best and
   their attention. -/
module

public import proofs.«01_k».proof.Proof.Value.Ref
public import proofs.«01_k».proof.Proof.Value.Host

@[expose] public section

noncomputable section

open Idealize.ShloMosaic Idealize.ShloMosaic.StableHlo Idealize.SL.Sem

namespace Cert.ReferenceIdeal.Value

open Cert.ReferenceIdeal Cert.Value

/-- The members' keys. -/
def keys (V : Valuation τ sig (Elt Ideal)) : FVec Ideal S2x16x48x256 .f32 :=
  select (Host.reduce IntOp.andi (andi (cmpi .sge (res_main_call3_v5 V) (broadcastInDim S2x16x48x256x1 ![] Gen.bcast_S_S2x16x48x256x1 (constantI S_ 32 0#32))) (cmpi .sle (res_main_call3_v5 V) (broadcastInDim S2x16x48x256x1 ![0, 1, 2, 3, 4] Gen.bcast_S1x1x1x1x1_S2x16x48x256x1_0_1_2_3_4 (broadcastInDim S1x1x1x1x1 ![4] Gen.bcast_S1_S1x1x1x1x1_4 (constantI S1 32 3135#32))))) (constantI S_ 1 1#1) Gen.reducesTo_S2x16x48x256x1_S2x16x48x256_d4 Gen.h_S_) (Host.gather gather_S2x16x48x3136_S2x16x48x256x1_S2x16x48x256_n_3_012_012_3_4_1111 (broadcastInDim S2x16x48x3136 ![0, 1, 2, 3] Gen.bcast_S2x1x48x3136_S2x16x48x3136_0_1_2_3 (broadcastInDim S2x1x48x3136 ![0, 2, 3] Gen.bcast_S2x48x3136_S2x1x48x3136_0_2_3 (res_main_v25 V))) (res_main_call3_v5 V)) (broadcastInDim S2x16x48x256 ![] Gen.bcast_S_S2x16x48x256 (constant S_ .f32 0x7FC00000#32))

/-- The members' values. -/
def vals (V : Valuation τ sig (Elt Ideal)) : FVec Ideal S2x16x192x256 .f32 :=
  select (Host.reduce IntOp.andi (andi (cmpi .sge (res_main_call4_v5 V) (broadcastInDim S2x16x192x256x1 ![] Gen.bcast_S_S2x16x192x256x1 (constantI S_ 32 0#32))) (cmpi .sle (res_main_call4_v5 V) (broadcastInDim S2x16x192x256x1 ![0, 1, 2, 3, 4] Gen.bcast_S1x1x1x1x1_S2x16x192x256x1_0_1_2_3_4 (broadcastInDim S1x1x1x1x1 ![4] Gen.bcast_S1_S1x1x1x1x1_4 (constantI S1 32 3135#32))))) (constantI S_ 1 1#1) Gen.reducesTo_S2x16x192x256x1_S2x16x192x256_d4 Gen.h_S_) (Host.gather gather_S2x16x192x3136_S2x16x192x256x1_S2x16x192x256_n_3_012_012_3_4_1111 (broadcastInDim S2x16x192x3136 ![0, 1, 2, 3] Gen.bcast_S2x1x192x3136_S2x16x192x3136_0_1_2_3 (broadcastInDim S2x1x192x3136 ![0, 2, 3] Gen.bcast_S2x192x3136_S2x1x192x3136_0_2_3 (res_main_v27 V))) (res_main_call4_v5 V)) (broadcastInDim S2x16x192x256 ![] Gen.bcast_S_S2x16x192x256 (constant S_ .f32 0x7FC00000#32))

/-- Every position's scores against the members of every region. -/
def scores (V : Valuation τ sig (Elt Ideal)) : FVec Ideal S2x16x3136x256 .f32 :=
  Host.divf (transpose S2x16x3136x256 [0, 1, 3, 2] (Host.dotGeneral (φ₂ := .f32) dot_S2x16x48x256_S2x48x3136_S2x16x256x3136_2_1_13_2_0_0 none (keys V) (res_main_v23 V)) Gen.transposes_S2x16x256x3136_S2x16x3136x256_0_1_3_2) (broadcastInDim S2x16x3136x256 ![] Gen.bcast_S_S2x16x3136x256 (constant S_ .f32 0x40DDB3D9#32))

/-- The batch and row of each position's neighbours. -/
def rowsAt (V : Valuation τ sig (Elt Ideal)) : IVec S2x3136x8x2 32 :=
  concatenate S2x3136x8x2 3 [⟨S2x3136x8x1, (broadcastInDim S2x3136x8x1 ![0, 1, 2] Gen.bcast_S2x3136x8_S2x3136x8x1_0_1_2 (broadcastInDim S2x3136x8 ![0, 1, 2] Gen.bcast_S2x1x1_S2x3136x8_0_1_2 (select (cmpi .slt (res_main_v86 V) (broadcastInDim S2x1x1 ![] Gen.bcast_S_S2x1x1 (constantI S_ 32 0#32))) (addi (res_main_v86 V) (broadcastInDim S2x1x1 ![] Gen.bcast_S_S2x1x1 (constantI S_ 32 2#32))) (res_main_v86 V))))⟩, ⟨S2x3136x8x1, (broadcastInDim S2x3136x8x1 ![0, 1, 2] Gen.bcast_S2x3136x8_S2x3136x8x1_0_1_2 (select (cmpi .slt (res_main_v82 V) (broadcastInDim S2x3136x8 ![] Gen.bcast_S_S2x3136x8 (constantI S_ 32 0#32))) (addi (res_main_v82 V) (broadcastInDim S2x3136x8 ![] Gen.bcast_S_S2x3136x8 (constantI S_ 32 4096#32))) (res_main_v82 V)))⟩] Gen.concatenates_S2x3136x8x1_S2x3136x8x1_S2x3136x8x2_d3

/-- Each position's neighbours' values. -/
def rowsOf (V : Valuation τ sig (Elt Ideal)) : FVec Ideal S2x3136x8x192 .f32 :=
  Host.gather gather_S2x4096x192_S2x3136x8x2_S2x3136x8x192_3_01_n_n_01_3_11192 (shapeCast _ (transpose S2x16x256x192 [0, 1, 3, 2] (vals V) Gen.transposes_S2x16x192x256_S2x16x256x192_0_1_3_2) Gen.shapeCasts_S2x16x256x192_S2x4096x192) (rowsAt V)

variable {V : Valuation τ sig (Elt Ideal)} {D : Data} (H : Holds V D)
include H

theorem indices_eq (b : Fin 2) (r : Fin 16) (m : Fin 256) :
    @Eq (BitVec 32) (res_main_indices V (ix3 b r m)) (BitVec.ofNat 32 (D.top b r m).val) := by
  rw [D.top_eq]
  exact (topK_eq (res_main_v21 V) b r (D.sem b r) (fun n => v21_eq H b r n) _ (by decide) m).2

theorem v58_eq (b : Fin 2) (n : Fin 3136) : @Eq (BitVec 32) (res_main_v58 V (ix2 b n)) (BitVec.ofNat 32 (D.hard b n).val) := by
  have h := fun w => (topK_eq (res_main_v57 V) b n (fun r => D.sem b r n) (fun r => by
    pointwise [res_main_v57]
    exact v21_eq H b r n) w (by decide) (0 : Fin 1)).2
  rw [D.hard_eq]
  pointwise [res_main_v58]
  exact h _

theorem call3_eq (b : Fin 2) (r : Fin 16) (d : Fin 48) (m : Fin 256) :
    @Eq (BitVec 32) (res_main_call3_v5 V (ix5 b r d m 0)) (BitVec.ofNat 32 (D.top b r m).val) := by
  pointwise [res_main_call3_v5, res_main_v50]
  simp only [indices_eq H]
  exact wrap_eq (by omega) _

theorem call4_eq (b : Fin 2) (r : Fin 16) (d : Fin 192) (m : Fin 256) :
    @Eq (BitVec 32) (res_main_call4_v5 V (ix5 b r d m 0)) (BitVec.ofNat 32 (D.top b r m).val) := by
  pointwise [res_main_call4_v5, res_main_v55]
  simp only [indices_eq H]
  exact wrap_eq (by omega) _

theorem call5_eq (b : Fin 2) (n : Fin 3136) (m : Fin 256) :
    @Eq (BitVec 32) (res_main_call5_v5 V (ix5 b 0 n m 0)) (BitVec.ofNat 32 (D.hard b n).val) := by
  pointwise [res_main_call5_v5, res_main_v64]
  simp only [v58_eq H]
  exact wrap_eq (by omega) _

theorem keys_eq (b : Fin 2) (r : Fin 16) (d : Fin 48) (m : Fin 256) :
    @Eq EReal (keys V (ix4 b r d m)) (D.k b d (D.top b r m)) := by
  pointwise [keys]
  rw [fold_andi_one, select_one]
  · unfold gather_S2x16x48x3136_S2x16x48x256x1_S2x16x48x256_n_3_012_012_3_4_1111
    rw [gather_member _ _ _ _ _ _ _ (D.top b r m) (by decide) (call3_eq H b r d m)]
    pointwise
    exact v25_eq H _ _ _
  · intro i _
    obtain ⟨a, b, c, m, rfl⟩ := ix5_last i
    pointwise
    rw [call3_eq H]
    exact range_one (by omega) (by decide)

theorem vals_eq (b : Fin 2) (r : Fin 16) (d : Fin 192) (m : Fin 256) :
    @Eq EReal (vals V (ix4 b r d m)) (D.v b d (D.top b r m)) := by
  pointwise [vals]
  rw [fold_andi_one, select_one]
  · unfold gather_S2x16x192x3136_S2x16x192x256x1_S2x16x192x256_n_3_012_012_3_4_1111
    rw [gather_member _ _ _ _ _ _ _ (D.top b r m) (by decide) (call4_eq H b r d m)]
    pointwise
    exact v27_eq H _ _ _
  · intro i _
    obtain ⟨a, b, c, m, rfl⟩ := ix5_last i
    pointwise
    rw [call4_eq H]
    exact range_one (by omega) (by decide)

omit H in
theorem v66_unfold : res_main_v66 V = shapeCast _ (select (Host.reduce IntOp.andi (andi (cmpi .sge (res_main_call5_v5 V) (broadcastInDim S2x1x3136x256x1 ![] Gen.bcast_S_S2x1x3136x256x1 (constantI S_ 32 0#32))) (cmpi .sle (res_main_call5_v5 V) (broadcastInDim S2x1x3136x256x1 ![0, 1, 2, 3, 4] Gen.bcast_S1x1x1x1x1_S2x1x3136x256x1_0_1_2_3_4 (broadcastInDim S1x1x1x1x1 ![4] Gen.bcast_S1_S1x1x1x1x1_4 (constantI S1 32 15#32))))) (constantI S_ 1 1#1) Gen.reducesTo_S2x1x3136x256x1_S2x1x3136x256_d4 Gen.h_S_) (Host.gather gather_S2x16x3136x256_S2x1x3136x256x1_S2x1x3136x256_n_1_023_023_1_4_1111 (scores V) (res_main_call5_v5 V)) (broadcastInDim S2x1x3136x256 ![] Gen.bcast_S_S2x1x3136x256 (constant S_ .f32 0x7FC00000#32))) Gen.shapeCasts_S2x1x3136x256_S2x3136x256 := rfl

omit H in
theorem v103_unfold : res_main_v103 V = transpose S2x192x3136 [0, 2, 1] (Host.dotGeneral (φ₂ := .f32) dot_S2x3136x8_S2x3136x8x192_S2x3136x192_2_2_n_3_01_01 none (Host.divf (res_main_v73 V) (broadcastInDim S2x3136x8 ![0, 1, 2] Gen.bcast_S2x3136x1_S2x3136x8_0_1_2 (broadcastInDim S2x3136x1 ![0, 1] Gen.bcast_S2x3136_S2x3136x1_0_1 (Host.reduceAdd (res_main_v73 V) (constant S_ .f32 0x00000000#32) Gen.reducesTo_S2x3136x8_S2x3136_d2 Gen.h_S_)))) (rowsOf V)) Gen.transposes_S2x3136x192_S2x192x3136_0_2_1 := rfl

theorem scores_eq (b : Fin 2) (r : Fin 16) (n : Fin 3136) (m : Fin 256) :
    @Eq EReal (scores V (ix4 b r n m)) ((∑ d, D.q b d n * D.k b d (D.top b r m)) / scale : ℝ) := by
  pointwise [scores, dot_S2x16x48x256_S2x48x3136_S2x16x256x3136_2_1_13_2_0_0]
  simp only [keys_eq H, v23_eq H, ← EReal.coe_mul, coe_sum, lit_scale]
  rw [div_coe_coe _ scale_ne]
  simp only [mul_comm]

theorem v66_eq (b : Fin 2) (n : Fin 3136) (m : Fin 256) : @Eq EReal (res_main_v66 V (ix3 b n m)) (D.sel b n m) := by
  rw [v66_unfold]
  pointwise
  rw [fold_andi_one, select_one]
  · unfold gather_S2x16x3136x256_S2x1x3136x256x1_S2x1x3136x256_n_1_023_023_1_4_1111
    rw [gather_group _ _ _ _ _ _ (D.hard b n) (by decide) (call5_eq H b n m)]
    exact scores_eq H _ _ _ _
  · intro i _
    obtain ⟨a, c, m, rfl⟩ := ix5_second_last i
    pointwise
    rw [call5_eq H]
    exact range_one (by omega) (by decide)

theorem values_eq (b : Fin 2) (n : Fin 3136) (j : Fin 8) :
    @Eq EReal (res_main_values_20 V (ix3 b n j)) (D.sel b n (D.best b n j)) := by
  rw [D.best_eq]
  exact (topK_eq (res_main_v66 V) b n (D.sel b n) (fun m => v66_eq H b n m) _ (by decide) j).1

theorem v73_eq (b : Fin 2) (n : Fin 3136) :
    ∃ m : ℝ, ∀ j, @Eq EReal (res_main_v73 V (ix3 b n j)) (Real.exp (D.sel b n (D.best b n j) - m) : ℝ) := by
  obtain ⟨m, hm⟩ := fold_max_coe fun j => D.sel b n (D.best b n j)
  refine ⟨m, fun j => ?_⟩
  have e : ∀ y : FVec Ideal S2x3136x8 .f32, Host.exp (subf y (broadcastInDim S2x3136x8 ![0, 1, 2] Gen.bcast_S2x3136x1_S2x3136x8_0_1_2 (broadcastInDim S2x3136x1 ![0, 1] Gen.bcast_S2x3136_S2x3136x1_0_1 (maximumf (broadcastInDim S2x3136 ![] Gen.bcast_S_S2x3136 (constant S_ .f32 0xFF800000#32)) (Host.reduce FloatOps.maximumf y (constant S_ .f32 0xFF800000#32) Gen.reducesTo_S2x3136x8_S2x3136_d2 Gen.h_S_))))) (ix3 b n j)
      = Ideal.exp (y (ix3 b n j) - max ⊥ (Finset.fold max ⊥ (fun x => y (ix3 b n x)) Finset.univ)) := fun y => by
    pointwise
    simp only [lit_bot]
  refine (e _).trans ?_
  simp only [values_eq H]
  rw [hm, max_eq_right bot_le, ← EReal.coe_sub, exp_coe]

theorem v82_eq (b : Fin 2) (n : Fin 3136) (j : Fin 8) :
    @Eq (BitVec 32) (res_main_v82 V (ix3 b n j)) (BitVec.ofNat 32 ((D.hard b n).val * 256 + (D.best b n j).val)) := by
  have h := fun w => (topK_eq (res_main_v66 V) b n (D.sel b n) (fun m => v66_eq H b n m) w (by decide) j).2
  generalize hz : BitVec.ofNat 32 ((D.hard b n).val * 256 + (D.best b n j).val) = z
  pointwise [res_main_v82]
  rw [v58_eq H, h, ← hz, D.best_eq]
  exact index_word _ _

/-- The batch and row a position's neighbour is read at. -/
theorem at_eq (b : Fin 2) (n : Fin 3136) (j : Fin 8) :
    rowsAt V (ix4 b n j 0) = BitVec.ofNat 32 b.val
    ∧ rowsAt V (ix4 b n j 1) = BitVec.ofNat 32 ((D.hard b n).val * 256 + (D.best b n j).val) := by
  constructor
  · pointwise [rowsAt, res_main_v86]
    exact wrap_eq (by omega) _
  · generalize hz : BitVec.ofNat 32 ((D.hard b n).val * 256 + (D.best b n j).val) = z
    pointwise [rowsAt]
    rw [v82_eq H, hz, ← hz]
    exact wrap_eq (by omega) _

theorem v103_eq (b : Fin 2) (c : Fin 192) (n : Fin 3136) : @Eq EReal (res_main_v103 V (ix3 b c n)) (D.sparse b c n) := by
  obtain ⟨m, hm⟩ := v73_eq H b n
  have hg : ∀ j, rowsOf V (ix4 b n j c) = D.v b c (D.top b (D.hard b n) (D.best b n j)) := fun j => by
    unfold rowsOf gather_S2x4096x192_S2x3136x8x2_S2x3136x8x192_3_01_n_n_01_3_11192
    rw [gather_rows _ _ _ _ _ _ _ b ⟨(D.hard b n).val * 256 + (D.best b n j).val, index_lt _ _⟩ (by decide) (by decide) (at_eq H b n j).1 (at_eq H b n j).2]
    generalize hz : (D.v b c (D.top b (D.hard b n) (D.best b n j)) : EReal) = z
    have := vals_eq H b (D.hard b n) c (D.best b n j)
    rw [hz] at this
    generalize D.hard b n = r at this ⊢
    generalize D.best b n j = m' at this ⊢
    pointwise
    exact this
  rw [v103_unfold]
  pointwise [dot_S2x3136x8_S2x3136x8x192_S2x3136x192_2_2_n_3_01_01]
  simp only [hm, coe_sum, hg]
  simp only [div_coe_coe _ (sum_exp_pos fun j => D.sel b n (D.best b n j) - m).ne', ← EReal.coe_mul, coe_sum]
  exact congrArg _ (Finset.sum_congr rfl fun i _ => congrArg (· * _) (soft_shift (fun j => D.sel b n (D.best b n j)) m i))

end Cert.ReferenceIdeal.Value

end
-- ==== Proof.Value.RefOut.lean ====
/- The reference's tail: the two attentions mixed, the resize, the layer normalisation. -/
module

public import proofs.«01_k».proof.Proof.Value.RefTop

@[expose] public section

noncomputable section

open Idealize.ShloMosaic Idealize.ShloMosaic.StableHlo Idealize.SL.Sem

namespace Cert.ReferenceIdeal.Value

open Cert.ReferenceIdeal Cert.Value

/-- The result's array. -/
def result (V : Valuation τ sig (Elt Ideal)) : FVec Ideal S2x192x224x224 .f32 :=
  addf (V (Proc.devRef .tc main_arg0)) (transpose S2x192x224x224 [0, 3, 1, 2] (addf (mulf (Host.divf (subf (res_main_v163 V) (broadcastInDim S2x224x224x192 ![0, 1, 2, 3] Gen.bcast_S2x224x224x1_S2x224x224x192_0_1_2_3 (Host.divf (broadcastInDim S2x224x224x1 ![0, 1, 2] Gen.bcast_S2x224x224_S2x224x224x1_0_1_2 (Host.reduceAdd (res_main_v163 V) (constant S_ .f32 0x00000000#32) Gen.reducesTo_S2x224x224x192_S2x224x224_d3 Gen.h_S_)) (broadcastInDim S2x224x224x1 ![] Gen.bcast_S_S2x224x224x1 (constant S_ .f32 0x43400000#32))))) (broadcastInDim S2x224x224x192 ![0, 1, 2, 3] Gen.bcast_S2x224x224x1_S2x224x224x192_0_1_2_3 (Host.sqrt (addf (select (broadcastInDim S2x224x224x1 ![] Gen.bcast_S_S2x224x224x1 (cmpf .ogt (res_main_call10_v8 V) (constant S_ .f32 0x00000000#32))) (Host.divf (broadcastInDim S2x224x224x1 ![0, 1, 2] Gen.bcast_S2x224x224_S2x224x224x1_0_1_2 (Host.reduceAdd (mulf (res_main_call10_v5 V) (res_main_call10_v5 V)) (constant S_ .f32 0x00000000#32) Gen.reducesTo_S2x224x224x192_S2x224x224_d3 Gen.h_S_)) (broadcastInDim S2x224x224x1 ![] Gen.bcast_S_S2x224x224x1 (res_main_call10_v8 V))) (broadcastInDim S2x224x224x1 ![] Gen.bcast_S_S2x224x224x1 (id (constant S_ .f32 0x7FC00000#32)))) (broadcastInDim S2x224x224x1 ![] Gen.bcast_S_S2x224x224x1 (constant S_ .f32 0x3727C5AC#32)))))) (broadcastInDim S2x224x224x192 ![0, 1, 2, 3] Gen.bcast_S1x1x1x192_S2x224x224x192_0_1_2_3 (broadcastInDim S1x1x1x192 ![3] Gen.bcast_S192_S1x1x1x192_3 (V (Proc.devRef .tc main_arg9))))) (broadcastInDim S2x224x224x192 ![0, 1, 2, 3] Gen.bcast_S1x1x1x192_S2x224x224x192_0_1_2_3 (broadcastInDim S1x1x1x192 ![3] Gen.bcast_S192_S1x1x1x192_3 (V (Proc.devRef .tc main_arg10))))) Gen.transposes_S2x224x224x192_S2x192x224x224_0_3_1_2)

variable {V : Valuation τ sig (Elt Ideal)} {D : Data} (H : Holds V D)
include H

theorem v108_eq : @Eq EReal (res_main_v108 V ix0) D.a := by
  have h := H.a
  pointwise [res_main_v108]
  exact h

theorem call6_eq (b : Fin 2) (c : Fin 192) (n : Fin 3136) : @Eq EReal (res_main_call6_v6 V (ix3 b c n)) (D.sparse b c n) := by
  pointwise [res_main_call6_v6, res_main_call6_v2]
  simp only [v103_eq H, lit_top, ne_eq, not_true_eq_false, if_false, EReal.coe_ne_top]

theorem v114_eq (b : Fin 2) (c : Fin 192) (n : Fin 3136) : @Eq EReal (res_main_v114 V (ix3 b c n)) (D.comb b c n) := by
  pointwise [res_main_v114]
  simp only [v108_eq H, call2_eq H, call6_eq H, lit_bot, EReal.coe_ne_bot, if_false, ← EReal.coe_mul, ← EReal.coe_add,
    ← EReal.coe_one, ← EReal.coe_sub]
  rfl

theorem call7_eq (b : Fin 2) (c : Fin 192) (n : Fin 3136) : @Eq EReal (res_main_call7_v6 V (ix3 b c n)) (D.comb b c n) := by
  pointwise [res_main_call7_v6, res_main_call7_v2]
  simp only [v114_eq H, lit_top, ne_eq, not_true_eq_false, if_false, EReal.coe_ne_top]

theorem v163_eq (b : Fin 2) (i j : Fin 224) (o : Fin 192) : @Eq EReal (res_main_v163 V (ix4 b i j o)) (D.up b o i j) := by
  pointwise [res_main_v163, dot_S2x192x224x56_S224x56_S2x192x224x224_3_1_012_0_n_n, dot_S2x192x56x56_S224x56_S2x192x56x224_2_1_013_0_n_n,
    dot_S2x192x56x56_S192x192_S2x56x56x192_1_1_023_0_n_n]
  simp only [call7_eq H, H.fw, H.fb, lit_bot, EReal.coe_ne_bot, if_false, ← EReal.coe_mul, coe_sum, ← EReal.coe_add]
  refine (Finset.sum_congr rfl fun x _ => congrArg₂ (fun p q : EReal => p * q)
    (Finset.sum_congr rfl fun y _ => congrArg₂ (fun p q : EReal => p * q) rfl (tent_eq i y)) (tent_eq j x)).trans ?_
  simp only [← EReal.coe_mul, coe_sum]
  unfold Data.up Data.fused
  refine congrArg _ (Finset.sum_congr rfl fun x _ => (mul_comm _ _).trans (congrArg _ (Finset.sum_congr rfl fun y _ => (mul_comm _ _).trans ?_)))
  simp only [mul_comm (D.comb b _ _)]
  rfl

theorem result_eq (b : Fin 2) (o : Fin 192) (i j : Fin 224) :
    @Eq EReal (result V (ix4 b o i j)) (D.out b (fun o => V (Proc.devRef .tc main_arg9) (ix1 o)) (fun o => V (Proc.devRef .tc main_arg10) (ix1 o)) o i j) := by
  pointwise [result, res_main_call10_v5, res_main_call10_v8]
  simp only [v163_eq H, H.x, coe_sum, lit_192, lit_eps]
  rw [sitofp_zero, sub_zero, if_pos (by exact_mod_cast (by norm_num : (0 : ℝ) < 192))]
  simp only [div_coe_coe _ (by norm_num : (192 : ℝ) ≠ 0), ← EReal.coe_sub, ← EReal.coe_mul, coe_sum, ← EReal.coe_add]
  have h : 0 < D.var b i j + eps := add_pos_of_nonneg_of_pos (D.var_nonneg b i j) eps_pos
  unfold Data.out Data.norm
  unfold Data.var Data.mean at h ⊢
  rw [sqrt_coe h.le, div_coe_coe _ (Real.sqrt_pos.mpr h).ne']

end Cert.ReferenceIdeal.Value

end
-- ==== Proof.Value.KDn.lean ====
/- The pooling kernel's block at real entries: the average pool. -/
module

public import proofs.«01_k».proof.Proof.Value.Spec
public import proofs.«01_k».proof.Proof.Gen.KernelIdeal.Skeleton
public import Idealize.ShloMosaic.Lib.Pointwise

@[expose] public section

noncomputable section

open Idealize.ShloMosaic

namespace Cert.Value

theorem floor_quarter (i : ℕ) : ⌊(i : ℝ) * (1 / 4)⌋ = ((i / 4 : ℕ) : ℤ) := by
  have h1 : 4 * (i / 4) ≤ i := by omega
  have h2 : i < 4 * (i / 4) + 4 := by omega
  have h1' : (4 : ℝ) * ((i / 4 : ℕ) : ℝ) ≤ i := by exact_mod_cast h1
  have h2' : (i : ℝ) < 4 * ((i / 4 : ℕ) : ℝ) + 4 := by exact_mod_cast h2
  refine Int.floor_eq_iff.mpr ⟨?_, ?_⟩
  · rw [Int.cast_natCast]; linarith
  · rw [Int.cast_natCast]; linarith

/-- A fine coordinate's weight at a coarse one. -/
theorem pool_weight (i : Fin 224) (r : ℕ) (hr : r < 56) :
    (FloatOps.sitofp (F := Ideal) .f32 (BitVec.setWidth 32 (BitVec.ofBool (decide (Ideal.liftRound Int.floor
      ((FloatOps.sitofp (F := Ideal) .f32 (BitVec.ofNat 32 i.val) : EReal) * Ideal.ofBits .f32 0x3E800000#32)
        = (FloatOps.sitofp (F := Ideal) .f32 (BitVec.ofNat 32 r) : EReal))))) : EReal) * Ideal.ofBits .f32 0x3E800000#32
      = ((if i.val / 4 = r then 1 / 4 else 0 : ℝ) : EReal) := by
  rw [sitofp_bit, sitofp_ofNat (by omega), sitofp_ofNat (by omega), lit_quarter, ← EReal.coe_mul, ← EReal.coe_mul, floor_coe, floor_quarter]
  rw [Int.cast_natCast]
  simp only [natCast_inj]
  split <;> norm_num

/-- The sum over a coarse coordinate's four fine ones. -/
theorem sum_fine (f : Fin 224 → ℝ) (r : Fin 56) :
    (∑ i : Fin 224, (if i.val / 4 = r.val then 1 / 4 else 0) * f i) = (∑ p : Fin 4, f (fine r p)) * (1 / 4) := by
  rw [Finset.sum_mul]
  simp only [ite_mul, zero_mul]
  rw [← Finset.sum_filter]
  refine (Finset.sum_nbij' (fun p : Fin 4 => fine r p) (fun i => ⟨i.val % 4, by omega⟩) ?_ ?_ ?_ ?_ ?_).symm
  · intro p _
    exact Finset.mem_filter.mpr ⟨Finset.mem_univ _, by show (r.val * 4 + p.val) / 4 = r.val; omega⟩
  · intro i _; exact Finset.mem_univ _
  · intro p _; exact Fin.ext (by show (r.val * 4 + p.val) % 4 = p.val; omega)
  · intro i hi
    have := (Finset.mem_filter.mp hi).2
    exact Fin.ext (by show r.val * 4 + i.val % 4 = i.val; omega)
  · intro p _; exact mul_comm _ _

end Cert.Value

namespace Cert.KernelIdeal.Gen

open Cert.KernelIdeal Cert.Value

theorem k0_pay1_eq (x : Vec Ideal S1x32x224x224 .f32) (f : Fin 32 → Fin 224 → Fin 224 → ℝ)
    (hx : ∀ c i j, @Eq EReal (x (ix4 0 c i j)) (f c i j)) (c : Fin 32) (n : Fin 3136) :
    @Eq EReal (k0_pay1 x (ix3 0 c n)) ((∑ p : Fin 4, ∑ q : Fin 4, f c (fine (row n) p) (fine (col n) q)) / 16 : ℝ) := by
  pointwise [k0_pay1, dot_S7168x224_S56x224_S7168x56_1_1_0_0_n_n, dot_S56x224_S224x1792_S56x1792_1_0_0_1_n_n]
  simp only [pool_weight _ _ (show n.val / 56 < 56 by omega), pool_weight _ _ (show (c.val * 56 + n.val % 56) % 56 < 56 by omega), hx]
  simp only [← EReal.coe_mul, coe_sum]
  have hc : (c.val * 56 + n.val % 56) % 56 = (col n).val := by show _ = n.val % 56; omega
  have hi : ∀ i, (∑ j : Fin 224, f c i j * if j.val / 4 = (c.val * 56 + n.val % 56) % 56 then 1 / 4 else 0)
      = (∑ q : Fin 4, f c i (fine (col n) q)) * (1 / 4) := fun i => by
    rw [← sum_fine (f c i), hc]
    exact Finset.sum_congr rfl fun j _ => mul_comm _ _
  simp only [hi]
  rw [show n.val / 56 = (row n).val from rfl, sum_fine (fun i => (∑ q : Fin 4, f c i (fine (col n) q)) * (1 / 4)), ← Finset.sum_mul]
  refine congrArg _ ?_
  ring

end Cert.KernelIdeal.Gen

end
-- ==== Proof.Value.Arr0.lean ====
/- The average pool's array, from its blocks. -/
module

public import proofs.«01_k».proof.Proof.KernelIdeal.Dn
public import proofs.«01_k».proof.Proof.Value.KDn
public import proofs.«01_k».proof.Proof.Value.Spec
public import Idealize.ShloMosaic.Lib.Pipeline.ValueKit

@[expose] public section

noncomputable section

open Idealize.ShloMosaic Idealize.ShloMosaic.TcCoe

namespace Cert.KernelIdeal.Gen

open Cert.KernelIdeal Cert.Value

theorem idx0_0 : ∀ t : Fin cfg0.N, win0_0.index t = ![(grid0.coords t 0).val, (grid0.coords t 1).val, 0, 0] := (by decide +kernel : ∀ t : Fin grid0.N, _)
theorem idx0_1 : ∀ t : Fin cfg0.N, win0_1.index t = ![(grid0.coords t 0).val, (grid0.coords t 1).val, 0] := (by decide +kernel : ∀ t : Fin grid0.N, _)

theorem out0_1_eq (x : Vec Ideal S1x32x224x224 .f32) (f : Fin 32 → Fin 224 → Fin 224 → ℝ)
    (hx : ∀ c i j, @Eq EReal (x (ix4 0 c i j)) (f c i j)) (c : Fin 32) (n : Fin 3136) :
    @Eq EReal (out0_1 x (ix3 0 c n)) ((∑ p : Fin 4, ∑ q : Fin 4, f c (fine (row n) p) (fine (col n) q)) / 16 : ℝ) := by
  unfold out0_1
  rw [View.canon_unit_zero zero3, show View.ld x r0_0 = x from View.ld_unit_zero zero4 _ _]
  exact k0_pay1_eq x f hx c n

section
variable (V : (c : Dev nD) → (b : Ref sig .tc) → Buf (Elt Ideal) ((c : Thread nD τ).loc b)) (c : Dev nD)

theorem blk0_0 (t : Fin cfg0.N) (b : Fin 2) (k : Fin 6) (hb : (grid0.coords t 0).val = b.val) (hk : (grid0.coords t 1).val = k.val) (o : Fin 32) (i j : Fin 224) :
    @Eq EReal (iblk0 V c 0 t (ix4 0 o i j)) (V c main_arg0 (ix4 b ⟨k.val * 32 + o.val, by omega⟩ i j)) := by
  blk_simp [iblk0]
  refine congrArg (V c main_arg0) ?_
  blk_ext [idx0_0, hb, hk]

theorem arr0_eq (D : Data)
    (hx : ∀ b o i j, @Eq EReal (V c main_arg0 (ix4 b o i j)) (D.x b o i j)) (b : Fin 2) (o : Fin 192) (n : Fin 3136) :
    @Eq EReal ((dat0 V c).arrAt 1 cfg0.N (ix3 b o n)) (D.avg b o n) := by
  refine (congrFun ((dat0 V c).arrAt_eq_of_covers 1 (fun i : S2x192x3136.Idx => ((D.avg (i 0) (i 1) (i 2) : ℝ) : EReal)) (by decide +kernel) fun t hf y => ?_) (ix3 b o n))
  blk_simp
  rw [after0_1]
  obtain ⟨a, p, q, rfl⟩ : ∃ (a : Fin 1) (p : Fin 32) (q : Fin 3136), y = ix3 a p q := ⟨y 0, y 1, y 2, eq_ix3 y⟩
  obtain ⟨b', hb⟩ : ∃ b' : Fin 2, (grid0.coords t 0).val = b'.val := ⟨grid0.coords t 0, rfl⟩
  obtain ⟨k, hk⟩ : ∃ k : Fin 6, (grid0.coords t 1).val = k.val := ⟨grid0.coords t 1, rfl⟩
  have he : (win0_1.blk t).view.emb (ix3 a p q) = ix3 b' ⟨k.val * 32 + p.val, by omega⟩ q := by
    blk_ext [idx0_1, hb, hk]
  rw [he]
  obtain rfl : a = 0 := Subsingleton.elim _ _
  exact out0_1_eq _ (fun p' i j => D.x b' ⟨k.val * 32 + p'.val, by omega⟩ i j) (fun p' i j => (blk0_0 V c t b' k hb hk p' i j).trans (hx _ _ _ _)) p q

end

end Cert.KernelIdeal.Gen

end
-- ==== Proof.Value.KGl.lean ====
/- The global kernel's blocks at real entries: the soft assignment, the projections, the region sums, the list of members
   and the members' keys. -/
module

public import proofs.«01_k».proof.Proof.Value.Spec
public import proofs.«01_k».proof.Proof.KernelIdeal.Gl
public import Idealize.ShloMosaic.Lib.Pointwise

@[expose] public section

noncomputable section

open Idealize.ShloMosaic

namespace Cert.Value

/-- The next position in descending order, as the least position that holds the greatest entry left. -/
theorem pick_min {n : ℕ} (hn : n < 2 ^ 31) (s : Fin n → ℝ) (k : Fin n) (N : ℝ) (hN : (n : ℝ) ≤ N) (w : Fin n → EReal) (hw : ∀ j, w j = left s k j) :
    Finset.fold min (Ideal.ofBits .f32 0x7F800000#32) (fun x : Fin n => if w x = Finset.fold max (Ideal.ofBits .f32 0xFF800000#32) w Finset.univ
        then (FloatOps.sitofp (F := Ideal) .f32 (BitVec.ofNat 32 x.val) : EReal) else (N : EReal)) Finset.univ
      = (((ord s k).val : ℝ) : EReal) := by
  have h : w = left s k := funext hw
  have hx : ∀ x : Fin n, (FloatOps.sitofp (F := Ideal) .f32 (BitVec.ofNat 32 x.val) : EReal) = ((x.val : ℝ) : EReal) := fun x => sitofp_ofNat (by omega)
  simp only [lit_top, lit_bot, hx, h, fold_max_left]
  exact fold_min_left s k N (EReal.coe_le_coe_iff.mpr hN) (left s k) rfl

end Cert.Value

namespace Cert.KernelIdeal.Gen

open Cert.KernelIdeal Cert.Value

section
variable (D : Data) (b : Fin 2) (v0 : Vec Ideal S1x192x3136 .f32) (h0 : ∀ c n, @Eq EReal (v0 (ix3 0 c n)) (D.avg b c n))
include h0

theorem k1_pay4_eq (v2 : Vec Ideal S1x16x192 .f32) (v5 : Vec Ideal S1x16x1 .f32) (h2 : ∀ r c, @Eq EReal (v2 (ix3 0 r c)) (D.sw r c))
    (h5 : ∀ r, @Eq EReal (v5 (ix3 0 r 0)) (D.sb r)) (r : Fin 16) (n : Fin 3136) : @Eq EReal (k1_pay4 v0 v2 v5 (ix2 r n)) (D.sem b r n) := by
  pointwise [k1_pay4, k1_pay3, dot_S16x192_S192x3136_S16x3136_1_0_0_1_n_n]
  simp only [lit_bot]
  refine soft_eq (D.logit b n) r (fun r => (∑ x, (v2 (ix3 0 r x) : EReal) * v0 (ix3 0 x n)) + v5 (ix3 0 r 0)) fun r => ?_
  simp only [h0, h2, h5, ← EReal.coe_mul, coe_sum, ← EReal.coe_add]
  rfl

theorem k1_pay5_eq (w : Vec Ideal S1x48x192 .f32) (hw : ∀ d c, @Eq EReal (w (ix3 0 d c)) (D.kw d c)) (n : Fin 3136) (d : Fin 48) :
    @Eq EReal (k1_pay5 v0 w (ix2 n d)) (D.k b d n) := by
  pointwise [k1_pay5, k1_pay3, dot_S192x3136_S48x192_S3136x48_0_1_1_0_n_n]
  simp only [h0, hw, ← EReal.coe_mul, coe_sum, mul_comm (D.avg b _ n)]
  rfl

theorem k1_pay6_eq (w : Vec Ideal S1x192x192 .f32) (hw : ∀ d c, @Eq EReal (w (ix3 0 d c)) (D.vw d c)) (n : Fin 3136) (d : Fin 192) :
    @Eq EReal (k1_pay6 v0 w (ix2 n d)) (D.v b d n) := by
  pointwise [k1_pay6, k1_pay3, dot_S192x3136_S192x192_S3136x192_0_1_1_0_n_n]
  simp only [h0, hw, ← EReal.coe_mul, coe_sum, mul_comm (D.avg b _ n)]
  rfl

theorem k1_pay7_eq (w : Vec Ideal S1x48x192 .f32) (hw : ∀ d c, @Eq EReal (w (ix3 0 d c)) (D.qw d c)) (n : Fin 3136) (d : Fin 48) :
    @Eq EReal (k1_pay7 v0 w (ix3 0 n d)) (D.q b d n) := by
  pointwise [k1_pay7, k1_pay3, dot_S192x3136_S48x192_S3136x48_0_1_1_0_n_n]
  simp only [h0, hw, ← EReal.coe_mul, coe_sum, mul_comm (D.avg b _ n)]
  rfl

end

section
variable (D : Data) (b : Fin 2) (s : FVec Ideal S16x3136 .f32) (hs : ∀ r n, @Eq EReal (s (ix2 r n)) (D.sem b r n))
include hs

theorem k1_pay9_eq (w : FVec Ideal S3136x48 .f32) (hw : ∀ n d, @Eq EReal (w (ix2 n d)) (D.k b d n)) (r : Fin 16) (d : Fin 48) :
    @Eq EReal (k1_pay9 s w (ix3 0 r d)) (D.rk b r d) := by
  pointwise [k1_pay9, dot_S16x3136_S3136x48_S16x48_1_0_0_1_n_n]
  simp only [hs, hw, ← EReal.coe_mul, coe_sum]
  rfl

theorem k1_pay10_eq (w : FVec Ideal S3136x192 .f32) (hw : ∀ n d, @Eq EReal (w (ix2 n d)) (D.v b d n)) (r : Fin 16) (d : Fin 192) :
    @Eq EReal (k1_pay10 s w (ix3 0 r d)) (D.rv b r d) := by
  pointwise [k1_pay10, dot_S16x3136_S3136x192_S16x192_1_0_0_1_n_n]
  simp only [hs, hw, ← EReal.coe_mul, coe_sum]
  rfl

theorem k1_pay11_eq (n : Fin 3136) (r : Fin 16) :
    @Eq EReal (k1_pay11 s (ix3 0 n r)) (if r = D.hard b n then 1 else 0 : ℝ) := by
  pointwise [k1_pay11]
  simp only [lit_16]
  rw [pick_min (by decide) (fun r => D.sem b r n) 0 16 (by norm_num) (fun x => s (ix2 x n)) (fun x => (hs x n).trans (left_zero _ _).symm)]
  rw [sitofp_bit, sitofp_ofNat (by omega), D.hard_eq]
  simp only [natCast_inj, Fin.val_inj]

theorem tkW_eq (k : ℕ) (hk : k ≤ 3136) (r : Fin 16) (n : Fin 3136) : @Eq EReal (tkW s k (ix2 r n)) (left (D.sem b r) k n) := by
  induction k generalizing n with
  | zero =>
    rw [left_zero]
    pointwise [tkW, k1_pay12]
    exact hs r n
  | succ k ih =>
    pointwise [tkW, k1_pay16, k1_pay14, k1_pay13]
    simp only [lit_3136]
    rw [pick_min (by decide) (D.sem b r) ⟨k, by omega⟩ 3136 (by norm_num) (fun x => tkW s k (ix2 r x)) (fun x => ih (by omega) x),
      sitofp_ofNat (by omega), ih (by omega), left_succ (D.sem b r) ⟨k, by omega⟩]
    simp only [natCast_inj, Fin.ext_iff]
    rw [IdealRules.named_const.ideal_named_scalar _ _ _ _ rfl]

theorem tkI_eq (r : Fin 16) (m : Fin 256) : @Eq EReal (tkI s (ix2 r m)) (((D.top b r m).val : ℝ) : EReal) := by
  unfold tkI
  pointwise [k1_pay14, k1_pay13]
  simp only [lit_3136]
  rw [pick_min (by decide) (D.sem b r) (m.castLE (by decide)) 3136 (by norm_num) (fun x => tkW s m (ix2 r x))
    (fun x => tkW_eq D b s hs m (by omega) r x), D.top_eq]

end

end Cert.KernelIdeal.Gen

end
-- ==== Proof.Value.KGlOut.lean ====
/- The global kernel's blocks: what each output window holds. -/
module

public import proofs.«01_k».proof.Proof.Value.KGl
public import Idealize.ShloMosaic.Lib.Pipeline.ValueKit

@[expose] public section

noncomputable section

open Idealize.ShloMosaic

namespace Cert.KernelIdeal.Gen

open Cert.KernelIdeal Cert.Value

/-! ### The keys of the members -/

/-- The keys of the positions that a row names. -/
def glKey (g : FVec Ideal S1x256 .f32) (w : FVec Ideal S3136x48 .f32) : FVec Ideal S1x256x48 .f32 :=
  shapeCast S1x256x48 (matmul dot_S256x3136_S3136x48_S256x48_1_0_0_1_n_n none (sitofp .f32 (extui 32 (cmpf .oeq
    (broadcastTo S256x3136 (transpose S256x1 [1, 0] g transposes_S1x256_p1_0_S256x1) broadcasts_S256x1_S256x3136) k1_pay18) natLt_1_32)) w
    (constant S256x48 .f32 0x00000000#32)) shapeCasts_S256x48_S1x256x48

theorem glKey_eq (g : FVec Ideal S1x256 .f32) (w : FVec Ideal S3136x48 .f32) (T : Fin 256 → Fin 3136) (W : Fin 3136 → Fin 48 → ℝ)
    (hg : ∀ m, @Eq EReal (g (ix2 0 m)) (((T m).val : ℝ) : EReal)) (hw : ∀ n d, @Eq EReal (w (ix2 n d)) (W n d)) (m : Fin 256) (d : Fin 48) :
    @Eq EReal (glKey g w (ix3 0 m d)) (W (T m) d) := by
  pointwise [glKey, k1_pay18, dot_S256x3136_S3136x48_S256x48_1_0_0_1_n_n]
  have h : ∀ x : Fin 3136, (FloatOps.sitofp (F := Ideal) .f32 (BitVec.ofNat 32 x.val) : EReal) = ((x.val : ℝ) : EReal) := fun x => sitofp_ofNat (by omega)
  simp only [hg, hw, h, sitofp_bit, natCast_inj, ← EReal.coe_mul, coe_sum]
  simp [← Fin.ext_iff]

section
variable (D : Data) (b : Fin 2) (w : FVec Ideal S3136x48 .f32) (hw : ∀ n d, @Eq EReal (w (ix2 n d)) (D.k b d n))
  (t : FVec Ideal S16x256 .f32) (ht : ∀ r m, @Eq EReal (t (ix2 r m)) (((D.top b r m).val : ℝ) : EReal))
include hw ht

theorem glKey_at (k : Fin 16) (hs : S16x256.Slices ![k.val, 0] S1x256) (x : S1x256x48.Idx) (i : Fin 16) (m : Fin 256) (d : Fin 48)
    (h1 : i.val * 256 + m.val = k.val * 256 + (x 1).val) (h2 : d.val = (x 2).val) :
    @Eq EReal (glKey (extractStridedSlice S1x256 ![k.val, 0] t hs) w x) (D.k b d (D.top b i m)) := by
  have hx : (x 1).val < 256 := (x 1).isLt
  have hi : i = k := Fin.ext (by omega)
  subst hi
  have hx' : x = ix3 0 m d := by
    funext a
    fin_cases a
    · exact Subsingleton.elim (α := Fin 1) _ _
    · exact Fin.ext (show (x 1).val = m.val by omega)
    · exact Fin.ext (show (x 2).val = d.val by omega)
  rw [hx']
  refine glKey_eq _ w (D.top b i) (fun n d => D.k b d n) (fun m => ?_) hw m d
  refine (extractStridedSlice_apply _ t hs _ (ix2 i m) fun a => ?_).trans (ht i m)
  fin_cases a
  · show i.val = i.val + 0
    rfl
  · show m.val = 0 + m.val
    omega

end

/-! ### The windows -/

section
variable (D : Data) (b : Fin 2) (x0 : Vec Ideal S1x192x3136 .f32) (x1 : Vec Ideal S1x16x192 .f32) (x2 : Vec Ideal S1x16x1 .f32) (x3 : Vec Ideal S1x48x192 .f32)
  (x4 : Vec Ideal S1x48x192 .f32) (x5 : Vec Ideal S1x192x192 .f32)
  (h0 : ∀ c n, @Eq EReal (x0 (ix3 0 c n)) (D.avg b c n)) (h1 : ∀ r c, @Eq EReal (x1 (ix3 0 r c)) (D.sw r c))
  (h2 : ∀ r, @Eq EReal (x2 (ix3 0 r 0)) (D.sb r)) (h3 : ∀ d c, @Eq EReal (x3 (ix3 0 d c)) (D.qw d c))
  (h4 : ∀ d c, @Eq EReal (x4 (ix3 0 d c)) (D.kw d c)) (h5 : ∀ d c, @Eq EReal (x5 (ix3 0 d c)) (D.vw d c))
include h0 h1 h2 h3 h4 h5

theorem gSem_eq (r : Fin 16) (n : Fin 3136) : @Eq EReal (gSem x0 x1 x2 x3 x4 x5 (ix2 r n)) (D.sem b r n) := by
  unfold gSem
  rw [show View.ld x0 r1_0 = x0 from View.ld_unit_zero zero3 _ x0, show View.ld x1 r1_1 = x1 from View.ld_unit_zero zero3 _ x1,
    show View.ld x2 r1_2 = x2 from View.ld_unit_zero zero3 _ x2]
  exact k1_pay4_eq D b x0 h0 x1 x2 h1 h2 r n

theorem gK_eq (n : Fin 3136) (d : Fin 48) : @Eq EReal (gK x0 x1 x2 x3 x4 x5 (ix2 n d)) (D.k b d n) := by
  unfold gK
  rw [show View.ld x0 r1_0 = x0 from View.ld_unit_zero zero3 _ x0, show View.ld x4 r1_4 = x4 from View.ld_unit_zero zero3 _ x4]
  exact k1_pay5_eq D b x0 h0 x4 h4 n d

theorem gV_eq (n : Fin 3136) (c : Fin 192) : @Eq EReal (gV x0 x1 x2 x3 x4 x5 (ix2 n c)) (D.v b c n) := by
  unfold gV
  rw [show View.ld x0 r1_0 = x0 from View.ld_unit_zero zero3 _ x0, show View.ld x5 r1_5 = x5 from View.ld_unit_zero zero3 _ x5]
  exact k1_pay6_eq D b x0 h0 x5 h5 n c

theorem gT_eq (r : Fin 16) (m : Fin 256) : @Eq EReal (gT x0 x1 x2 x3 x4 x5 (ix2 r m)) (((D.top b r m).val : ℝ) : EReal) :=
  tkI_eq D b _ (gSem_eq D b x0 x1 x2 x3 x4 x5 h0 h1 h2 h3 h4 h5) r m

theorem out1_6_eq (n : Fin 3136) (d : Fin 48) : @Eq EReal (out1_6 x0 x1 x2 x3 x4 x5 (ix3 0 n d)) (D.q b d n) := by
  unfold out1_6 p1_6
  rw [View.canon_unit_zero zero3, show View.ld x0 r1_0 = x0 from View.ld_unit_zero zero3 _ x0, show View.ld x3 r1_3 = x3 from View.ld_unit_zero zero3 _ x3]
  exact k1_pay7_eq D b x0 h0 x3 h3 n d

theorem out1_7_eq (n : Fin 3136) (c : Fin 192) : @Eq EReal (out1_7 x0 x1 x2 x3 x4 x5 (ix3 0 n c)) (D.v b c n) := by
  have h := gV_eq D b x0 x1 x2 x3 x4 x5 h0 h1 h2 h3 h4 h5 n c
  unfold out1_7 p1_7
  rw [View.canon_unit_zero zero3]
  generalize gV x0 x1 x2 x3 x4 x5 = z at h
  pointwise [k1_pay8]
  exact h

theorem out1_8_eq (r : Fin 16) (d : Fin 48) : @Eq EReal (out1_8 x0 x1 x2 x3 x4 x5 (ix3 0 r d)) (D.rk b r d) := by
  unfold out1_8 p1_8
  rw [View.canon_unit_zero zero3]
  exact k1_pay9_eq D b _ (gSem_eq D b x0 x1 x2 x3 x4 x5 h0 h1 h2 h3 h4 h5) _ (gK_eq D b x0 x1 x2 x3 x4 x5 h0 h1 h2 h3 h4 h5) r d

theorem out1_9_eq (r : Fin 16) (c : Fin 192) : @Eq EReal (out1_9 x0 x1 x2 x3 x4 x5 (ix3 0 r c)) (D.rv b r c) := by
  unfold out1_9 p1_9
  rw [View.canon_unit_zero zero3]
  exact k1_pay10_eq D b _ (gSem_eq D b x0 x1 x2 x3 x4 x5 h0 h1 h2 h3 h4 h5) _ (gV_eq D b x0 x1 x2 x3 x4 x5 h0 h1 h2 h3 h4 h5) r c

theorem out1_10_eq (n : Fin 3136) (r : Fin 16) :
    @Eq EReal (out1_10 x0 x1 x2 x3 x4 x5 (ix3 0 n r)) (if r = D.hard b n then 1 else 0 : ℝ) := by
  unfold out1_10 p1_10
  rw [View.canon_unit_zero zero3]
  exact k1_pay11_eq D b _ (gSem_eq D b x0 x1 x2 x3 x4 x5 h0 h1 h2 h3 h4 h5) n r

theorem out1_12_eq (r : Fin 16) (m : Fin 256) :
    @Eq EReal (out1_12 x0 x1 x2 x3 x4 x5 (ix3 0 r m)) (((D.top b r m).val : ℝ) : EReal) := by
  have h := gT_eq D b x0 x1 x2 x3 x4 x5 h0 h1 h2 h3 h4 h5 r m
  unfold out1_12 p1_12
  rw [View.canon_unit_zero zero3]
  generalize gT x0 x1 x2 x3 x4 x5 = z at h
  pointwise [k1_pay17]
  exact h

theorem out1_11_eq (i : Fin 16) (m : Fin 256) (d : Fin 48) :
    @Eq EReal (out1_11 x0 x1 x2 x3 x4 x5 (ix3 0 ⟨i.val * 256 + m.val, by omega⟩ d)) (D.k b d (D.top b i m)) := by
  have hk := glKey_at D b _ (gK_eq D b x0 x1 x2 x3 x4 x5 h0 h1 h2 h3 h4 h5) _ (gT_eq D b x0 x1 x2 x3 x4 x5 h0 h1 h2 h3 h4 h5)
  unfold out1_11
  generalize hz : (D.k b d (D.top b i m) : EReal) = z at hk ⊢
  unfold p1_11
  canon_tiles x h using cover1_11 x0 x1 x2 x3 x4 x5 _
  · exact (hk 15 _ x i m d h1 h2).trans hz
  · exact (hk 14 _ x i m d h1 h2).trans hz
  · exact (hk 13 _ x i m d h1 h2).trans hz
  · exact (hk 12 _ x i m d h1 h2).trans hz
  · exact (hk 11 _ x i m d h1 h2).trans hz
  · exact (hk 10 _ x i m d h1 h2).trans hz
  · exact (hk 9 _ x i m d h1 h2).trans hz
  · exact (hk 8 _ x i m d h1 h2).trans hz
  · exact (hk 7 _ x i m d h1 h2).trans hz
  · exact (hk 6 _ x i m d h1 h2).trans hz
  · exact (hk 5 _ x i m d h1 h2).trans hz
  · exact (hk 4 _ x i m d h1 h2).trans hz
  · exact (hk 3 _ x i m d h1 h2).trans hz
  · exact (hk 2 _ x i m d h1 h2).trans hz
  · exact (hk 1 _ x i m d h1 h2).trans hz
  · exact (hk 0 _ x i m d (h1.trans (by simp)) h2).trans hz

end

end Cert.KernelIdeal.Gen

end
-- ==== Proof.Value.Arr1.lean ====
/- The global kernel's arrays, from their blocks. -/
module

public import proofs.«01_k».proof.Proof.KernelIdeal.Gl
public import proofs.«01_k».proof.Proof.Value.KGlOut

@[expose] public section

noncomputable section

open Idealize.ShloMosaic Idealize.ShloMosaic.TcCoe

namespace Cert.KernelIdeal.Gen

open Cert.KernelIdeal Cert.Value

theorem idx1_0 : ∀ t : Fin cfg1.N, win1_0.index t = ![(grid1.coords t 0).val, 0, 0] := (by decide +kernel : ∀ t : Fin grid1.N, _)
theorem idx1_1 : ∀ t : Fin cfg1.N, win1_1.index t = ![0, 0, 0] := (by decide +kernel : ∀ t : Fin grid1.N, _)
theorem idx1_2 : ∀ t : Fin cfg1.N, win1_2.index t = ![0, 0, 0] := (by decide +kernel : ∀ t : Fin grid1.N, _)
theorem idx1_3 : ∀ t : Fin cfg1.N, win1_3.index t = ![0, 0, 0] := (by decide +kernel : ∀ t : Fin grid1.N, _)
theorem idx1_4 : ∀ t : Fin cfg1.N, win1_4.index t = ![0, 0, 0] := (by decide +kernel : ∀ t : Fin grid1.N, _)
theorem idx1_5 : ∀ t : Fin cfg1.N, win1_5.index t = ![0, 0, 0] := (by decide +kernel : ∀ t : Fin grid1.N, _)
theorem idx1_6 : ∀ t : Fin cfg1.N, win1_6.index t = ![(grid1.coords t 0).val, 0, 0] := (by decide +kernel : ∀ t : Fin grid1.N, _)
theorem idx1_7 : ∀ t : Fin cfg1.N, win1_7.index t = ![(grid1.coords t 0).val, 0, 0] := (by decide +kernel : ∀ t : Fin grid1.N, _)
theorem idx1_8 : ∀ t : Fin cfg1.N, win1_8.index t = ![(grid1.coords t 0).val, 0, 0] := (by decide +kernel : ∀ t : Fin grid1.N, _)
theorem idx1_9 : ∀ t : Fin cfg1.N, win1_9.index t = ![(grid1.coords t 0).val, 0, 0] := (by decide +kernel : ∀ t : Fin grid1.N, _)
theorem idx1_10 : ∀ t : Fin cfg1.N, win1_10.index t = ![(grid1.coords t 0).val, 0, 0] := (by decide +kernel : ∀ t : Fin grid1.N, _)
theorem idx1_11 : ∀ t : Fin cfg1.N, win1_11.index t = ![(grid1.coords t 0).val, 0, 0] := (by decide +kernel : ∀ t : Fin grid1.N, _)
theorem idx1_12 : ∀ t : Fin cfg1.N, win1_12.index t = ![(grid1.coords t 0).val, 0, 0] := (by decide +kernel : ∀ t : Fin grid1.N, _)

section
variable (V : (c : Dev nD) → (b : Ref sig .tc) → Buf (Elt Ideal) ((c : Thread nD τ).loc b)) (c : Dev nD) (D : Data)
  (h0 : ∀ b o n, @Eq EReal (V c main_v5 (ix3 b o n)) (D.avg b o n))
  (h1 : ∀ r o, @Eq EReal (V c main_v6 (ix3 0 r o)) (D.sw r o))
  (h2 : ∀ r, @Eq EReal (V c main_v7 (ix3 0 r 0)) (D.sb r))
  (h3 : ∀ d o, @Eq EReal (V c main_v8 (ix3 0 d o)) (D.qw d o))
  (h4 : ∀ d o, @Eq EReal (V c main_v9 (ix3 0 d o)) (D.kw d o))
  (h5 : ∀ d o, @Eq EReal (V c main_v10 (ix3 0 d o)) (D.vw d o))
include h0 h1 h2 h3 h4 h5

/-- The blocks that a point reads. -/
theorem in1_eq (t : Fin cfg1.N) (b : Fin 2) (hb : (grid1.coords t 0).val = b.val) :
    (∀ o n, @Eq EReal (iblk1 V c 0 t (ix3 0 o n)) (D.avg b o n)) ∧ (∀ r o, @Eq EReal (iblk1 V c 1 t (ix3 0 r o)) (D.sw r o))
    ∧ (∀ r, @Eq EReal (iblk1 V c 2 t (ix3 0 r 0)) (D.sb r)) ∧ (∀ d o, @Eq EReal (iblk1 V c 3 t (ix3 0 d o)) (D.qw d o))
    ∧ (∀ d o, @Eq EReal (iblk1 V c 4 t (ix3 0 d o)) (D.kw d o)) ∧ (∀ d o, @Eq EReal (iblk1 V c 5 t (ix3 0 d o)) (D.vw d o)) := by
  refine ⟨fun o n => Eq.trans ?_ (h0 b o n), fun r o => Eq.trans ?_ (h1 r o), fun r => Eq.trans ?_ (h2 r), fun d o => Eq.trans ?_ (h3 d o),
    fun d o => Eq.trans ?_ (h4 d o), fun d o => Eq.trans ?_ (h5 d o)⟩
  · blk_simp [iblk1]
    refine congrArg (V c main_v5) ?_
    blk_ext [idx1_0, hb]
  · blk_simp [iblk1]
    refine congrArg (V c main_v6) ?_
    blk_ext [idx1_1]
  · blk_simp [iblk1]
    refine congrArg (V c main_v7) ?_
    blk_ext [idx1_2]
  · blk_simp [iblk1]
    refine congrArg (V c main_v8) ?_
    blk_ext [idx1_3]
  · blk_simp [iblk1]
    refine congrArg (V c main_v9) ?_
    blk_ext [idx1_4]
  · blk_simp [iblk1]
    refine congrArg (V c main_v10) ?_
    blk_ext [idx1_5]

theorem arr1_6_eq (b : Fin 2) (n : Fin 3136) (d : Fin 48) :
    @Eq EReal ((dat1 V c).arrAt 6 cfg1.N (ix3 b n d)) ((D.q b d n : ℝ) : EReal) := by
  obtain ⟨G, hG⟩ : ∃ G : S2x3136x48.Idx → EReal, ∀ b n d, G (ix3 b n d) = ((D.q b d n : ℝ) : EReal) :=
    ⟨fun i => (fun (b : Fin 2) (n : Fin 3136) (d : Fin 48) => ((D.q b d n : ℝ) : EReal)) (i 0) (i 1) (i 2), fun _ _ _ => rfl⟩
  refine (congrFun ((dat1 V c).arrAt_eq_of_covers 6 G (by decide +kernel) fun t hf y => ?_) (ix3 b n d)).trans (hG b n d)
  blk_simp
  rw [after1_6]
  obtain ⟨a, p, q, rfl⟩ : ∃ (a : Fin 1) (p : Fin 3136) (q : Fin 48), y = ix3 a p q := ⟨y 0, y 1, y 2, eq_ix3 y⟩
  obtain ⟨b', hb⟩ : ∃ b' : Fin 2, (grid1.coords t 0).val = b'.val := ⟨grid1.coords t 0, rfl⟩
  have he : (win1_6.blk t).view.emb (ix3 a p q) = ix3 b' p q := by blk_ext [idx1_6, hb]
  rw [he, hG]
  obtain rfl : a = 0 := Subsingleton.elim _ _
  obtain ⟨i0, i1, i2, i3, i4, i5⟩ := in1_eq V c D h0 h1 h2 h3 h4 h5 t b' hb
  exact out1_6_eq D b' _ _ _ _ _ _ i0 i1 i2 i3 i4 i5 p q

theorem arr1_7_eq (b : Fin 2) (n : Fin 3136) (d : Fin 192) :
    @Eq EReal ((dat1 V c).arrAt 7 cfg1.N (ix3 b n d)) ((D.v b d n : ℝ) : EReal) := by
  obtain ⟨G, hG⟩ : ∃ G : S2x3136x192.Idx → EReal, ∀ b n d, G (ix3 b n d) = ((D.v b d n : ℝ) : EReal) :=
    ⟨fun i => (fun (b : Fin 2) (n : Fin 3136) (d : Fin 192) => ((D.v b d n : ℝ) : EReal)) (i 0) (i 1) (i 2), fun _ _ _ => rfl⟩
  refine (congrFun ((dat1 V c).arrAt_eq_of_covers 7 G (by decide +kernel) fun t hf y => ?_) (ix3 b n d)).trans (hG b n d)
  blk_simp
  rw [after1_7]
  obtain ⟨a, p, q, rfl⟩ : ∃ (a : Fin 1) (p : Fin 3136) (q : Fin 192), y = ix3 a p q := ⟨y 0, y 1, y 2, eq_ix3 y⟩
  obtain ⟨b', hb⟩ : ∃ b' : Fin 2, (grid1.coords t 0).val = b'.val := ⟨grid1.coords t 0, rfl⟩
  have he : (win1_7.blk t).view.emb (ix3 a p q) = ix3 b' p q := by blk_ext [idx1_7, hb]
  rw [he, hG]
  obtain rfl : a = 0 := Subsingleton.elim _ _
  obtain ⟨i0, i1, i2, i3, i4, i5⟩ := in1_eq V c D h0 h1 h2 h3 h4 h5 t b' hb
  exact out1_7_eq D b' _ _ _ _ _ _ i0 i1 i2 i3 i4 i5 p q

theorem arr1_8_eq (b : Fin 2) (n : Fin 16) (d : Fin 48) :
    @Eq EReal ((dat1 V c).arrAt 8 cfg1.N (ix3 b n d)) ((D.rk b n d : ℝ) : EReal) := by
  obtain ⟨G, hG⟩ : ∃ G : S2x16x48.Idx → EReal, ∀ b n d, G (ix3 b n d) = ((D.rk b n d : ℝ) : EReal) :=
    ⟨fun i => (fun (b : Fin 2) (n : Fin 16) (d : Fin 48) => ((D.rk b n d : ℝ) : EReal)) (i 0) (i 1) (i 2), fun _ _ _ => rfl⟩
  refine (congrFun ((dat1 V c).arrAt_eq_of_covers 8 G (by decide +kernel) fun t hf y => ?_) (ix3 b n d)).trans (hG b n d)
  blk_simp
  rw [after1_8]
  obtain ⟨a, p, q, rfl⟩ : ∃ (a : Fin 1) (p : Fin 16) (q : Fin 48), y = ix3 a p q := ⟨y 0, y 1, y 2, eq_ix3 y⟩
  obtain ⟨b', hb⟩ : ∃ b' : Fin 2, (grid1.coords t 0).val = b'.val := ⟨grid1.coords t 0, rfl⟩
  have he : (win1_8.blk t).view.emb (ix3 a p q) = ix3 b' p q := by blk_ext [idx1_8, hb]
  rw [he, hG]
  obtain rfl : a = 0 := Subsingleton.elim _ _
  obtain ⟨i0, i1, i2, i3, i4, i5⟩ := in1_eq V c D h0 h1 h2 h3 h4 h5 t b' hb
  exact out1_8_eq D b' _ _ _ _ _ _ i0 i1 i2 i3 i4 i5 p q

theorem arr1_9_eq (b : Fin 2) (n : Fin 16) (d : Fin 192) :
    @Eq EReal ((dat1 V c).arrAt 9 cfg1.N (ix3 b n d)) ((D.rv b n d : ℝ) : EReal) := by
  obtain ⟨G, hG⟩ : ∃ G : S2x16x192.Idx → EReal, ∀ b n d, G (ix3 b n d) = ((D.rv b n d : ℝ) : EReal) :=
    ⟨fun i => (fun (b : Fin 2) (n : Fin 16) (d : Fin 192) => ((D.rv b n d : ℝ) : EReal)) (i 0) (i 1) (i 2), fun _ _ _ => rfl⟩
  refine (congrFun ((dat1 V c).arrAt_eq_of_covers 9 G (by decide +kernel) fun t hf y => ?_) (ix3 b n d)).trans (hG b n d)
  blk_simp
  rw [after1_9]
  obtain ⟨a, p, q, rfl⟩ : ∃ (a : Fin 1) (p : Fin 16) (q : Fin 192), y = ix3 a p q := ⟨y 0, y 1, y 2, eq_ix3 y⟩
  obtain ⟨b', hb⟩ : ∃ b' : Fin 2, (grid1.coords t 0).val = b'.val := ⟨grid1.coords t 0, rfl⟩
  have he : (win1_9.blk t).view.emb (ix3 a p q) = ix3 b' p q := by blk_ext [idx1_9, hb]
  rw [he, hG]
  obtain rfl : a = 0 := Subsingleton.elim _ _
  obtain ⟨i0, i1, i2, i3, i4, i5⟩ := in1_eq V c D h0 h1 h2 h3 h4 h5 t b' hb
  exact out1_9_eq D b' _ _ _ _ _ _ i0 i1 i2 i3 i4 i5 p q

theorem arr1_10_eq (b : Fin 2) (n : Fin 3136) (d : Fin 16) :
    @Eq EReal ((dat1 V c).arrAt 10 cfg1.N (ix3 b n d)) ((if d = D.hard b n then 1 else 0 : ℝ) : EReal) := by
  obtain ⟨G, hG⟩ : ∃ G : S2x3136x16.Idx → EReal, ∀ b n d, G (ix3 b n d) = ((if d = D.hard b n then 1 else 0 : ℝ) : EReal) :=
    ⟨fun i => (fun (b : Fin 2) (n : Fin 3136) (d : Fin 16) => ((if d = D.hard b n then 1 else 0 : ℝ) : EReal)) (i 0) (i 1) (i 2), fun _ _ _ => rfl⟩
  refine (congrFun ((dat1 V c).arrAt_eq_of_covers 10 G (by decide +kernel) fun t hf y => ?_) (ix3 b n d)).trans (hG b n d)
  blk_simp
  rw [after1_10]
  obtain ⟨a, p, q, rfl⟩ : ∃ (a : Fin 1) (p : Fin 3136) (q : Fin 16), y = ix3 a p q := ⟨y 0, y 1, y 2, eq_ix3 y⟩
  obtain ⟨b', hb⟩ : ∃ b' : Fin 2, (grid1.coords t 0).val = b'.val := ⟨grid1.coords t 0, rfl⟩
  have he : (win1_10.blk t).view.emb (ix3 a p q) = ix3 b' p q := by blk_ext [idx1_10, hb]
  rw [he, hG]
  obtain rfl : a = 0 := Subsingleton.elim _ _
  obtain ⟨i0, i1, i2, i3, i4, i5⟩ := in1_eq V c D h0 h1 h2 h3 h4 h5 t b' hb
  exact out1_10_eq D b' _ _ _ _ _ _ i0 i1 i2 i3 i4 i5 p q

theorem arr1_12_eq (b : Fin 2) (n : Fin 16) (d : Fin 256) :
    @Eq EReal ((dat1 V c).arrAt 12 cfg1.N (ix3 b n d)) ((((D.top b n d).val : ℝ) : ℝ) : EReal) := by
  obtain ⟨G, hG⟩ : ∃ G : S2x16x256.Idx → EReal, ∀ b n d, G (ix3 b n d) = ((((D.top b n d).val : ℝ) : ℝ) : EReal) :=
    ⟨fun i => (fun (b : Fin 2) (n : Fin 16) (d : Fin 256) => ((((D.top b n d).val : ℝ) : ℝ) : EReal)) (i 0) (i 1) (i 2), fun _ _ _ => rfl⟩
  refine (congrFun ((dat1 V c).arrAt_eq_of_covers 12 G (by decide +kernel) fun t hf y => ?_) (ix3 b n d)).trans (hG b n d)
  blk_simp
  rw [after1_12]
  obtain ⟨a, p, q, rfl⟩ : ∃ (a : Fin 1) (p : Fin 16) (q : Fin 256), y = ix3 a p q := ⟨y 0, y 1, y 2, eq_ix3 y⟩
  obtain ⟨b', hb⟩ : ∃ b' : Fin 2, (grid1.coords t 0).val = b'.val := ⟨grid1.coords t 0, rfl⟩
  have he : (win1_12.blk t).view.emb (ix3 a p q) = ix3 b' p q := by blk_ext [idx1_12, hb]
  rw [he, hG]
  obtain rfl : a = 0 := Subsingleton.elim _ _
  obtain ⟨i0, i1, i2, i3, i4, i5⟩ := in1_eq V c D h0 h1 h2 h3 h4 h5 t b' hb
  exact out1_12_eq D b' _ _ _ _ _ _ i0 i1 i2 i3 i4 i5 p q

theorem arr1_11_eq (b : Fin 2) (n : Fin 4096) (d : Fin 48) :
    @Eq EReal ((dat1 V c).arrAt 11 cfg1.N (ix3 b n d)) ((D.k b d (D.top b ⟨n.val / 256, by omega⟩ ⟨n.val % 256, Nat.mod_lt _ (by decide)⟩) : ℝ) : EReal) := by
  obtain ⟨G, hG⟩ : ∃ G : S2x4096x48.Idx → EReal, ∀ b n d, G (ix3 b n d) = ((D.k b d (D.top b ⟨n.val / 256, by omega⟩ ⟨n.val % 256, Nat.mod_lt _ (by decide)⟩) : ℝ) : EReal) :=
    ⟨fun i => (fun (b : Fin 2) (n : Fin 4096) (d : Fin 48) => ((D.k b d (D.top b ⟨n.val / 256, by omega⟩ ⟨n.val % 256, Nat.mod_lt _ (by decide)⟩) : ℝ) : EReal)) (i 0) (i 1) (i 2), fun _ _ _ => rfl⟩
  refine (congrFun ((dat1 V c).arrAt_eq_of_covers 11 G (by decide +kernel) fun t hf y => ?_) (ix3 b n d)).trans (hG b n d)
  blk_simp
  rw [after1_11]
  obtain ⟨a, p, q, rfl⟩ : ∃ (a : Fin 1) (p : Fin 4096) (q : Fin 48), y = ix3 a p q := ⟨y 0, y 1, y 2, eq_ix3 y⟩
  obtain ⟨b', hb⟩ : ∃ b' : Fin 2, (grid1.coords t 0).val = b'.val := ⟨grid1.coords t 0, rfl⟩
  have he : (win1_11.blk t).view.emb (ix3 a p q) = ix3 b' p q := by blk_ext [idx1_11, hb]
  rw [he, hG]
  obtain rfl : a = 0 := Subsingleton.elim _ _
  obtain ⟨i0, i1, i2, i3, i4, i5⟩ := in1_eq V c D h0 h1 h2 h3 h4 h5 t b' hb
  have ho := out1_11_eq D b' _ _ _ _ _ _ i0 i1 i2 i3 i4 i5 ⟨p.val / 256, by omega⟩ ⟨p.val % 256, Nat.mod_lt _ (by decide)⟩ q
  have hq : (⟨p.val / 256 * 256 + p.val % 256, by omega⟩ : Fin 4096) = p := Fin.ext (by simp only; omega)
  rw [hq] at ho
  exact ho

end

end Cert.KernelIdeal.Gen

end
-- ==== Proof.Value.KAt.lean ====
/- The attention kernel's block at real entries, part one: the scores against the members of a position's region, and the
   eight rounds that strike out the best score. -/
module

public import proofs.«01_k».proof.Proof.Value.KGl
public import proofs.«01_k».proof.Proof.KernelIdeal.At

@[expose] public section

noncomputable section

open Idealize.ShloMosaic

namespace Cert.KernelIdeal.Gen

open Cert.KernelIdeal Cert.Value

/-! ### The rounds -/

/-- The numbers of the columns, of the scores and of the positions. -/
def atCol : IVec S448x256 32 := iota .tc S448x256 32 [1] iota_S448x256_d1_w32
def atPos : IVec S448x3136 32 := iota .tc S448x3136 32 [1] iota_S448x3136_d1_w32

/-- The greatest score of each row, the first column that holds it, and the scores with a column struck out. -/
def atMax (w : FVec Ideal S448x256 .f32) : FVec Ideal S448x1 .f32 :=
  shapeCast S448x1 (multiReduction .maximumf [1] S448 w 0xFF800000#32 reduces_S448x256_S448 (.inl rfl) rfl) shapeCasts_S448_S448x1
def atArg (w : FVec Ideal S448x256 .f32) : IVec S448x1 32 :=
  shapeCast S448x1 (multiReductionI .minsi [1] S448
    (select (cmpf .oeq w (broadcastTo S448x256 (atMax w) broadcasts_S448x1_S448x256)) atCol (broadcast S448x256 256#32))
    2147483647#32 reduces_S448x256_S448 rfl) shapeCasts_S448_S448x1
def atStrike (w : FVec Ideal S448x256 .f32) : FVec Ideal S448x256 .f32 :=
  select (cmpi .eq atCol (broadcastTo S448x256 (atArg w) broadcasts_S448x1_S448x256)) (broadcast S448x256 (Named.named κ "mask" 0xF149F2CA#32)) w

theorem atPick {m : ℕ} (hm : m < 2 ^ 32) (x y : Fin m) (u v : EReal) :
    Scalar.select (IntOp.cmpi .eq (BitVec.ofNat 32 x.val) (BitVec.ofNat 32 y.val)) u v = if x = y then u else v := by
  by_cases hx : x = y
  · rw [if_pos hx, hx, show IntOp.cmpi .eq (BitVec.ofNat 32 y.val) (BitVec.ofNat 32 y.val) = 1#1 from by simp [IntOp.cmpi]]
    rfl
  · have h := (ofNat_inj (show x.val < 2 ^ 32 by omega) (show y.val < 2 ^ 32 by omega)).not.mpr fun h => hx (Fin.ext h)
    rw [if_neg hx, show IntOp.cmpi .eq (BitVec.ofNat 32 x.val) (BitVec.ofNat 32 y.val) = 0#1 from
      congrArg BitVec.ofBool (beq_eq_false_iff_ne.mpr h)]
    rfl

/-- The scores after `k` rounds. -/
def atRest (w : FVec Ideal S448x256 .f32) : ℕ → FVec Ideal S448x256 .f32
  | 0 => w
  | k + 1 => atStrike (atRest w k)

section
variable (w : FVec Ideal S448x256 .f32) (r : Fin 448) (f : Fin 256 → ℝ)

theorem atMax_left (k : Fin 256) (h : ∀ x, @Eq EReal (w (ix2 r x)) (left f k x)) : @Eq EReal (atMax w (ix2 r 0)) (f (ord f k)) := by
  pointwise [atMax]
  simp only [lit_bot, h]
  exact fold_max_left f k

theorem atArg_left (k : Fin 256) (h : ∀ x, @Eq EReal (w (ix2 r x)) (left f k x)) : atArg w (ix2 r 0) = BitVec.ofNat 32 (ord f k).val := by
  have hm := atMax_left w r f k h
  pointwise [atArg, atCol]
  simp only [hm]
  exact fold_minsi_left (by decide) f k 256#32 (by decide) _ (funext h)

theorem atStrike_left (k : Fin 256) (h : ∀ x, @Eq EReal (w (ix2 r x)) (left f k x)) (x : Fin 256) :
    @Eq EReal (atStrike w (ix2 r x)) (left f (k + 1) x) := by
  have hm := atArg_left w r f k h
  pointwise [atStrike, atCol]
  simp only [hm, h]
  rw [left_succ f k x, IdealRules.named_const.ideal_named_scalar _ _ _ _ rfl]
  exact atPick (by decide) x _ _ _

theorem atRest_left (h : ∀ x, @Eq EReal (w (ix2 r x)) (f x)) (k : ℕ) (hk : k ≤ 256) (x : Fin 256) :
    @Eq EReal (atRest w k (ix2 r x)) (left f k x) := by
  induction k generalizing x with
  | zero => exact (h x).trans (left_zero f x).symm
  | succ k ih => exact atStrike_left (atRest w k) r f ⟨k, by omega⟩ (fun x => ih (by omega) x) x

end

/-! ### The scores -/

theorem k2_pay11_eq (r : Fin 448) (u : FVec Ideal S448x16 .f32) (s : FVec Ideal S448x4096 .f32) (g : Fin 16 → Fin 256 → ℝ) (h : Fin 16)
    (hu : ∀ i, @Eq EReal (u (ix2 r i)) (if i = h then 1 else 0 : ℝ))
    (hs : ∀ i x, @Eq EReal (s (ix2 r ⟨i.val * 256 + x.val, by omega⟩)) (g i x)) (x : Fin 256) :
    @Eq EReal (k2_pay11 u s (k2_pay8 u s) (k2_pay9 s) (k2_pay10 u) (ix2 r x)) (g h x) := by
  pointwise [k2_pay11, k2_pay8, k2_pay9, k2_pay10]
  have e (i : Fin 16) (m : ℕ) (hm : m = i.val * 256 + x.val) (hl : m < 4096) : @Eq EReal (s (ix2 r ⟨m, hl⟩)) (g i x) := by
    subst hm
    exact hs i x
  simp only [e 0 x.val (by simp), e 1 (256 + x.val) rfl, e 2 (512 + x.val) rfl, e 3 (768 + x.val) rfl, e 4 (1024 + x.val) rfl, e 5 (1280 + x.val) rfl, e 6 (1536 + x.val) rfl, e 7 (1792 + x.val) rfl, e 8 (2048 + x.val) rfl, e 9 (2304 + x.val) rfl, e 10 (2560 + x.val) rfl, e 11 (2816 + x.val) rfl, e 12 (3072 + x.val) rfl, e 13 (3328 + x.val) rfl, e 14 (3584 + x.val) rfl, e 15 (3840 + x.val) rfl, hu, ← EReal.coe_mul, ← EReal.coe_add]
  refine congrArg _ ?_
  fin_cases h <;> simp

/-! ### The hits -/

theorem fptosi_half {k : ℕ} (hk : k < 2 ^ 31 - 1) : FloatOps.fptosi (F := Ideal) (φ := .f32) 32 (((k : ℝ) + 1 / 2 : ℝ) : EReal) = BitVec.ofNat 32 k := by
  show BitVec.ofInt 32 (max _ (min _ (if 0 ≤ (k : ℝ) + 1 / 2 then ⌊(k : ℝ) + 1 / 2⌋ else _))) = _
  have h : ⌊(k : ℝ) + 1 / 2⌋ = (k : ℤ) := by
    rw [Int.floor_eq_iff]
    push_cast
    constructor <;> linarith
  rw [if_pos (by positivity), h, min_eq_right (by norm_num; omega), max_eq_right (by norm_num), BitVec.ofInt_natCast]

theorem atSlot (t : Fin 256 → EReal) (T : Fin 256 → Fin 3136) (ht : ∀ x, t x = (((T x).val : ℝ) : EReal)) (e : Fin 256) :
    (∑ x, t x * (FloatOps.sitofp (F := Ideal) .f32 (BitVec.setWidth 32 (IntOp.cmpi .eq (BitVec.ofNat 32 x.val) (BitVec.ofNat 32 e.val))) : EReal))
      + Ideal.ofBits .f32 1056964608#32 = ((((T e).val : ℝ) + 1 / 2 : ℝ) : EReal) := by
  have hb : ∀ x : Fin 256, IntOp.cmpi .eq (BitVec.ofNat 32 x.val) (BitVec.ofNat 32 e.val) = BitVec.ofBool (decide (x = e)) := fun x => by
    have h := ofNat_inj (show x.val < 2 ^ 32 by omega) (show e.val < 2 ^ 32 by omega)
    refine congrArg BitVec.ofBool (Bool.eq_iff_iff.mpr ?_)
    rw [beq_iff_eq, h, decide_eq_true_iff, Fin.ext_iff]
  simp only [ht, hb, sitofp_bit, lit_half, ← EReal.coe_mul, coe_sum, ← EReal.coe_add]
  simp

theorem atHit (t : Fin 256 → EReal) (T : Fin 256 → Fin 3136) (ht : ∀ x, t x = (((T x).val : ℝ) : EReal)) (e : Fin 256) (n : Fin 3136) (v : ℝ) :
    Scalar.select (IntOp.cmpi .eq (BitVec.ofNat 32 n.val) (FloatOps.fptosi (F := Ideal) (φ := .f32) 32
      ((∑ x, t x * (FloatOps.sitofp (F := Ideal) .f32 (BitVec.setWidth 32 (IntOp.cmpi .eq (BitVec.ofNat 32 x.val) (BitVec.ofNat 32 e.val))) : EReal))
        + Ideal.ofBits .f32 1056964608#32))) (v : EReal) 0 = ((if n = T e then v else 0 : ℝ) : EReal) := by
  rw [atSlot t T ht e, fptosi_half (by omega), atPick (by decide) n (T e), ← EReal.coe_zero, ite_coe]

section
variable (r : Fin 448) (t : FVec Ideal S448x256 .f32) (T : Fin 256 → Fin 3136) (ht : ∀ x, @Eq EReal (t (ix2 r x)) (((T x).val : ℝ) : EReal))
  (a : FVec Ideal S448x8 .f32) (A : Fin 8 → ℝ) (ha : ∀ j, @Eq EReal (a (ix2 r j)) (A j))
include ht ha

theorem k2_pay42_eq (i0 i1 i2 : IVec S448x1 32) (e0 e1 e2 : Fin 256) (h0 : i0 (ix2 r 0) = BitVec.ofNat 32 e0.val)
    (h1 : i1 (ix2 r 0) = BitVec.ofNat 32 e1.val) (h2 : i2 (ix2 r 0) = BitVec.ofNat 32 e2.val)
    (c : FVec Ideal S448x1 .f32) (hc : @Eq EReal (c (ix2 r 0)) (A 0)) (n : Fin 3136) :
    @Eq EReal (k2_pay42 t atCol i1 i2 a atPos k2_pay39 (k2_pay40 t atCol i0) (Scalar.ofBits .f32 0x00000000#32) c (ix2 r n))
      ((if n = T e0 then A 0 else 0) + (if n = T e1 then A 1 else 0) + (if n = T e2 then A 2 else 0) : ℝ) := by
  pointwise [k2_pay42, k2_pay40, k2_pay39, atCol, atPos]
  simp only [h0, h1, h2, hc, ha, atHit (fun x => t (ix2 r x)) T ht, ← EReal.coe_add]

theorem k2_pay44_eq (i3 i4 i5 : IVec S448x1 32) (e3 e4 e5 : Fin 256) (h3 : i3 (ix2 r 0) = BitVec.ofNat 32 e3.val)
    (h4 : i4 (ix2 r 0) = BitVec.ofNat 32 e4.val) (h5 : i5 (ix2 r 0) = BitVec.ofNat 32 e5.val)
    (w : FVec Ideal S448x3136 .f32) (W : ℝ) (n : Fin 3136) (hw : @Eq EReal (w (ix2 r n)) W) :
    @Eq EReal (k2_pay44 t atCol i4 i5 a atPos w (k2_pay43 t atCol i3 atPos) (ix2 r n))
      (W + (if n = T e3 then A 3 else 0) + (if n = T e4 then A 4 else 0) + (if n = T e5 then A 5 else 0) : ℝ) := by
  pointwise [k2_pay44, k2_pay43, atCol, atPos]
  simp only [h3, h4, h5, hw, ha, atHit (fun x => t (ix2 r x)) T ht, ← EReal.coe_add]

theorem k2_pay46_eq (i6 i7 : IVec S448x1 32) (e6 e7 : Fin 256) (h6 : i6 (ix2 r 0) = BitVec.ofNat 32 e6.val)
    (h7 : i7 (ix2 r 0) = BitVec.ofNat 32 e7.val)
    (w : FVec Ideal S448x3136 .f32) (W : Fin 3136 → ℝ) (hw : ∀ n, @Eq EReal (w (ix2 r n)) (W n))
    (v : FVec Ideal S3136x192 .f32) (V : Fin 192 → Fin 3136 → ℝ) (hv : ∀ n c, @Eq EReal (v (ix2 n c)) (V c n))
    (u : FVec Ideal S448x192 .f32) (U : Fin 192 → ℝ) (hu : ∀ c, @Eq EReal (u (ix2 r c)) (U c))
    (al : Vec Ideal S1x1x1 .f32) (s : ℝ) (hs : @Eq EReal (Ideal.logistic (al (ix3 0 0 0))) s)
    (fw : Vec Ideal S1x192x192 .f32) (G : Fin 192 → Fin 192 → ℝ) (hf : ∀ o c, @Eq EReal (fw (ix3 0 o c)) (G o c)) (o : Fin 192) :
    @Eq EReal (k2_pay46 v u t atCol i7 a atPos w (k2_pay45 t atCol i6) al fw (ix2 r o))
      (∑ c, (s * U c + (1 - s) * ∑ n, (W n + (if n = T e6 then A 6 else 0) + (if n = T e7 then A 7 else 0)) * V c n) * G o c : ℝ) := by
  pointwise [k2_pay46, k2_pay45, atCol, atPos, dot_S448x3136_S3136x192_S448x192_1_0_0_1_n_n, dot_S448x192_S192x192_S448x192_1_1_0_0_n_n]
  simp only [h6, h7, hw, hv, hu, hf, ha, hs, atHit (fun x => t (ix2 r x)) T ht, ← EReal.coe_one, ← EReal.coe_sub, ← EReal.coe_add,
    ← EReal.coe_mul, coe_sum]

end

/-! ### The attention over the eight best -/

theorem k2_pay38_eq (r : Fin 448) (f : Fin 8 → ℝ) (i : IVec S448x256 32) (c0 c1 c2 c3 c4 c5 : FVec Ideal S448x1 .f32) (w : FVec Ideal S448x256 .f32)
    (m : IVec S448x256 1) (z : FVec Ideal S448x256 .f32) (h0 : @Eq EReal (c0 (ix2 r 0)) (f 0)) (h1 : @Eq EReal (c1 (ix2 r 0)) (f 1))
    (h2 : @Eq EReal (c2 (ix2 r 0)) (f 2)) (h3 : @Eq EReal (c3 (ix2 r 0)) (f 3)) (h4 : @Eq EReal (c4 (ix2 r 0)) (f 4))
    (h5 : @Eq EReal (c5 (ix2 r 0)) (f 5)) (h6 : @Eq EReal (k2_pay33 w m z (ix2 r 0)) (f 6)) (h7 : @Eq EReal (k2_pay36 i w m z (ix2 r 0)) (f 7)) (j : Fin 8) :
    @Eq EReal (k2_pay38 i c0 c1 c2 c3 c4 w c5 m z (ix2 r j)) (soft f j) := by
  generalize ha : k2_pay33 w m z = c6 at h6
  generalize hb : k2_pay36 i w m z = c7 at h7
  unfold k2_pay38
  rw [ha, hb]
  have hc : ∀ j, @Eq EReal (concatenate S448x8 1 [⟨S448x1, c0⟩, ⟨S448x1, c1⟩, ⟨S448x1, c2⟩, ⟨S448x1, c3⟩, ⟨S448x1, c4⟩, ⟨S448x1, c5⟩, ⟨S448x1, c6⟩, ⟨S448x1, c7⟩]
      concatenates_S448x1_S448x1_S448x1_S448x1_S448x1_S448x1_S448x1_S448x1_S448x8_d1 (ix2 r j)) (f j) := by
    intro j
    fin_cases j
    all_goals pointwise []
    all_goals assumption
  generalize concatenate S448x8 1 [⟨S448x1, c0⟩, ⟨S448x1, c1⟩, ⟨S448x1, c2⟩, ⟨S448x1, c3⟩, ⟨S448x1, c4⟩, ⟨S448x1, c5⟩, ⟨S448x1, c6⟩, ⟨S448x1, c7⟩] _ = y at hc ⊢
  pointwise []
  simp only [lit_bot]
  exact soft_eq f j (fun j => y (ix2 r j)) hc

theorem k2_pay6_eq (D : Data) (b : Fin 2) (n : Fin 3136) (r : Fin 448) (q : Vec Ideal S1x448x48 .f32) (hq : ∀ d, @Eq EReal (q (ix3 0 r d)) (D.q b d n))
    (k : Vec Ideal S1x16x48 .f32) (hk : ∀ i d, @Eq EReal (k (ix3 0 i d)) (D.rk b i d)) (v : Vec Ideal S1x16x192 .f32)
    (hv : ∀ i c, @Eq EReal (v (ix3 0 i c)) (D.rv b i c)) (c : Fin 192) : @Eq EReal (k2_pay6 q k v (ix2 r c)) (D.cont b c n) := by
  pointwise [k2_pay6, k2_pay2, dot_S448x16_S16x192_S448x192_1_0_0_1_n_n, dot_S448x48_S16x48_S448x16_1_1_0_0_n_n]
  simp only [lit_bot, lit_scale, hq, hk, hv, ← EReal.coe_mul, coe_sum, div_coe_coe _ scale_ne]
  refine (Finset.sum_congr rfl fun i _ => congrArg (· * (D.rv b i c : EReal)) (soft_eq (D.reg b n) i _ fun _ => rfl)).trans ?_
  simp only [← EReal.coe_mul, coe_sum]
  rfl

theorem k2_pay7_eq (D : Data) (b : Fin 2) (n : Fin 3136) (r : Fin 448) (q : Vec Ideal S1x448x48 .f32) (hq : ∀ d, @Eq EReal (q (ix3 0 r d)) (D.q b d n))
    (k : Vec Ideal S1x4096x48 .f32) (x : Fin 4096) (K : Fin 48 → ℝ) (hk : ∀ d, @Eq EReal (k (ix3 0 x d)) (K d)) :
    @Eq EReal (k2_pay7 q k (ix2 r x)) ((∑ d, D.q b d n * K d) / scale : ℝ) := by
  pointwise [k2_pay7, k2_pay2, dot_S448x48_S4096x48_S448x4096_1_1_0_0_n_n]
  simp only [lit_scale, hq, hk, ← EReal.coe_mul, coe_sum, div_coe_coe _ scale_ne]

theorem k2_pay12_eq (r : Fin 448) (u : FVec Ideal S448x16 .f32) (h : Fin 16) (hu : ∀ i, @Eq EReal (u (ix2 r i)) (if i = h then 1 else 0 : ℝ))
    (t : FVec Ideal S16x256 .f32) (T : Fin 16 → Fin 256 → ℝ) (ht : ∀ i x, @Eq EReal (t (ix2 i x)) (T i x)) (x : Fin 256) :
    @Eq EReal (k2_pay12 u t (ix2 r x)) (T h x) := by
  pointwise [k2_pay12, dot_S448x16_S16x256_S448x256_1_0_0_1_n_n]
  simp only [hu, ht, ← EReal.coe_mul, coe_sum]
  simp

/-! ### The block -/

/-- The scores of the rows against the members of their regions. -/
def atSel (x0 : Vec Ideal S1x448x48 .f32) (x1 : Vec Ideal S1x448x16 .f32) (x2 : Vec Ideal S1x4096x48 .f32) : FVec Ideal S448x256 .f32 :=
  k2_pay11 (k2_pay3 x1) (k2_pay7 x0 x2) (k2_pay8 (k2_pay3 x1) (k2_pay7 x0 x2)) (k2_pay9 (k2_pay7 x0 x2)) (k2_pay10 (k2_pay3 x1))

/-- The attention over the eight best, from the scores. -/
def atAtt (w : FVec Ideal S448x256 .f32) : FVec Ideal S448x8 .f32 :=
  k2_pay38 atCol (atMax (atRest w 0)) (atMax (atRest w 1)) (atMax (atRest w 2)) (atMax (atRest w 3)) (atMax (atRest w 4)) (atRest w 5)
    (atMax (atRest w 5)) (cmpi .eq atCol (broadcastTo S448x256 (atArg (atRest w 5)) broadcasts_S448x1_S448x256)) k2_pay31

/-- The block's payload in terms of the rounds. -/
def atBlock (w t : FVec Ideal S448x256 .f32) (u : FVec Ideal S448x192 .f32) (v : FVec Ideal S3136x192 .f32) (al : Vec Ideal S1x1x1 .f32)
    (fw : Vec Ideal S1x192x192 .f32) : FVec Ideal S448x192 .f32 :=
  k2_pay46 v u t atCol (atArg (atRest w 7)) (atAtt w) atPos
    (k2_pay44 t atCol (atArg (atRest w 4)) (atArg (atRest w 5)) (atAtt w) atPos
      (k2_pay42 t atCol (atArg (atRest w 1)) (atArg (atRest w 2)) (atAtt w) atPos k2_pay39 (k2_pay40 t atCol (atArg (atRest w 0)))
        (Scalar.ofBits .f32 0x00000000#32) (shapeCast S448x1 (extractStridedSlice S448x1 ![0, 0] (atAtt w) slices_S448x8_o0_0_S448x1) shapeCasts_S448x1_S448x1))
      (k2_pay43 t atCol (atArg (atRest w 3)) atPos))
    (k2_pay45 t atCol (atArg (atRest w 6))) al fw

theorem out2_10_block (x0 : Vec Ideal S1x448x48 .f32) (x1 : Vec Ideal S1x448x16 .f32) (x2 : Vec Ideal S1x4096x48 .f32) (x3 : Vec Ideal S1x16x256 .f32)
    (x4 : Vec Ideal S1x16x48 .f32) (x5 : Vec Ideal S1x16x192 .f32) (x6 : Vec Ideal S1x3136x192 .f32) (x7 : Vec Ideal S1x1x1 .f32)
    (x8 : Vec Ideal S1x192x192 .f32) (x9 : Vec Ideal S1x1x192 .f32) :
    out2_10 x0 x1 x2 x3 x4 x5 x6 x7 x8 x9
      = k2_pay1 (atBlock (atSel x0 x1 x2) (k2_pay12 (k2_pay3 x1) (k2_pay4 x3)) (k2_pay6 x0 x4 x5) (k2_pay5 x6) x7 x8) x9 := by
  unfold out2_10
  rw [View.canon_unit_zero zero3]
  unfold k2_pay65 k2_pay64 k2_pay63 k2_pay62 k2_pay61 k2_pay60 k2_pay59 k2_pay58 k2_pay57 k2_pay56 k2_pay55 k2_pay54 k2_pay53 k2_pay52 k2_pay51 k2_pay50
    k2_pay49 k2_pay48 k2_pay47
  rw [show View.ld x0 r2_0 = x0 from View.ld_unit_zero zero3 _ x0, show View.ld x1 r2_1 = x1 from View.ld_unit_zero zero3 _ x1, show View.ld x2 r2_2 = x2 from View.ld_unit_zero zero3 _ x2, show View.ld x3 r2_3 = x3 from View.ld_unit_zero zero3 _ x3, show View.ld x6 r2_4 = x6 from View.ld_unit_zero zero3 _ x6, show View.ld x4 r2_5 = x4 from View.ld_unit_zero zero3 _ x4, show View.ld x5 r2_6 = x5 from View.ld_unit_zero zero3 _ x5, show View.ld x7 r2_7 = x7 from View.ld_unit_zero zero3 _ x7, show View.ld x8 r2_8 = x8 from View.ld_unit_zero zero3 _ x8, show View.ld x9 r2_9 = x9 from View.ld_unit_zero zero3 _ x9]
  rfl

section
variable (w t : FVec Ideal S448x256 .f32) (r : Fin 448) (f : Fin 256 → ℝ) (hw : ∀ x, @Eq EReal (w (ix2 r x)) (f x))
include hw

theorem atMax_rest (k : Fin 256) : @Eq EReal (atMax (atRest w k) (ix2 r 0)) (f (ord f k)) :=
  atMax_left _ r f k fun x => atRest_left w r f hw k (by omega) x

theorem atArg_rest (k : Fin 256) : atArg (atRest w k) (ix2 r 0) = BitVec.ofNat 32 (ord f k).val :=
  atArg_left _ r f k fun x => atRest_left w r f hw k (by omega) x

theorem atAtt_eq (j : Fin 8) : @Eq EReal (atAtt w (ix2 r j)) (soft (fun j : Fin 8 => f (ord f (j.castLE (by decide)))) j) :=
  k2_pay38_eq r (fun j : Fin 8 => f (ord f (j.castLE (by decide)))) atCol _ _ _ _ _ _ (atRest w 5) _ k2_pay31 (atMax_rest w r f hw 0) (atMax_rest w r f hw 1)
    (atMax_rest w r f hw 2) (atMax_rest w r f hw 3) (atMax_rest w r f hw 4) (atMax_rest w r f hw 5) (atMax_rest w r f hw 6) (atMax_rest w r f hw 7) j

theorem atBlock_eq (T : Fin 256 → Fin 3136) (ht : ∀ x, @Eq EReal (t (ix2 r x)) (((T x).val : ℝ) : EReal))
    (v : FVec Ideal S3136x192 .f32) (V : Fin 192 → Fin 3136 → ℝ) (hv : ∀ n c, @Eq EReal (v (ix2 n c)) (V c n))
    (u : FVec Ideal S448x192 .f32) (U : Fin 192 → ℝ) (hu : ∀ c, @Eq EReal (u (ix2 r c)) (U c))
    (al : Vec Ideal S1x1x1 .f32) (s : ℝ) (hs : @Eq EReal (Ideal.logistic (al (ix3 0 0 0))) s)
    (fw : Vec Ideal S1x192x192 .f32) (G : Fin 192 → Fin 192 → ℝ) (hf : ∀ o c, @Eq EReal (fw (ix3 0 o c)) (G o c)) (o : Fin 192) :
    @Eq EReal (atBlock w t u v al fw (ix2 r o)) (∑ c, G o c * (s * U c + (1 - s) * ∑ j : Fin 8,
      soft (fun j : Fin 8 => f (ord f (j.castLE (by decide)))) j * V c (T (ord f (j.castLE (by decide))))) : ℝ) := by
  have ha := atAtt_eq w r f hw
  have hi := atArg_rest w r f hw
  unfold atBlock
  generalize atAtt w = a at ha
  generalize (soft fun j : Fin 8 => f (ord f (j.castLE (by decide)))) = A at ha ⊢
  have hc : @Eq EReal (shapeCast S448x1 (extractStridedSlice S448x1 ![0, 0] a slices_S448x8_o0_0_S448x1) shapeCasts_S448x1_S448x1 (ix2 r 0)) (A 0) := by
    pointwise []
    exact ha 0
  have h2 := k2_pay42_eq r t T ht a A ha _ _ _ (ord f 0) (ord f 1) (ord f 2) (hi 0) (hi 1) (hi 2) _ hc
  have h5 := fun n => k2_pay44_eq r t T ht a A ha _ _ _ (ord f 3) (ord f 4) (ord f 5) (hi 3) (hi 4) (hi 5) _ _ n (h2 n)
  refine (k2_pay46_eq r t T ht a A ha _ _ (ord f 6) (ord f 7) (hi 6) (hi 7) _ _ h5 v V hv u U hu al s hs fw G hf o).trans (congrArg _ ?_)
  refine Finset.sum_congr rfl fun c _ => ?_
  rw [mul_comm]
  refine congrArg (fun z => G o c * (s * U c + (1 - s) * z)) ?_
  simp only [add_mul, ite_mul, zero_mul, Finset.sum_add_distrib, Finset.sum_ite_eq', Finset.sum_ite_eq, Finset.mem_univ, if_true, Fin.sum_univ_eight]
  rfl

end

/-- The block that the attention kernel writes. -/
theorem out2_10_eq (D : Data) (b : Fin 2) (n : Fin 3136) (r : Fin 448) (x0 : Vec Ideal S1x448x48 .f32) (x1 : Vec Ideal S1x448x16 .f32) (x2 : Vec Ideal S1x4096x48 .f32)
    (x3 : Vec Ideal S1x16x256 .f32) (x4 : Vec Ideal S1x16x48 .f32) (x5 : Vec Ideal S1x16x192 .f32) (x6 : Vec Ideal S1x3136x192 .f32) (x7 : Vec Ideal S1x1x1 .f32)
    (x8 : Vec Ideal S1x192x192 .f32) (x9 : Vec Ideal S1x1x192 .f32)
    (h0 : ∀ d, @Eq EReal (x0 (ix3 0 r d)) (D.q b d n)) (h1 : ∀ i, @Eq EReal (x1 (ix3 0 r i)) (if i = D.hard b n then 1 else 0 : ℝ))
    (h2 : ∀ (i : Fin 16) (m : Fin 256) d, @Eq EReal (x2 (ix3 0 ⟨i.val * 256 + m.val, by omega⟩ d)) (D.k b d (D.top b i m)))
    (h3 : ∀ i m, @Eq EReal (x3 (ix3 0 i m)) (((D.top b i m).val : ℝ) : EReal)) (h4 : ∀ i d, @Eq EReal (x4 (ix3 0 i d)) (D.rk b i d))
    (h5 : ∀ i c, @Eq EReal (x5 (ix3 0 i c)) (D.rv b i c)) (h6 : ∀ n c, @Eq EReal (x6 (ix3 0 n c)) (D.v b c n))
    (h7 : @Eq EReal (Ideal.logistic (x7 (ix3 0 0 0))) D.a) (h8 : ∀ o c, @Eq EReal (x8 (ix3 0 o c)) (D.fw o c))
    (h9 : ∀ o, @Eq EReal (x9 (ix3 0 0 o)) (D.fb o)) (o : Fin 192) :
    @Eq EReal (out2_10 x0 x1 x2 x3 x4 x5 x6 x7 x8 x9 (ix3 0 r o)) (D.fused b o n) := by
  have hu : ∀ i, @Eq EReal (k2_pay3 x1 (ix2 r i)) (if i = D.hard b n then 1 else 0 : ℝ) := fun i => by
    pointwise [k2_pay3]
    exact h1 i
  have ht : ∀ i m, @Eq EReal (k2_pay4 x3 (ix2 i m)) (((D.top b i m).val : ℝ) : EReal) := fun i m => by
    pointwise [k2_pay4]
    exact h3 i m
  have hv : ∀ n c, @Eq EReal (k2_pay5 x6 (ix2 n c)) (D.v b c n) := fun n c => by
    pointwise [k2_pay5]
    exact h6 n c
  have hs : ∀ m, @Eq EReal (atSel x0 x1 x2 (ix2 r m)) (D.sel b n m) := fun m =>
    k2_pay11_eq r _ _ (fun i m => (∑ d, D.q b d n * D.k b d (D.top b i m)) / scale) (D.hard b n) hu
      (fun i m => k2_pay7_eq D b n r x0 h0 x2 _ _ (h2 i m)) m
  have hb := atBlock_eq (atSel x0 x1 x2) (k2_pay12 (k2_pay3 x1) (k2_pay4 x3)) r (D.sel b n) hs (D.top b (D.hard b n))
    (k2_pay12_eq r _ (D.hard b n) hu _ (fun i m => ((D.top b i m).val : ℝ)) ht) (k2_pay5 x6) (D.v b) hv (k2_pay6 x0 x4 x5) (fun c => D.cont b c n)
    (k2_pay6_eq D b n r x0 h0 x4 h4 x5 h5) x7 D.a h7 x8 D.fw h8 o
  rw [out2_10_block]
  generalize atBlock _ _ _ _ _ _ = z at hb
  pointwise [k2_pay1]
  rw [hb, h9, ← EReal.coe_add]
  refine congrArg _ ?_
  unfold Data.fused Data.comb Data.sparse Data.att
  simp only [D.best_eq]

end Cert.KernelIdeal.Gen

end
-- ==== Proof.Value.Arr2.lean ====
/- The attention's array, from its blocks. -/
module

public import proofs.«01_k».proof.Proof.KernelIdeal.At
public import proofs.«01_k».proof.Proof.Value.KAt
public import Idealize.ShloMosaic.Lib.Pipeline.ValueKit

@[expose] public section

noncomputable section

open Idealize.ShloMosaic Idealize.ShloMosaic.TcCoe

namespace Cert.KernelIdeal.Gen

open Cert.KernelIdeal Cert.Value

theorem member_lt (i : Fin 16) (m : Fin 256) : i.val * 256 + m.val < 4096 := by omega

theorem idx2_0 : ∀ t : Fin cfg2.N, win2_0.index t = ![(grid2.coords t 0).val, (grid2.coords t 1).val, 0] := (by decide +kernel : ∀ t : Fin grid2.N, _)
theorem idx2_1 : ∀ t : Fin cfg2.N, win2_1.index t = ![(grid2.coords t 0).val, (grid2.coords t 1).val, 0] := (by decide +kernel : ∀ t : Fin grid2.N, _)
theorem idx2_2 : ∀ t : Fin cfg2.N, win2_2.index t = ![(grid2.coords t 0).val, 0, 0] := (by decide +kernel : ∀ t : Fin grid2.N, _)
theorem idx2_3 : ∀ t : Fin cfg2.N, win2_3.index t = ![(grid2.coords t 0).val, 0, 0] := (by decide +kernel : ∀ t : Fin grid2.N, _)
theorem idx2_4 : ∀ t : Fin cfg2.N, win2_4.index t = ![(grid2.coords t 0).val, 0, 0] := (by decide +kernel : ∀ t : Fin grid2.N, _)
theorem idx2_5 : ∀ t : Fin cfg2.N, win2_5.index t = ![(grid2.coords t 0).val, 0, 0] := (by decide +kernel : ∀ t : Fin grid2.N, _)
theorem idx2_6 : ∀ t : Fin cfg2.N, win2_6.index t = ![(grid2.coords t 0).val, 0, 0] := (by decide +kernel : ∀ t : Fin grid2.N, _)
theorem idx2_7 : ∀ t : Fin cfg2.N, win2_7.index t = ![0, 0, 0] := (by decide +kernel : ∀ t : Fin grid2.N, _)
theorem idx2_8 : ∀ t : Fin cfg2.N, win2_8.index t = ![0, 0, 0] := (by decide +kernel : ∀ t : Fin grid2.N, _)
theorem idx2_9 : ∀ t : Fin cfg2.N, win2_9.index t = ![0, 0, 0] := (by decide +kernel : ∀ t : Fin grid2.N, _)
theorem idx2_10 : ∀ t : Fin cfg2.N, win2_10.index t = ![(grid2.coords t 0).val, (grid2.coords t 1).val, 0] := (by decide +kernel : ∀ t : Fin grid2.N, _)

section
variable (V : (c : Dev nD) → (b : Ref sig .tc) → Buf (Elt Ideal) ((c : Thread nD τ).loc b)) (c : Dev nD)
  (t : Fin cfg2.N) (b : Fin 2) (hb : (grid2.coords t 0).val = b.val)
include hb

theorem blk2_0 (k : Fin 7) (hk : (grid2.coords t 1).val = k.val) (p : Fin 448) (q : Fin 48) :
    @Eq EReal (iblk2 V c 0 t (ix3 0 p q)) (V c main_v11_0 (ix3 b ⟨k.val * 448 + p.val, by omega⟩ q)) := by
  blk_simp [iblk2]
  refine congrArg (V c main_v11_0) ?_
  blk_ext [idx2_0, hb, hk]

theorem blk2_1 (k : Fin 7) (hk : (grid2.coords t 1).val = k.val) (p : Fin 448) (q : Fin 16) :
    @Eq EReal (iblk2 V c 1 t (ix3 0 p q)) (V c main_v11_4 (ix3 b ⟨k.val * 448 + p.val, by omega⟩ q)) := by
  blk_simp [iblk2]
  refine congrArg (V c main_v11_4) ?_
  blk_ext [idx2_1, hb, hk]

theorem blk2_2 (p : Fin 4096) (q : Fin 48) : @Eq EReal (iblk2 V c 2 t (ix3 0 p q)) (V c main_v11_5 (ix3 b p q)) := by
  blk_simp [iblk2]
  refine congrArg (V c main_v11_5) ?_
  blk_ext [idx2_2, hb]

theorem blk2_3 (p : Fin 16) (q : Fin 256) : @Eq EReal (iblk2 V c 3 t (ix3 0 p q)) (V c main_v11_6 (ix3 b p q)) := by
  blk_simp [iblk2]
  refine congrArg (V c main_v11_6) ?_
  blk_ext [idx2_3, hb]

theorem blk2_4 (p : Fin 16) (q : Fin 48) : @Eq EReal (iblk2 V c 4 t (ix3 0 p q)) (V c main_v11_2 (ix3 b p q)) := by
  blk_simp [iblk2]
  refine congrArg (V c main_v11_2) ?_
  blk_ext [idx2_4, hb]

theorem blk2_5 (p : Fin 16) (q : Fin 192) : @Eq EReal (iblk2 V c 5 t (ix3 0 p q)) (V c main_v11_3 (ix3 b p q)) := by
  blk_simp [iblk2]
  refine congrArg (V c main_v11_3) ?_
  blk_ext [idx2_5, hb]

theorem blk2_6 (p : Fin 3136) (q : Fin 192) : @Eq EReal (iblk2 V c 6 t (ix3 0 p q)) (V c main_v11_1 (ix3 b p q)) := by
  blk_simp [iblk2]
  refine congrArg (V c main_v11_1) ?_
  blk_ext [idx2_6, hb]

omit hb

theorem blk2_7 (p : Fin 1) (q : Fin 1) : @Eq EReal (iblk2 V c 7 t (ix3 0 p q)) (V c main_v12 (ix3 0 p q)) := by
  blk_simp [iblk2]
  refine congrArg (V c main_v12) ?_
  blk_ext [idx2_7]

theorem blk2_8 (p : Fin 192) (q : Fin 192) : @Eq EReal (iblk2 V c 8 t (ix3 0 p q)) (V c main_v13 (ix3 0 p q)) := by
  blk_simp [iblk2]
  refine congrArg (V c main_v13) ?_
  blk_ext [idx2_8]

theorem blk2_9 (p : Fin 1) (q : Fin 192) : @Eq EReal (iblk2 V c 9 t (ix3 0 p q)) (V c main_v14 (ix3 0 p q)) := by
  blk_simp [iblk2]
  refine congrArg (V c main_v14) ?_
  blk_ext [idx2_9]

end

section
variable (V : (c : Dev nD) → (b : Ref sig .tc) → Buf (Elt Ideal) ((c : Thread nD τ).loc b)) (c : Dev nD) (D : Data)
  (h0 : ∀ b n d, @Eq EReal (V c main_v11_0 (ix3 b n d)) (D.q b d n))
  (h1 : ∀ b n i, @Eq EReal (V c main_v11_4 (ix3 b n i)) (if i = D.hard b n then 1 else 0 : ℝ))
  (h2 : ∀ b (i : Fin 16) (m : Fin 256) d, @Eq EReal (V c main_v11_5 (ix3 b ⟨i.val * 256 + m.val, member_lt i m⟩ d)) (D.k b d (D.top b i m)))
  (h3 : ∀ b i m, @Eq EReal (V c main_v11_6 (ix3 b i m)) (((D.top b i m).val : ℝ) : EReal))
  (h4 : ∀ b i d, @Eq EReal (V c main_v11_2 (ix3 b i d)) (D.rk b i d))
  (h5 : ∀ b i d, @Eq EReal (V c main_v11_3 (ix3 b i d)) (D.rv b i d))
  (h6 : ∀ b n d, @Eq EReal (V c main_v11_1 (ix3 b n d)) (D.v b d n))
  (h7 : @Eq EReal (Ideal.logistic (V c main_v12 (ix3 0 0 0))) D.a)
  (h8 : ∀ o d, @Eq EReal (V c main_v13 (ix3 0 o d)) (D.fw o d))
  (h9 : ∀ o, @Eq EReal (V c main_v14 (ix3 0 0 o)) (D.fb o))
include h0 h1 h2 h3 h4 h5 h6 h7 h8 h9

theorem arr2_eq (b : Fin 2) (n : Fin 3136) (o : Fin 192) : @Eq EReal ((dat2 V c).arrAt 10 cfg2.N (ix3 b n o)) (D.fused b o n) := by
  obtain ⟨G, hG⟩ : ∃ G : S2x3136x192.Idx → EReal, ∀ b n o, G (ix3 b n o) = ((D.fused b o n : ℝ) : EReal) :=
    ⟨fun i => ((D.fused (i 0) (i 2) (i 1) : ℝ) : EReal), fun _ _ _ => rfl⟩
  refine (congrFun ((dat2 V c).arrAt_eq_of_covers 10 G (by decide +kernel) fun t hf y => ?_) (ix3 b n o)).trans (hG b n o)
  blk_simp
  rw [after2_10]
  obtain ⟨a, p, q, rfl⟩ : ∃ (a : Fin 1) (p : Fin 448) (q : Fin 192), y = ix3 a p q := ⟨y 0, y 1, y 2, eq_ix3 y⟩
  obtain ⟨b', hb⟩ : ∃ b' : Fin 2, (grid2.coords t 0).val = b'.val := ⟨grid2.coords t 0, rfl⟩
  obtain ⟨k, hk⟩ : ∃ k : Fin 7, (grid2.coords t 1).val = k.val := ⟨grid2.coords t 1, rfl⟩
  have he : (win2_10.blk t).view.emb (ix3 a p q) = ix3 b' ⟨k.val * 448 + p.val, by omega⟩ q := by blk_ext [idx2_10, hb, hk]
  rw [he, hG]
  obtain rfl : a = 0 := Subsingleton.elim _ _
  exact out2_10_eq D b' ⟨k.val * 448 + p.val, by omega⟩ p _ _ _ _ _ _ _ _ _ _
    (fun d => (blk2_0 V c t b' hb k hk p d).trans (h0 _ _ _)) (fun i => (blk2_1 V c t b' hb k hk p i).trans (h1 _ _ _))
    (fun i m d => (blk2_2 V c t b' hb _ d).trans (h2 _ _ _ _)) (fun i m => (blk2_3 V c t b' hb i m).trans (h3 _ _ _))
    (fun i d => (blk2_4 V c t b' hb i d).trans (h4 _ _ _)) (fun i d => (blk2_5 V c t b' hb i d).trans (h5 _ _ _))
    (fun n d => (blk2_6 V c t b' hb n d).trans (h6 _ _ _)) ((congrArg Ideal.logistic (blk2_7 V c t 0 0)).trans h7)
    (fun o d => (blk2_8 V c t o d).trans (h8 _ _)) (fun o => (blk2_9 V c t 0 o).trans (h9 _)) q

end

end Cert.KernelIdeal.Gen

end
-- ==== Proof.Value.Arr3.lean ====
/- The transposition's array, from its blocks. -/
module

public import proofs.«01_k».proof.Proof.KernelIdeal.Tr
public import proofs.«01_k».proof.Proof.Value.Real
public import proofs.«01_k».proof.Proof.Value.Spec
public import Idealize.ShloMosaic.Lib.Pointwise
public import Idealize.ShloMosaic.Lib.Pipeline.ValueKit

@[expose] public section

noncomputable section

open Idealize.ShloMosaic Idealize.ShloMosaic.TcCoe

namespace Cert.KernelIdeal.Gen

open Cert.KernelIdeal Cert.Value

theorem k3_pay1_eq (w : Vec Ideal S1x3136x192 .f32) (i : Fin 56) (o : Fin 192) (j : Fin 56) :
    @Eq EReal (k3_pay1 w (ix3 0 i ⟨o.val * 56 + j.val, by omega⟩)) (w (ix3 0 (pos i j) o)) := by
  pointwise [k3_pay1]
  rfl

theorem out3_1_eq (x : Vec Ideal S1x3136x192 .f32) (i : Fin 56) (o : Fin 192) (j : Fin 56) :
    @Eq EReal (out3_1 x (ix3 0 i ⟨o.val * 56 + j.val, by omega⟩)) (x (ix3 0 (pos i j) o)) := by
  unfold out3_1
  rw [View.canon_unit_zero zero3, show View.ld x r3_0 = x from View.ld_unit_zero zero3 _ _]
  exact k3_pay1_eq x i o j

theorem idx3_0 : ∀ t : Fin cfg3.N, win3_0.index t = ![(grid3.coords t 0).val, 0, 0] := (by decide +kernel : ∀ t : Fin grid3.N, _)
theorem idx3_1 : ∀ t : Fin cfg3.N, win3_1.index t = ![(grid3.coords t 0).val, 0, 0] := (by decide +kernel : ∀ t : Fin grid3.N, _)

section
variable (V : (c : Dev nD) → (b : Ref sig .tc) → Buf (Elt Ideal) ((c : Thread nD τ).loc b)) (c : Dev nD)

theorem blk3_0 (t : Fin cfg3.N) (b : Fin 2) (hb : (grid3.coords t 0).val = b.val) (n : Fin 3136) (o : Fin 192) :
    @Eq EReal (iblk3 V c 0 t (ix3 0 n o)) (V c main_v15 (ix3 b n o)) := by
  blk_simp [iblk3]
  refine congrArg (V c main_v15) ?_
  blk_ext [idx3_0, hb]

theorem arr3_eq (D : Data)
    (hx : ∀ b n o, @Eq EReal (V c main_v15 (ix3 b n o)) (D.fused b o n)) (b : Fin 2) (i : Fin 56) (o : Fin 192) (j : Fin 56) :
    @Eq EReal ((dat3 V c).arrAt 1 cfg3.N (ix3 b i ⟨o.val * 56 + j.val, by omega⟩)) (D.fused b o (pos i j)) := by
  obtain ⟨G, hG⟩ : ∃ G : S2x56x10752.Idx → EReal, ∀ b i q, G (ix3 b i q) = ((D.fused b ⟨q.val / 56, by omega⟩ (pos i ⟨q.val % 56, Nat.mod_lt _ (by decide)⟩) : ℝ) : EReal) :=
    ⟨fun i => ((D.fused (i 0) ⟨(i 2).val / 56, by have : (i 2).val < 10752 := (i 2).isLt; omega⟩ (pos (i 1) ⟨(i 2).val % 56, Nat.mod_lt _ (by decide)⟩) : ℝ) : EReal), fun _ _ _ => rfl⟩
  refine (congrFun ((dat3 V c).arrAt_eq_of_covers 1 G (by decide +kernel) fun t hf y => ?_) (ix3 b i ⟨o.val * 56 + j.val, by omega⟩)).trans ?_
  · blk_simp
    rw [after3_1]
    obtain ⟨a, p, q, rfl⟩ : ∃ (a : Fin 1) (p : Fin 56) (q : Fin 10752), y = ix3 a p q := ⟨y 0, y 1, y 2, eq_ix3 y⟩
    obtain ⟨b', hb⟩ : ∃ b' : Fin 2, (grid3.coords t 0).val = b'.val := ⟨grid3.coords t 0, rfl⟩
    have he : (win3_1.blk t).view.emb (ix3 a p q) = ix3 b' p q := by
      blk_ext [idx3_1, hb]
    rw [he, hG]
    obtain rfl : a = 0 := Subsingleton.elim _ _
    have ho := out3_1_eq (iblk3 V c 0 t) p ⟨q.val / 56, by omega⟩ ⟨q.val % 56, Nat.mod_lt _ (by decide)⟩
    have hq : (⟨q.val / 56 * 56 + q.val % 56, by omega⟩ : Fin 10752) = q := Fin.ext (by simp only; omega)
    rw [hq] at ho
    exact ho.trans ((blk3_0 V c t b' hb _ _).trans (hx _ _ _))
  · have h1 : (o.val * 56 + j.val) / 56 = o.val := by omega
    have h2 : (o.val * 56 + j.val) % 56 = j.val := by omega
    rw [hG]
    simp only [h1, h2]

end

end Cert.KernelIdeal.Gen

end
-- ==== Proof.Value.KUp.lean ====
/- The resizing kernel's block at real entries: the weights, the resized image and the layer normalisation. -/
module

public import proofs.«01_k».proof.Proof.Value.Spec
public import proofs.«01_k».proof.Proof.Value.Host
public import proofs.«01_k».proof.Proof.KernelIdeal.Up
public import Idealize.ShloMosaic.Lib.Pointwise

@[expose] public section

noncomputable section

open Idealize.ShloMosaic

namespace Cert.Value

/-- The two neighbours' weights of a position, both held inside the grid, are the tent's. -/
theorem interp_real (z : ℤ) (s : ℝ) (h1 : (z : ℝ) ≤ s) (h2 : s < z + 1) (hz : -1 ≤ z) (hz' : z ≤ 55) (j : Fin 56) :
    (if (j.val : ℝ) = min 55 (max 0 (z : ℝ)) then 1 else 0) * (1 - (s - z)) + (if (j.val : ℝ) = min 55 (max 0 ((z : ℝ) + 1)) then 1 else 0) * (s - z)
      = max (1 - |min 55 (max 0 s) - (j.val : ℝ)|) 0 := by
  have hj : (j.val : ℤ) ≤ 55 := by omega
  have hj0 : (0 : ℤ) ≤ j.val := by omega
  generalize hJ : (j.val : ℤ) = J at hj hj0
  have hJ' : (j.val : ℝ) = (J : ℝ) := by rw [← hJ]; push_cast; rfl
  rw [hJ']
  rcases lt_or_ge z 0 with h | h
  · have hz1 : z = -1 := by omega
    subst hz1
    push_cast at h1 h2 ⊢
    have hs : s < 0 := by linarith
    rw [max_eq_left (show (-1 : ℝ) ≤ 0 by norm_num), max_eq_left hs.le, show (-1 : ℝ) + 1 = 0 by norm_num, max_self, min_eq_right (by norm_num : (0:ℝ) ≤ 55)]
    rcases eq_or_ne J 0 with hJ0 | hJ0
    · subst hJ0; simp
    · have h1 : (1 : ℝ) ≤ J := by exact_mod_cast (show (1 : ℤ) ≤ J by omega)
      have : (J : ℝ) ≠ 0 := by linarith
      rw [if_neg this, zero_sub, abs_neg, abs_of_nonneg (by linarith), max_eq_right (by linarith)]
      ring
  rcases eq_or_lt_of_le hz' with h' | h'
  · subst h'
    push_cast at h1 h2 ⊢
    rw [max_eq_right (by norm_num : (0:ℝ) ≤ 55), max_eq_right (by norm_num : (0:ℝ) ≤ 55 + 1), max_eq_right (by linarith : 0 ≤ s), min_self,
      min_eq_left (by norm_num : (55:ℝ) ≤ 55 + 1), min_eq_left h1]
    rcases eq_or_ne J 55 with hJ0 | hJ0
    · subst hJ0; simp
    · have h1 : (J : ℝ) ≤ 54 := by exact_mod_cast (show J ≤ 54 by omega)
      have : (J : ℝ) ≠ 55 := by linarith
      rw [if_neg this, abs_of_nonneg (by linarith), max_eq_right (by linarith)]
      ring
  have hzr : (0 : ℝ) ≤ z := by exact_mod_cast h
  have hzr' : (z : ℝ) ≤ 54 := by exact_mod_cast (show z ≤ 54 by omega)
  rw [max_eq_right hzr, max_eq_right (by linarith : (0 : ℝ) ≤ z + 1), max_eq_right (by linarith : 0 ≤ s), min_eq_right (by linarith : (z : ℝ) ≤ 55),
    min_eq_right (by linarith : (z : ℝ) + 1 ≤ 55), min_eq_right (by linarith : s ≤ 55)]
  rcases lt_trichotomy J z with hlt | heq | hgt
  · have : (J : ℝ) + 1 ≤ z := by exact_mod_cast hlt
    rw [if_neg (by linarith : ¬ (J : ℝ) = z).elim, if_neg (by linarith), abs_of_nonneg (by linarith), max_eq_right (by linarith)]
    ring
  · subst heq
    rw [if_pos rfl, if_neg (by linarith), abs_of_nonneg (by linarith), max_eq_left (by linarith)]
    ring
  · rcases eq_or_lt_of_le (show z + 1 ≤ J by omega) with heq | hlt
    · subst heq
      push_cast
      rw [if_neg (by linarith), if_pos rfl, abs_of_nonpos (by linarith), max_eq_left (by linarith)]
      ring
    · have : (z : ℝ) + 1 + 1 ≤ J := by exact_mod_cast hlt
      rw [if_neg (by linarith), if_neg (by linarith), abs_of_nonpos (by linarith), max_eq_right (by linarith)]
      ring

theorem interp_eq (i : Fin 224) (j : Fin 56) :
    (if (j.val : ℝ) = min 55 (max 0 ((⌊(i.val : ℝ) * (1 / 4) - 3 / 8⌋ : ℤ) : ℝ)) then 1 else 0) * (1 - ((i.val : ℝ) * (1 / 4) - 3 / 8 - ((⌊(i.val : ℝ) * (1 / 4) - 3 / 8⌋ : ℤ) : ℝ)))
      + (if (j.val : ℝ) = min 55 (max 0 (((⌊(i.val : ℝ) * (1 / 4) - 3 / 8⌋ : ℤ) : ℝ) + 1)) then 1 else 0) * ((i.val : ℝ) * (1 / 4) - 3 / 8 - ((⌊(i.val : ℝ) * (1 / 4) - 3 / 8⌋ : ℤ) : ℝ))
      = weight i j := by
  have hi : (i.val : ℝ) ≤ 223 := by exact_mod_cast (show i.val ≤ 223 by omega)
  have hi0 : (0 : ℝ) ≤ i.val := by positivity
  rw [interp_real _ _ (Int.floor_le _) (Int.lt_floor_add_one _) (Int.le_floor.mpr (by push_cast; linarith)) (by
    rw [← Int.lt_add_one_iff, Int.floor_lt]; push_cast; linarith), weight]
  rw [show (i.val : ℝ) * (1 / 4) - 3 / 8 = ((i.val : ℝ) + 1 / 2) * (1 / 4) - 1 / 2 by ring]

theorem interp_coe (i : Fin 224) (j : Fin 56) (s : EReal) (hs : s = (((i.val : ℝ) * (1 / 4) - 3 / 8 : ℝ) : EReal)) :
    (FloatOps.sitofp (F := Ideal) .f32 (BitVec.setWidth 32 (BitVec.ofBool (decide ((FloatOps.sitofp (F := Ideal) .f32 (BitVec.ofNat 32 j.val) : EReal)
        = min (Ideal.ofBits .f32 1113325568#32) (max 0 (Ideal.liftRound Int.floor s)))))) : EReal) * (1 - (s - Ideal.liftRound Int.floor s))
      + (FloatOps.sitofp (F := Ideal) .f32 (BitVec.setWidth 32 (BitVec.ofBool (decide ((FloatOps.sitofp (F := Ideal) .f32 (BitVec.ofNat 32 j.val) : EReal)
        = min (Ideal.ofBits .f32 1113325568#32) (max 0 (Ideal.liftRound Int.floor s + 1)))))) : EReal) * (s - Ideal.liftRound Int.floor s)
      = (weight i j : EReal) := by
  rw [hs, floor_coe, sitofp_ofNat (by omega), lit_55, ← EReal.coe_zero, ← EReal.coe_one, ← EReal.coe_add, max_coe, max_coe, min_coe, min_coe, sitofp_bit,
    sitofp_bit, ← EReal.coe_sub, ← EReal.coe_sub, ← EReal.coe_mul, ← EReal.coe_mul, ← EReal.coe_add]
  simp only [EReal.coe_eq_coe_iff]
  exact interp_eq i j

end Cert.Value

namespace Cert.KernelIdeal.Gen

open Cert.KernelIdeal Cert.Value

theorem lane_lt (o : Fin 192) (w : Fin 56) : o.val * 56 + w.val < 10752 := by omega

theorem k4_pay2_eq (i : Fin 224) (j : Fin 56) : @Eq EReal (k4_pay2 (F := Ideal) (ix2 i j)) (weight i j) := by
  pointwise [k4_pay2]
  refine interp_coe i j _ ?_
  rw [sitofp_ofNat (by omega), lit_quarter, lit_3_8, ← EReal.coe_mul, ← EReal.coe_sub]

section
variable (D : Data) (b : Fin 2) (k : Fin 7) (y : Vec Ideal S1x56x10752 .f32)
  (hy : ∀ h (o : Fin 192) (w : Fin 56), @Eq EReal (y (ix3 0 h ⟨o.val * 56 + w.val, by omega⟩)) (D.fused b o (pos h w)))
  (i : Fin 224) (r : Fin 32)
  (s : FVec Ideal S32x56 .f32) (hs : ∀ h, @Eq EReal (s (ix2 r h)) ((i.val : ℝ) * (1 / 4) - 3 / 8 : ℝ))
include hy hs

theorem k4_pay6_eq (o : Fin 192) (j : Fin 224) :
    @Eq EReal (k4_pay6 k4_pay2 k4_pay3 s (floor s) y (ix3 o r j)) (D.up b o i j - D.mean b i j : ℝ) := by
  pointwise [k4_pay6, k4_pay3, dot_S32x56_S56x10752_S32x10752_1_0_0_1_n_n, dot_S6144x56_S224x56_S6144x224_1_1_0_0_n_n]
  have hw := fun x : Fin 56 => interp_coe i x (s (ix2 r x)) (hs x)
  simp only [hw, hy, k4_pay2_eq, lit_192, ← EReal.coe_mul, coe_sum, div_coe_coe _ (show (192 : ℝ) ≠ 0 by norm_num), ← EReal.coe_sub]
  simp only [Data.mean, Data.up, mul_comm (weight j _)]

theorem k4_pay7_eq (j : Fin 224) :
    @Eq EReal (k4_pay7 k4_pay2 k4_pay3 s (floor s) y (ix3 0 r j)) ((Real.sqrt (D.var b i j + eps))⁻¹ : ℝ) := by
  have h := fun o => k4_pay6_eq D b y hy i r s hs o j
  unfold k4_pay7
  generalize k4_pay6 k4_pay2 k4_pay3 s (floor s) y = z at h
  pointwise []
  simp only [h, lit_192, lit_eps, ← EReal.coe_mul, coe_sum, div_coe_coe _ (show (192 : ℝ) ≠ 0 by norm_num), ← EReal.coe_add]
  exact rsqrt_coe (add_pos_of_nonneg_of_pos (D.var_nonneg b i j) eps_pos)

end

theorem k4_pay4_eq (c : grid4.Coords) (r : Fin 32) (h : Fin 56) (i : Fin 224) (hi : i.val = (c 1).val * 32 + r.val) :
    @Eq EReal (k4_pay4 (F := Ideal) c (ix2 r h)) ((i.val : ℝ) * (1 / 4) - 3 / 8 : ℝ) := by
  have hc : (c 1).val < 7 := (c 1).isLt
  have hm : (Scalar.muli (BitVec.ofNat 32 (c 1).val) 32#32).toInt = ((c 1).val * 32 : ℕ) := by
    show (BitVec.ofNat 32 (c 1).val * BitVec.ofNat 32 32).toInt = _
    rw [← BitVec.ofNat_mul, toInt_ofNat (by omega)]
  pointwise [k4_pay4]
  rw [hm, sitofp_ofNat (by omega), lit_quarter, lit_3_8, hi]
  push_cast
  rw [add_comm]

theorem k4_pay1_eq (r : Fin 32) (j : Fin 224) (o : Fin 192) (z : FVec Ideal S192x32x224 .f32) (q : FVec Ideal S1x32x224 .f32) (l m : Vec Ideal S192x1 .f32)
    (x : Vec Ideal S1x192x32x224 .f32) :
    @Eq EReal (k4_pay1 z q l m x (ix4 0 o r j)) (x (ix4 0 o r j) + ((z (ix3 o r j) : EReal) * q (ix3 0 r j) * l (ix2 o 0) + m (ix2 o 0))) := by
  pointwise [k4_pay1]

/-- The block that the resizing kernel writes. -/
theorem out4_4_eq (D : Data) (b : Fin 2) (c : grid4.Coords) (y : Vec Ideal S1x56x10752 .f32) (x : Vec Ideal S1x192x32x224 .f32) (l m : Vec Ideal S192x1 .f32)
    (hy : ∀ h (o : Fin 192) (w : Fin 56), @Eq EReal (y (ix3 0 h ⟨o.val * 56 + w.val, lane_lt o w⟩)) (D.fused b o (pos h w)))
    (r : Fin 32) (i : Fin 224) (hi : i.val = (c 1).val * 32 + r.val) (o : Fin 192) (j : Fin 224) (hx : @Eq EReal (x (ix4 0 o r j)) (D.x b o i j)) :
    @Eq EReal (out4_4 c y x l m (ix4 0 o r j)) (D.out b (fun o => l (ix2 o 0)) (fun o => m (ix2 o 0)) o i j) := by
  unfold out4_4
  rw [View.canon_unit_zero zero4, View.ld_unit_zero zero3, View.ld_unit_zero zero2, View.ld_unit_zero zero2, View.ld_unit_zero zero4]
  refine (k4_pay1_eq r j o _ _ l m x).trans ?_
  rw [hx]
  have hs := fun h => k4_pay4_eq c r h i hi
  have h6 := k4_pay6_eq D b y hy i r (k4_pay4 c) hs o j
  have h7 := k4_pay7_eq D b y hy i r (k4_pay4 c) hs j
  refine congrArg (fun z : EReal => (D.x b o i j : EReal) + (z * l (ix2 o 0) + m (ix2 o 0))) ?_
  refine (congrArg₂ (fun u v : EReal => u * v) h6 h7).trans ?_
  rw [← EReal.coe_mul, ← div_eq_mul_inv]
  rfl

end Cert.KernelIdeal.Gen

end
-- ==== Proof.Value.Arr4.lean ====
/- The up-sampling's array, from its blocks. -/
module

public import proofs.«01_k».proof.Proof.KernelIdeal.Up
public import proofs.«01_k».proof.Proof.Value.KUp
public import Idealize.ShloMosaic.Lib.Pipeline.ValueKit

@[expose] public section

noncomputable section

open Idealize.ShloMosaic Idealize.ShloMosaic.TcCoe

namespace Cert.KernelIdeal.Gen

open Cert.KernelIdeal Cert.Value

theorem idx4_0 : ∀ t : Fin cfg4.N, win4_0.index t = ![(grid4.coords t 0).val, 0, 0] := (by decide +kernel : ∀ t : Fin grid4.N, _)
theorem idx4_1 : ∀ t : Fin cfg4.N, win4_1.index t = ![(grid4.coords t 0).val, 0, (grid4.coords t 1).val, 0] := (by decide +kernel : ∀ t : Fin grid4.N, _)
theorem idx4_2 : ∀ t : Fin cfg4.N, win4_2.index t = ![0, 0] := (by decide +kernel : ∀ t : Fin grid4.N, _)
theorem idx4_3 : ∀ t : Fin cfg4.N, win4_3.index t = ![0, 0] := (by decide +kernel : ∀ t : Fin grid4.N, _)
theorem idx4_4 : ∀ t : Fin cfg4.N, win4_4.index t = ![(grid4.coords t 0).val, 0, (grid4.coords t 1).val, 0] := (by decide +kernel : ∀ t : Fin grid4.N, _)

section
variable (V : (c : Dev nD) → (b : Ref sig .tc) → Buf (Elt Ideal) ((c : Thread nD τ).loc b)) (c : Dev nD) (D : Data)

theorem blk4_0 (t : Fin cfg4.N) (b : Fin 2) (hb : (grid4.coords t 0).val = b.val) (h : Fin 56) (q : Fin 10752) :
    @Eq EReal (iblk4 V c 0 t (ix3 0 h q)) (V c main_v16 (ix3 b h q)) := by
  blk_simp [iblk4]
  refine congrArg (V c main_v16) ?_
  blk_ext [idx4_0, hb]

theorem blk4_1 (t : Fin cfg4.N) (b : Fin 2) (k : Fin 7) (hb : (grid4.coords t 0).val = b.val) (hk : (grid4.coords t 1).val = k.val) (o : Fin 192) (r : Fin 32) (j : Fin 224) :
    @Eq EReal (iblk4 V c 1 t (ix4 0 o r j)) (V c main_arg0 (ix4 b o ⟨k.val * 32 + r.val, by omega⟩ j)) := by
  blk_simp [iblk4]
  refine congrArg (V c main_arg0) ?_
  blk_ext [idx4_1, hb, hk]

theorem blk4_2 (t : Fin cfg4.N) (o : Fin 192) : @Eq EReal (iblk4 V c 2 t (ix2 o 0)) (V c main_v3 (ix2 o 0)) := by
  blk_simp [iblk4]
  refine congrArg (V c main_v3) ?_
  blk_ext [idx4_2]

theorem blk4_3 (t : Fin cfg4.N) (o : Fin 192) : @Eq EReal (iblk4 V c 3 t (ix2 o 0)) (V c main_v4 (ix2 o 0)) := by
  blk_simp [iblk4]
  refine congrArg (V c main_v4) ?_
  blk_ext [idx4_3]

theorem arr4_eq (hx : ∀ b o i j, @Eq EReal (V c main_arg0 (ix4 b o i j)) (D.x b o i j))
    (hy : ∀ b h (o : Fin 192) (w : Fin 56), @Eq EReal (V c main_v16 (ix3 b h ⟨o.val * 56 + w.val, by omega⟩)) (D.fused b o (pos h w)))
    (b : Fin 2) (o : Fin 192) (i j : Fin 224) :
    @Eq EReal ((dat4 V c).arrAt 4 cfg4.N (ix4 b o i j)) (D.out b (fun o => V c main_v3 (ix2 o 0)) (fun o => V c main_v4 (ix2 o 0)) o i j) := by
  obtain ⟨l, hl⟩ : ∃ l : Fin 192 → EReal, ∀ o, l o = V c main_v3 (ix2 o 0) := ⟨_, fun _ => rfl⟩
  obtain ⟨m, hm⟩ : ∃ m : Fin 192 → EReal, ∀ o, m o = V c main_v4 (ix2 o 0) := ⟨_, fun _ => rfl⟩
  obtain ⟨G, hG⟩ : ∃ G : S2x192x224x224.Idx → EReal, ∀ b o i j, G (ix4 b o i j) = D.out b l m o i j :=
    ⟨fun i => D.out (i 0) l m (i 1) (i 2) (i 3), fun _ _ _ _ => rfl⟩
  have hl' : (fun o => (V c main_v3 (ix2 o 0) : EReal)) = l := funext fun o => (hl o).symm
  have hm' : (fun o => (V c main_v4 (ix2 o 0) : EReal)) = m := funext fun o => (hm o).symm
  refine (congrFun ((dat4 V c).arrAt_eq_of_covers 4 G (by decide +kernel) fun t hf y => ?_) (ix4 b o i j)).trans ((hG b o i j).trans ?_)
  · blk_simp
    rw [after4_4]
    obtain ⟨a, p, q, s, rfl⟩ : ∃ (a : Fin 1) (p : Fin 192) (q : Fin 32) (s : Fin 224), y = ix4 a p q s := ⟨y 0, y 1, y 2, y 3, eq_ix4 y⟩
    obtain ⟨b', hb⟩ : ∃ b' : Fin 2, (grid4.coords t 0).val = b'.val := ⟨grid4.coords t 0, rfl⟩
    obtain ⟨k, hk⟩ : ∃ k : Fin 7, (grid4.coords t 1).val = k.val := ⟨grid4.coords t 1, rfl⟩
    have he : (win4_4.blk t).view.emb (ix4 a p q s) = ix4 b' p ⟨k.val * 32 + q.val, by omega⟩ s := by blk_ext [idx4_4, hb, hk]
    rw [he, hG]
    obtain rfl : a = 0 := Subsingleton.elim _ _
    have ho := out4_4_eq D b' (grid4.coords t) (iblk4 V c 0 t) (iblk4 V c 1 t) (iblk4 V c 2 t) (iblk4 V c 3 t)
      (fun h o w => (blk4_0 V c t b' hb h _).trans (hy b' h o w)) q ⟨k.val * 32 + q.val, by omega⟩ (by rw [hk]) p s
      ((blk4_1 V c t b' k hb hk p q s).trans (hx _ _ _ _))
    refine ho.trans ?_
    rw [show (fun o => (iblk4 V c 2 t (ix2 o 0) : EReal)) = l from funext fun o => (blk4_2 V c t o).trans (hl o).symm,
      show (fun o => (iblk4 V c 3 t (ix2 o 0) : EReal)) = m from funext fun o => (blk4_3 V c t o).trans (hm o).symm]
  · rw [hl', hm']

end

end Cert.KernelIdeal.Gen

end
-- ==== Proof.Value.Chain.lean ====
/- The arrays along the program: each call's inputs are what the earlier ones left, and the last leaves the result. -/
module

public import proofs.«01_k».proof.Proof.KernelIdeal.Run
public import proofs.«01_k».proof.Proof.Value.Arr0
public import proofs.«01_k».proof.Proof.Value.Arr1
public import proofs.«01_k».proof.Proof.Value.Arr2
public import proofs.«01_k».proof.Proof.Value.Arr3
public import proofs.«01_k».proof.Proof.Value.Arr4
public import Idealize.ShloMosaic.Lib.StableHlo.RunRead

@[expose] public section

noncomputable section

open Idealize.ShloMosaic Idealize.ShloMosaic.TcCoe

namespace Cert.KernelIdeal.Gen

open Cert.KernelIdeal Cert.Value

section
variable (V : Valuation τ sig (Elt Ideal))

theorem host0_v0 (r : Fin 16) : @Eq EReal (StableHlo.after hostOps0 V (Proc.devRef .tc main_v0) (ix2 0 r)) (V (Proc.devRef .tc main_arg2) (ix1 r)) := by
  after_results
  pointwise []

theorem host0_v1 (o : Fin 192) : @Eq EReal (StableHlo.after hostOps0 V (Proc.devRef .tc main_v1) (ix2 0 o)) (V (Proc.devRef .tc main_arg7) (ix1 o)) := by
  after_results
  pointwise []

theorem host0_v2  : @Eq EReal (StableHlo.after hostOps0 V (Proc.devRef .tc main_v2) (ix2 0 0)) (V (Proc.devRef .tc main_arg8) (ix0)) := by
  after_results
  pointwise []

theorem host0_v3 (o : Fin 192) : @Eq EReal (StableHlo.after hostOps0 V (Proc.devRef .tc main_v3) (ix2 o 0)) (V (Proc.devRef .tc main_arg9) (ix1 o)) := by
  after_results
  pointwise []

theorem host0_v4 (o : Fin 192) : @Eq EReal (StableHlo.after hostOps0 V (Proc.devRef .tc main_v4) (ix2 o 0)) (V (Proc.devRef .tc main_arg10) (ix1 o)) := by
  after_results
  pointwise []

theorem host1_v6 (r : Fin 16) (o : Fin 192) : @Eq EReal (StableHlo.after hostOps1 V (Proc.devRef .tc main_v6) (ix3 0 r o)) (V (Proc.devRef .tc main_arg1) (ix2 r o)) := by
  after_results
  pointwise []

theorem host1_v7 (r : Fin 16) : @Eq EReal (StableHlo.after hostOps1 V (Proc.devRef .tc main_v7) (ix3 0 r 0)) (V (Proc.devRef .tc main_v0) (ix2 0 r)) := by
  after_results
  pointwise []

theorem host1_v8 (d : Fin 48) (o : Fin 192) : @Eq EReal (StableHlo.after hostOps1 V (Proc.devRef .tc main_v8) (ix3 0 d o)) (V (Proc.devRef .tc main_arg3) (ix2 d o)) := by
  after_results
  pointwise []

theorem host1_v9 (d : Fin 48) (o : Fin 192) : @Eq EReal (StableHlo.after hostOps1 V (Proc.devRef .tc main_v9) (ix3 0 d o)) (V (Proc.devRef .tc main_arg4) (ix2 d o)) := by
  after_results
  pointwise []

theorem host1_v10 (d o : Fin 192) : @Eq EReal (StableHlo.after hostOps1 V (Proc.devRef .tc main_v10) (ix3 0 d o)) (V (Proc.devRef .tc main_arg5) (ix2 d o)) := by
  after_results
  pointwise []

theorem host2_v12  : @Eq EReal (StableHlo.after hostOps2 V (Proc.devRef .tc main_v12) (ix3 0 0 0)) (V (Proc.devRef .tc main_v2) (ix2 0 0)) := by
  after_results
  pointwise []

theorem host2_v13 (d o : Fin 192) : @Eq EReal (StableHlo.after hostOps2 V (Proc.devRef .tc main_v13) (ix3 0 d o)) (V (Proc.devRef .tc main_arg6) (ix2 d o)) := by
  after_results
  pointwise []

theorem host2_v14 (o : Fin 192) : @Eq EReal (StableHlo.after hostOps2 V (Proc.devRef .tc main_v14) (ix3 0 0 o)) (V (Proc.devRef .tc main_v1) (ix2 0 o)) := by
  after_results
  pointwise []

end

/-- A memory's arguments at the data. -/
structure Held (m : (ℓ : Loc nD τ sig) → Buf (Elt Ideal) ℓ) (c : Dev nD) (D : Data) : Prop where
  x : ∀ b o i j, @Eq EReal (m ((c : Thread nD τ).loc main_arg0) (ix4 b o i j)) (D.x b o i j)
  sw : ∀ r o, @Eq EReal (m ((c : Thread nD τ).loc main_arg1) (ix2 r o)) (D.sw r o)
  sb : ∀ r, @Eq EReal (m ((c : Thread nD τ).loc main_arg2) (ix1 r)) (D.sb r)
  qw : ∀ d o, @Eq EReal (m ((c : Thread nD τ).loc main_arg3) (ix2 d o)) (D.qw d o)
  kw : ∀ d o, @Eq EReal (m ((c : Thread nD τ).loc main_arg4) (ix2 d o)) (D.kw d o)
  vw : ∀ d o, @Eq EReal (m ((c : Thread nD τ).loc main_arg5) (ix2 d o)) (D.vw d o)
  fw : ∀ d o, @Eq EReal (m ((c : Thread nD τ).loc main_arg6) (ix2 d o)) (D.fw d o)
  fb : ∀ o, @Eq EReal (m ((c : Thread nD τ).loc main_arg7) (ix1 o)) (D.fb o)
  a : @Eq EReal (Ideal.logistic (m ((c : Thread nD τ).loc main_arg8) ix0)) D.a

section
variable (m : (ℓ : Loc nD τ sig) → Buf (Elt Ideal) ℓ) (ρ : Dev nD → PrngReg) (c : Dev nD)

/-- What the first host stretch writes is still there later. -/
theorem W4_pass (r : Ref sig .tc) (h2 : ∀ w : Fin cfg0.W, Pipeline.arrRef spec0 w = r → (cfg0.win w).isOut = false) (h3 : r ∉ hostOps1_W)
    (h4 : ∀ w : Fin cfg1.W, Pipeline.arrRef spec1 w = r → (cfg1.win w).isOut = false) :
    W4 m ρ c (Proc.devRef .tc r) = W1 m ρ c (Proc.devRef .tc r) :=
  (W4_of m ρ c r h4).trans ((W3_of m ρ c r h3).trans (W2_of m ρ c r h2))

theorem W7_pass (r : Ref sig .tc) (h5 : r ∉ hostOps2_W) (h6 : ∀ w : Fin cfg2.W, Pipeline.arrRef spec2 w = r → (cfg2.win w).isOut = false)
    (h7 : ∀ w : Fin cfg3.W, Pipeline.arrRef spec3 w = r → (cfg3.win w).isOut = false) :
    W7 m ρ c (Proc.devRef .tc r) = W4 m ρ c (Proc.devRef .tc r) :=
  (W7_of m ρ c r h7).trans ((W6_of m ρ c r h6).trans (W5_of m ρ c r h5))

theorem V7_lw (o : Fin 192) : @Eq EReal (W7 m ρ c (Proc.devRef .tc main_v3) (ix2 o 0)) (m ((c : Thread nD τ).loc main_arg9) (ix1 o)) :=
  (congrFun ((W7_pass m ρ c main_v3 (by decide +kernel) (by decide +kernel) (by decide +kernel)).trans
    (W4_pass m ρ c main_v3 (by decide +kernel) (by decide +kernel) (by decide +kernel))) (ix2 o 0)).trans (host0_v3 (W0 m ρ c) o)

theorem V7_lb (o : Fin 192) : @Eq EReal (W7 m ρ c (Proc.devRef .tc main_v4) (ix2 o 0)) (m ((c : Thread nD τ).loc main_arg10) (ix1 o)) :=
  (congrFun ((W7_pass m ρ c main_v4 (by decide +kernel) (by decide +kernel) (by decide +kernel)).trans
    (W4_pass m ρ c main_v4 (by decide +kernel) (by decide +kernel) (by decide +kernel))) (ix2 o 0)).trans (host0_v4 (W0 m ρ c) o)

variable (D : Data) (H : Held m c D)
include H

/-- What the global kernel reads. -/
theorem V3_avg (b : Fin 2) (o : Fin 192) (n : Fin 3136) : @Eq EReal (W3 m ρ c (Proc.devRef .tc main_v5) (ix3 b o n)) (D.avg b o n) :=
  (congrFun ((W3_of m ρ c main_v5 (by decide +kernel)).trans (W2_arr m ρ c 1)) (ix3 b o n)).trans
    (arr0_eq (V1 m ρ) c D (fun b o i j => (congrFun (W1_args m ρ c main_arg0 (by decide)) (ix4 b o i j)).trans (H.x b o i j)) b o n)

theorem V3_sw (r : Fin 16) (o : Fin 192) : @Eq EReal (W3 m ρ c (Proc.devRef .tc main_v6) (ix3 0 r o)) (D.sw r o) :=
  (host1_v6 (W2 m ρ c) r o).trans ((congrFun (W2_args m ρ c main_arg1 (by decide)) (ix2 r o)).trans (H.sw r o))

theorem V3_sb (r : Fin 16) : @Eq EReal (W3 m ρ c (Proc.devRef .tc main_v7) (ix3 0 r 0)) (D.sb r) :=
  (host1_v7 (W2 m ρ c) r).trans ((congrFun (W2_of m ρ c main_v0 (by decide +kernel)) (ix2 0 r)).trans ((host0_v0 (W0 m ρ c) r).trans (H.sb r)))

theorem V3_qw (d : Fin 48) (o : Fin 192) : @Eq EReal (W3 m ρ c (Proc.devRef .tc main_v8) (ix3 0 d o)) (D.qw d o) :=
  (host1_v8 (W2 m ρ c) d o).trans ((congrFun (W2_args m ρ c main_arg3 (by decide)) (ix2 d o)).trans (H.qw d o))

theorem V3_kw (d : Fin 48) (o : Fin 192) : @Eq EReal (W3 m ρ c (Proc.devRef .tc main_v9) (ix3 0 d o)) (D.kw d o) :=
  (host1_v9 (W2 m ρ c) d o).trans ((congrFun (W2_args m ρ c main_arg4 (by decide)) (ix2 d o)).trans (H.kw d o))

theorem V3_vw (d o : Fin 192) : @Eq EReal (W3 m ρ c (Proc.devRef .tc main_v10) (ix3 0 d o)) (D.vw d o) :=
  (host1_v10 (W2 m ρ c) d o).trans ((congrFun (W2_args m ρ c main_arg5 (by decide)) (ix2 d o)).trans (H.vw d o))

/-- What the attention reads: the gate, the projection and its offset, and the global kernel's arrays. -/
theorem V5_a : @Eq EReal (Ideal.logistic (W5 m ρ c (Proc.devRef .tc main_v12) (ix3 0 0 0))) D.a :=
  (congrArg Ideal.logistic ((host2_v12 (W4 m ρ c)).trans ((congrFun (W4_pass m ρ c main_v2 (by decide +kernel) (by decide +kernel) (by decide +kernel)) (ix2 0 0)).trans
    (host0_v2 (W0 m ρ c))))).trans H.a

theorem V5_fw (d o : Fin 192) : @Eq EReal (W5 m ρ c (Proc.devRef .tc main_v13) (ix3 0 d o)) (D.fw d o) :=
  (host2_v13 (W4 m ρ c) d o).trans ((congrFun (W4_args m ρ c main_arg6 (by decide)) (ix2 d o)).trans (H.fw d o))

theorem V5_fb (o : Fin 192) : @Eq EReal (W5 m ρ c (Proc.devRef .tc main_v14) (ix3 0 0 o)) (D.fb o) :=
  (host2_v14 (W4 m ρ c) o).trans ((congrFun (W4_pass m ρ c main_v1 (by decide +kernel) (by decide +kernel) (by decide +kernel)) (ix2 0 o)).trans
    ((host0_v1 (W0 m ρ c) o).trans (H.fb o)))

theorem V6_fused (b : Fin 2) (n : Fin 3136) (o : Fin 192) : @Eq EReal (W6 m ρ c (Proc.devRef .tc main_v15) (ix3 b n o)) (D.fused b o n) := by
  have k0 := V3_avg m ρ c D H
  have k1 := V3_sw m ρ c D H
  have k2 := V3_sb m ρ c D H
  have k3 := V3_qw m ρ c D H
  have k4 := V3_kw m ρ c D H
  have k5 := V3_vw m ρ c D H
  refine (congrFun (W6_arr m ρ c 10) (ix3 b n o)).trans (arr2_eq (V5 m ρ) c D ?_ ?_ ?_ ?_ ?_ ?_ ?_ (V5_a m ρ c D H) (V5_fw m ρ c D H) (V5_fb m ρ c D H) b n o)
  · exact fun b n d => (congrFun ((W5_of m ρ c main_v11_0 (by decide +kernel)).trans (W4_arr m ρ c 6)) (ix3 b n d)).trans (arr1_6_eq (V3 m ρ) c D k0 k1 k2 k3 k4 k5 b n d)
  · exact fun b n d => (congrFun ((W5_of m ρ c main_v11_4 (by decide +kernel)).trans (W4_arr m ρ c 10)) (ix3 b n d)).trans (arr1_10_eq (V3 m ρ) c D k0 k1 k2 k3 k4 k5 b n d)
  · intro b i r d
    refine (congrFun ((W5_of m ρ c main_v11_5 (by decide +kernel)).trans (W4_arr m ρ c 11)) (ix3 b ⟨i.val * 256 + r.val, by omega⟩ d)).trans
      ((arr1_11_eq (V3 m ρ) c D k0 k1 k2 k3 k4 k5 b ⟨i.val * 256 + r.val, by omega⟩ d).trans ?_)
    have e1 : (⟨(i.val * 256 + r.val) / 256, by omega⟩ : Fin 16) = i := Fin.ext (by simp only; omega)
    have e2 : (⟨(i.val * 256 + r.val) % 256, Nat.mod_lt _ (by decide)⟩ : Fin 256) = r := Fin.ext (by simp only; omega)
    rw [e1, e2]
  · exact fun b n d => (congrFun ((W5_of m ρ c main_v11_6 (by decide +kernel)).trans (W4_arr m ρ c 12)) (ix3 b n d)).trans (arr1_12_eq (V3 m ρ) c D k0 k1 k2 k3 k4 k5 b n d)
  · exact fun b n d => (congrFun ((W5_of m ρ c main_v11_2 (by decide +kernel)).trans (W4_arr m ρ c 8)) (ix3 b n d)).trans (arr1_8_eq (V3 m ρ) c D k0 k1 k2 k3 k4 k5 b n d)
  · exact fun b n d => (congrFun ((W5_of m ρ c main_v11_3 (by decide +kernel)).trans (W4_arr m ρ c 9)) (ix3 b n d)).trans (arr1_9_eq (V3 m ρ) c D k0 k1 k2 k3 k4 k5 b n d)
  · exact fun b n d => (congrFun ((W5_of m ρ c main_v11_1 (by decide +kernel)).trans (W4_arr m ρ c 7)) (ix3 b n d)).trans (arr1_7_eq (V3 m ρ) c D k0 k1 k2 k3 k4 k5 b n d)

/-- The array that the program leaves as its result. -/
theorem W8_eq (b : Fin 2) (o : Fin 192) (i j : Fin 224) :
    @Eq EReal (W8 m ρ c (Proc.devRef .tc main_v17) (ix4 b o i j))
      (D.out b (fun o => m ((c : Thread nD τ).loc main_arg9) (ix1 o)) (fun o => m ((c : Thread nD τ).loc main_arg10) (ix1 o)) o i j) := by
  have hx : ∀ b o i j, @Eq EReal (V7 m ρ c main_arg0 (ix4 b o i j)) (D.x b o i j) := fun b o i j =>
    (congrFun (W7_args m ρ c main_arg0 (by decide)) (ix4 b o i j)).trans (H.x b o i j)
  have hy : ∀ b h (o : Fin 192) (w : Fin 56), @Eq EReal (V7 m ρ c main_v16 (ix3 b h ⟨o.val * 56 + w.val, by omega⟩)) (D.fused b o (pos h w)) := fun b h o w =>
    (congrFun (W7_arr m ρ c 1) (ix3 b h ⟨o.val * 56 + w.val, by omega⟩)).trans (arr3_eq (V6 m ρ) c D (V6_fused m ρ c D H) b h o w)
  refine (congrFun (W8_arr m ρ c 4) (ix4 b o i j)).trans ((arr4_eq (V7 m ρ) c D hx hy b o i j).trans ?_)
  exact congrArg₂ (fun l k : Fin 192 → EReal => D.out b l k o i j) (funext fun o => V7_lw m ρ c o) (funext fun o => V7_lb m ρ c o)

end

end Cert.KernelIdeal.Gen

end
-- ==== Proof.Value.Both.lean ====
/- The two programs' results, equal: both are the data's `out`. -/
module

public import proofs.«01_k».proof.Defs
public import proofs.«01_k».proof.Proof.Value.Pre
public import proofs.«01_k».proof.Proof.Value.RefOut
public import proofs.«01_k».proof.Proof.Value.Chain

@[expose] public section

noncomputable section

open Idealize.ShloMosaic Idealize.SL.Sem

namespace Cert.Value

/-- The mixing weight is a real number, whatever its argument. -/
theorem logistic_real (v : EReal) : ∃ r : ℝ, Ideal.logistic v = r := by
  induction v using EReal.rec with
  | bot => exact ⟨0, Ideal.logistic_bot⟩
  | coe r => exact ⟨_, Ideal.logistic_coe r⟩
  | top => exact ⟨1, Ideal.logistic_top⟩

/-- What the precondition gives: the data that a memory holds. -/
theorem held (m : (ℓ : Loc KernelIdeal.nD KernelIdeal.τ KernelIdeal.sig) → Buf (Elt Ideal) ℓ) (h : Pre_KernelIdeal_finite m) (c : Dev KernelIdeal.nD) :
    ∃ D : Data, KernelIdeal.Gen.Held m c D := by
  obtain ⟨h0, h1, h2, h3, h4, h5, h6, h7⟩ := Pre_finite.reals _ _ _ _ _ _ _ _ _ _ _ (h c)
  choose x hx using h0
  choose sw hsw using h1
  choose sb hsb using h2
  choose qw hqw using h3
  choose kw hkw using h4
  choose vw hvw using h5
  choose fw hfw using h6
  choose fb hfb using h7
  obtain ⟨a, ha⟩ := logistic_real (m ((c.tc : Thread KernelIdeal.nD KernelIdeal.τ).loc KernelIdeal.main_arg8) ix0)
  exact ⟨⟨fun b o i j => x (ix4 b o i j), fun r o => sw (ix2 r o), fun r => sb (ix1 r), fun r o => qw (ix2 r o), fun r o => kw (ix2 r o),
      fun r o => vw (ix2 r o), fun r o => fw (ix2 r o), fun o => fb (ix1 o), a⟩,
    ⟨fun _ _ _ _ => hx _, fun _ _ => hsw _, fun _ => hsb _, fun _ _ => hqw _, fun _ _ => hkw _, fun _ _ => hvw _, fun _ _ => hfw _, fun _ => hfb _, ha⟩⟩

theorem algebraic : algebraic_KernelIdeal_ReferenceIdeal_pre_finite := by
  intro m g m' g' hpre hargs
  refine ⟨fun c => KernelIdeal.Gen.W8 m g c (Proc.devRef .tc KernelIdeal.main_v17), ?_, ?_⟩
  · refine (θ_run _ _ _).mono (fun r h c => ?_) (KernelIdeal.Gen.run_all m g)
    have key : ∀ a ∈ KernelIdeal.Gen.argRefs, r.2.mem ((c.tc : Thread KernelIdeal.nD KernelIdeal.τ).loc a) = m ((c.tc : Thread KernelIdeal.nD KernelIdeal.τ).loc a) := fun a ha =>
      (h.1 c a ((by decide : ∀ a ∈ KernelIdeal.Gen.argRefs, ¬ (Proc.devRef .tc a : DevRef KernelIdeal.τ KernelIdeal.sig).isScoped) a ha)).trans
        (KernelIdeal.Gen.W8_args m g c a ha)
    exact ⟨h.1 c KernelIdeal.main_v17 (by decide), key _ (by decide), key _ (by decide), key _ (by decide), key _ (by decide), key _ (by decide),
      key _ (by decide), key _ (by decide), key _ (by decide), key _ (by decide), key _ (by decide), key _ (by decide)⟩
  · refine (θ_run _ _ _).mono (fun r h c => ⟨(h c).1.trans ?_, (h c).2⟩) (ReferenceIdeal.Value.run m' g')
    obtain ⟨D, H⟩ := held m hpre c
    obtain ⟨e0, e1, e2, e3, e4, e5, e6, e7, e8, e9, e10⟩ := hargs c
    have H' : ReferenceIdeal.Value.Holds (StableHlo.launchContents m' c) D :=
      ⟨fun b o i j => (congrFun e0 (ix4 b o i j)).trans (H.x b o i j), fun r o => (congrFun e1 (ix2 r o)).trans (H.sw r o),
        fun r => (congrFun e2 (ix1 r)).trans (H.sb r), fun r o => (congrFun e3 (ix2 r o)).trans (H.qw r o),
        fun r o => (congrFun e4 (ix2 r o)).trans (H.kw r o), fun r o => (congrFun e5 (ix2 r o)).trans (H.vw r o),
        fun r o => (congrFun e6 (ix2 r o)).trans (H.fw r o), fun o => (congrFun e7 (ix1 o)).trans (H.fb o),
        (congrArg Ideal.logistic (congrFun e8 ix0)).trans H.a⟩
    have w : (fun o : Fin 192 => (StableHlo.launchContents m' c (Proc.devRef .tc ReferenceIdeal.main_arg9) (ix1 o) : EReal))
        = fun o => m ((c.tc : Thread KernelIdeal.nD KernelIdeal.τ).loc KernelIdeal.main_arg9) (ix1 o) := funext fun o => congrFun e9 (ix1 o)
    have b : (fun o : Fin 192 => (StableHlo.launchContents m' c (Proc.devRef .tc ReferenceIdeal.main_arg10) (ix1 o) : EReal))
        = fun o => m ((c.tc : Thread KernelIdeal.nD KernelIdeal.τ).loc KernelIdeal.main_arg10) (ix1 o) := funext fun o => congrFun e10 (ix1 o)
    have all : ∀ i j k l, @Eq EReal (ReferenceIdeal.Value.result (StableHlo.launchContents m' c) (ix4 i j k l))
        (KernelIdeal.Gen.W8 m g c (Proc.devRef .tc KernelIdeal.main_v17) (ix4 i j k l)) := fun i j k l => by
      refine (ReferenceIdeal.Value.result_eq H' i j k l).trans (Eq.trans ?_ (KernelIdeal.Gen.W8_eq m g c D H i j k l).symm)
      rw [w, b]
    funext i
    exact (congrArg (ReferenceIdeal.Value.result (StableHlo.launchContents m' c)) (eq_ix4 i)).trans
      ((all _ _ _ _).trans (congrArg (KernelIdeal.Gen.W8 m g c (Proc.devRef .tc KernelIdeal.main_v17)) (eq_ix4 i)).symm)

end Cert.Value

end
-- ==== Proof.lean ====
/- The certificate of the whole kernel: the frames of the two programs and of the reference, what the idealization preserves, and that the
   idealized kernel and the reference have the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Both
public import Idealize.ShloMosaic.Adequacy
public import Idealize.ShloMosaic.Init

@[expose] public section

noncomputable section

namespace Cert.Proof

open Idealize.ShloMosaic Idealize.SL.Sem Cert.Kernel

/-- The reference runs, leaves its arguments, and has no semaphores to leave raised. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Cert.Pre_finite.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "mask" .f32 0xF149F2CA#32 ⊥ rfl,
  Cert.Value.algebraic⟩

end Cert.Proof

end
